-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v57_0)) (v1 : (c : Dev Cert.Kernel2Ideal.nD) → Buf (Elt Ideal) ((c.tc : Thread Cert.Kernel2Ideal.nD Cert.Kernel2Ideal.τ).loc Cert.Kernel2Ideal.main_v57_1)) (v2 : (c : Dev Cert.Kernel2Ideal.nD) → Buf (Elt Ideal) ((c.tc : Thread Cert.Kernel2Ideal.nD Cert.Kernel2Ideal.τ).loc Cert.Kernel2Ideal.main_v57_2)) (v3 : (c : Dev Cert.Kernel2Ideal.nD) → Buf (Elt Ideal) ((c.tc : Thread Cert.Kernel2Ideal.nD Cert.Kernel2Ideal.τ).loc Cert.Kernel2Ideal.main_v57_3)) (v4 : (c : Dev Cert.Kernel2Ideal.nD) → Buf (Elt Ideal) ((c.tc : Thread Cert.Kernel2Ideal.nD Cert.Kernel2Ideal.τ).loc Cert.Kernel2Ideal.main_v57_4)) (v5 : (c : Dev Cert.Kernel2Ideal.nD) → Buf (Elt Ideal) ((c.tc : Thread Cert.Kernel2Ideal.nD Cert.Kernel2Ideal.τ).loc Cert.Kernel2Ideal.main_v57_5)) (v6 : (c : Dev Cert.Kernel2Ideal.nD) → Buf (Elt Ideal) ((c.tc : Thread Cert.Kernel2Ideal.nD Cert.Kernel2Ideal.τ).loc Cert.Kernel2Ideal.main_v57_6)) (v7 : (c : Dev Cert.Kernel2Ideal.nD) → Buf (Elt Ideal) ((c.tc : Thread Cert.Kernel2Ideal.nD Cert.Kernel2Ideal.τ).loc Cert.Kernel2Ideal.main_v57_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v57_0) = v0 c
          ∧ r.2.mem ((c.tc : Thread Cert.Kernel2Ideal.nD Cert.Kernel2Ideal.τ).loc Cert.Kernel2Ideal.main_v57_1) = v1 c
          ∧ r.2.mem ((c.tc : Thread Cert.Kernel2Ideal.nD Cert.Kernel2Ideal.τ).loc Cert.Kernel2Ideal.main_v57_2) = v2 c
          ∧ r.2.mem ((c.tc : Thread Cert.Kernel2Ideal.nD Cert.Kernel2Ideal.τ).loc Cert.Kernel2Ideal.main_v57_3) = v3 c
          ∧ r.2.mem ((c.tc : Thread Cert.Kernel2Ideal.nD Cert.Kernel2Ideal.τ).loc Cert.Kernel2Ideal.main_v57_4) = v4 c
          ∧ r.2.mem ((c.tc : Thread Cert.Kernel2Ideal.nD Cert.Kernel2Ideal.τ).loc Cert.Kernel2Ideal.main_v57_5) = v5 c
          ∧ r.2.mem ((c.tc : Thread Cert.Kernel2Ideal.nD Cert.Kernel2Ideal.τ).loc Cert.Kernel2Ideal.main_v57_6) = v6 c
          ∧ r.2.mem ((c.tc : Thread Cert.Kernel2Ideal.nD Cert.Kernel2Ideal.τ).loc Cert.Kernel2Ideal.main_v57_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v150) = v0 c
          ∧ r.2.mem ((c.tc : Thread Cert.Reference2Ideal.nD Cert.Reference2Ideal.τ).loc Cert.Reference2Ideal.main_v151) = v1 c
          ∧ r.2.mem ((c.tc : Thread Cert.Reference2Ideal.nD Cert.Reference2Ideal.τ).loc Cert.Reference2Ideal.main_v152) = v2 c
          ∧ r.2.mem ((c.tc : Thread Cert.Reference2Ideal.nD Cert.Reference2Ideal.τ).loc Cert.Reference2Ideal.main_v153) = v3 c
          ∧ r.2.mem ((c.tc : Thread Cert.Reference2Ideal.nD Cert.Reference2Ideal.τ).loc Cert.Reference2Ideal.main_v154) = v4 c
          ∧ r.2.mem ((c.tc : Thread Cert.Reference2Ideal.nD Cert.Reference2Ideal.τ).loc Cert.Reference2Ideal.main_v155) = v5 c
          ∧ r.2.mem ((c.tc : Thread Cert.Reference2Ideal.nD Cert.Reference2Ideal.τ).loc Cert.Reference2Ideal.main_v156) = v6 c
          ∧ r.2.mem ((c.tc : Thread Cert.Reference2Ideal.nD Cert.Reference2Ideal.τ).loc Cert.Reference2Ideal.main_v157) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v20) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_in_range.lean ====
abbrev S240 : Shape := ⟨1, ![240]⟩
abbrev S1 : Shape := ⟨1, ![1]⟩
abbrev S61440x1152 : Shape := ⟨2, ![61440, 1152]⟩
abbrev S32x1024x256 : Shape := ⟨3, ![32, 1024, 256]⟩
abbrev S32x256x1024 : Shape := ⟨3, ![32, 256, 1024]⟩
abbrev S_ : Shape := ⟨0, ![]⟩

class Facts : Prop where
  bcast_S_S240 : S_.BroadcastsInDim S240 (![] : Fin 0 → Fin S240.rank)
  reducesTo_S240_S_d0 : S240.ReducesTo [0] S_
  h_S_ : 0 < S_.numel
  shapeCasts_S1_S_ : S1.ShapeCasts S_

variable [Facts]

def fn_part1 {F : FTy → Type} [FloatOps F] (main_v16 : IVec S_ 1) (main_v17 : IVec S_ 32) : IVec S_ 1 :=
  let main_c_5 : IVec S_ 32 := constantI S_ 32 240#32
  let main_v18 : IVec S_ 1 := cmpi .sle main_v17 main_c_5
  let main_v19 : IVec S_ 1 := andi main_v16 main_v18
  main_v19

def fn {F : FTy → Type} [FloatOps F] (main_arg0 : IVec S240 32) (main_arg1 : IVec S240 32) (main_arg2 : IVec S1 32) (main_arg3 : FVec F S61440x1152 .f32) (main_arg4 : FVec F S32x1024x256 .bf16) (main_arg5 : FVec F S32x1024x256 .bf16) (main_arg6 : FVec F S32x256x1024 .bf16) : IVec S_ 1 :=
  let main_c : IVec S_ 32 := constantI S_ 32 0#32
  let main_v0 : IVec S240 32 := broadcastInDim S240 ![] bcast_S_S240 main_c
  let main_v1 : IVec S240 1 := cmpi .sge main_arg0 main_v0
  let main_c_0 : IVec S_ 32 := constantI S_ 32 32#32
  let main_v2 : IVec S240 32 := broadcastInDim S240 ![] bcast_S_S240 main_c_0
  let main_v3 : IVec S240 1 := cmpi .slt main_arg0 main_v2
  let main_v4 : IVec S240 1 := andi main_v1 main_v3
  let main_c_1 : IVec S_ 32 := constantI S_ 32 0#32
  let main_v5 : IVec S240 32 := broadcastInDim S240 ![] bcast_S_S240 main_c_1
  let main_v6 : IVec S240 1 := cmpi .sge main_arg1 main_v5
  let main_v7 : IVec S240 1 := andi main_v4 main_v6
  let main_c_2 : IVec S_ 32 := constantI S_ 32 32#32
  let main_v8 : IVec S240 32 := broadcastInDim S240 ![] bcast_S_S240 main_c_2
  let main_v9 : IVec S240 1 := cmpi .slt main_arg1 main_v8
  let main_v10 : IVec S240 1 := andi main_v7 main_v9
  let main_v11 : IVec S240 1 := cmpi .ne main_arg0 main_arg1
  let main_v12 : IVec S240 1 := andi main_v10 main_v11
  let main_c_3 : IVec S_ 1 := constantI S_ 1 1#1
  let main_v13 : IVec S_ 1 := (fun x v => Host.reduce IntOp.andi x v reducesTo_S240_S_d0 h_S_) main_v12 main_c_3
  let main_v14 : IVec S_ 32 := shapeCast S_ main_arg2 shapeCasts_S1_S_
  let main_c_4 : IVec S_ 32 := constantI S_ 32 1#32
  let main_v15 : IVec S_ 1 := cmpi .sge main_v14 main_c_4
  let main_v16 : IVec S_ 1 := andi main_v13 main_v15
  let main_v17 : IVec S_ 32 := shapeCast S_ main_arg2 shapeCasts_S1_S_
  fn_part1 (F := F) main_v16 main_v17
-- ==== Kernel.lean ====
abbrev S240 : Shape := ⟨1, ![240]⟩
abbrev S1 : Shape := ⟨1, ![1]⟩
abbrev S61440x1152 : Shape := ⟨2, ![61440, 1152]⟩
abbrev S32x1024x256 : Shape := ⟨3, ![32, 1024, 256]⟩
abbrev S32x256x1024 : Shape := ⟨3, ![32, 256, 1024]⟩
abbrev S61440x1024 : Shape := ⟨2, ![61440, 1024]⟩
abbrev S256x1152 : Shape := ⟨2, ![256, 1152]⟩
abbrev S1x1024x256 : Shape := ⟨3, ![1, 1024, 256]⟩
abbrev S1x256x1024 : Shape := ⟨3, ![1, 256, 1024]⟩
abbrev S256x1024 : Shape := ⟨2, ![256, 1024]⟩
abbrev S1024x256 : Shape := ⟨2, ![1024, 256]⟩
abbrev S256x256 : Shape := ⟨2, ![256, 256]⟩
abbrev S256x1 : Shape := ⟨2, ![256, 1]⟩

abbrev nBuf : Space → Nat
  | .hbm => 5
  | .vmem => 16
  | .smem => 3
  | _ => 0

abbrev bufTy : (tb : Table) → Fin (tcTables nBuf tb) → BufTy
  | .hbm, ⟨0, _⟩ => ⟨S61440x1152, .f32⟩
  | .hbm, ⟨1, _⟩ => ⟨S32x1024x256, .bf16⟩
  | .hbm, ⟨2, _⟩ => ⟨S32x1024x256, .bf16⟩
  | .hbm, ⟨3, _⟩ => ⟨S32x256x1024, .bf16⟩
  | .hbm, ⟨4, _⟩ => ⟨S61440x1024, .f32⟩
  | .local _ .vmem, ⟨0, _⟩ => ⟨S256x1152, .f32⟩
  | .local _ .vmem, ⟨1, _⟩ => ⟨S256x1152, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x256x1024, .bf16⟩
  | .local _ .vmem, ⟨13, _⟩ => ⟨S1x256x1024, .bf16⟩
  | .local _ .vmem, ⟨14, _⟩ => ⟨S256x1024, .f32⟩
  | .local _ .vmem, ⟨15, _⟩ => ⟨S256x1024, .f32⟩
  | .local _ .smem, ⟨0, _⟩ => ⟨S240, .i32⟩
  | .local _ .smem, ⟨1, _⟩ => ⟨S240, .i32⟩
  | .local _ .smem, ⟨2, _⟩ => ⟨S1, .i32⟩
  | _, _ => ⟨S61440x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![240], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S240 : Shape := ⟨1, ![240]⟩
abbrev S1 : Shape := ⟨1, ![1]⟩
abbrev S61440x1152 : Shape := ⟨2, ![61440, 1152]⟩
abbrev S32x1024x256 : Shape := ⟨3, ![32, 1024, 256]⟩
abbrev S32x256x1024 : Shape := ⟨3, ![32, 256, 1024]⟩
abbrev S61440x1024 : Shape := ⟨2, ![61440, 1024]⟩
abbrev S61440x1 : Shape := ⟨2, ![61440, 1]⟩
abbrev S240x1 : Shape := ⟨2, ![240, 1]⟩
abbrev S240x256 : Shape := ⟨2, ![240, 256]⟩
abbrev S61440 : Shape := ⟨1, ![61440]⟩
abbrev S_ : Shape := ⟨0, ![]⟩
abbrev S1x32 : Shape := ⟨2, ![1, 32]⟩
abbrev S61440x32 : Shape := ⟨2, ![61440, 32]⟩
abbrev S61440x32x256 : Shape := ⟨3, ![61440, 32, 256]⟩
abbrev S61440x32x1 : Shape := ⟨3, ![61440, 32, 1]⟩

abbrev nBuf : Space → Nat
  | .hbm => 65
  | .vmem => 0
  | .smem => 0
  | _ => 0

abbrev bufTy : (tb : Table) → Fin (tcTables nBuf tb) → BufTy
  | .hbm, ⟨0, _⟩ => ⟨S240, .i32⟩
  | .hbm, ⟨1, _⟩ => ⟨S240, .i32⟩
  | .hbm, ⟨2, _⟩ => ⟨S1, .i32⟩
  | .hbm, ⟨3, _⟩ => ⟨S61440x1152, .f32⟩
  | .hbm, ⟨4, _⟩ => ⟨S32x1024x256, .bf16⟩
  | .hbm, ⟨5, _⟩ => ⟨S32x1024x256, .bf16⟩
  | .hbm, ⟨6, _⟩ => ⟨S32x256x1024, .bf16⟩
  | .hbm, ⟨7, _⟩ => ⟨S61440x1024, .f32⟩
  | .hbm, ⟨8, _⟩ => ⟨S61440x1, .f32⟩
  | .hbm, ⟨9, _⟩ => ⟨S61440x1, .f32⟩
  | .hbm, ⟨10, _⟩ => ⟨S240, .i32⟩
  | .hbm, ⟨11, _⟩ => ⟨S240x1, .i32⟩
  | .hbm, ⟨12, _⟩ => ⟨S240x256, .i32⟩
  | .hbm, ⟨13, _⟩ => ⟨S61440, .i32⟩
  | .hbm, ⟨14, _⟩ => ⟨S_, .i32⟩
  | .hbm, ⟨15, _⟩ => ⟨S61440, .i32⟩
  | .hbm, ⟨16, _⟩ => ⟨S61440, .i1⟩
  | .hbm, ⟨17, _⟩ => ⟨S240x1, .i32⟩
  | .hbm, ⟨18, _⟩ => ⟨S240x256, .i32⟩
  | .hbm, ⟨19, _⟩ => ⟨S61440, .i32⟩
  | .hbm, ⟨20, _⟩ => ⟨S61440x1, .i32⟩
  | .hbm, ⟨21, _⟩ => ⟨S1x32, .i32⟩
  | .hbm, ⟨22, _⟩ => ⟨S61440x32, .i32⟩
  | .hbm, ⟨23, _⟩ => ⟨S61440x32, .i32⟩
  | .hbm, ⟨24, _⟩ => ⟨S61440x32, .i1⟩
  | .hbm, ⟨25, _⟩ => ⟨S61440x32, .f32⟩
  | .hbm, ⟨26, _⟩ => ⟨S61440x32, .f32⟩
  | .hbm, ⟨27, _⟩ => ⟨S61440x32, .f32⟩
  | .hbm, ⟨28, _⟩ => ⟨S240x1, .i32⟩
  | .hbm, ⟨29, _⟩ => ⟨S240x256, .i32⟩
  | .hbm, ⟨30, _⟩ => ⟨S61440, .i32⟩
  | .hbm, ⟨31, _⟩ => ⟨S61440x1, .i32⟩
  | .hbm, ⟨32, _⟩ => ⟨S1x32, .i32⟩
  | .hbm, ⟨33, _⟩ => ⟨S61440x32, .i32⟩
  | .hbm, ⟨34, _⟩ => ⟨S61440x32, .i32⟩
  | .hbm, ⟨35, _⟩ => ⟨S61440x32, .i1⟩
  | .hbm, ⟨36, _⟩ => ⟨S61440x32, .f32⟩
  | .hbm, ⟨37, _⟩ => ⟨S61440x32, .f32⟩
  | .hbm, ⟨38, _⟩ => ⟨S61440x32, .f32⟩
  | .hbm, ⟨39, _⟩ => ⟨S61440x32, .f32⟩
  | .hbm, ⟨40, _⟩ => ⟨S61440x1, .i1⟩
  | .hbm, ⟨41, _⟩ => ⟨S_, .f32⟩
  | .hbm, ⟨42, _⟩ => ⟨S_, .f32⟩
  | .hbm, ⟨43, _⟩ => ⟨S61440x32, .i1⟩
  | .hbm, ⟨44, _⟩ => ⟨S61440x32, .f32⟩
  | .hbm, ⟨45, _⟩ => ⟨S61440x32, .f32⟩
  | .hbm, ⟨46, _⟩ => ⟨S32x1024x256, .f32⟩
  | .hbm, ⟨47, _⟩ => ⟨S61440x32x256, .f32⟩
  | .hbm, ⟨48, _⟩ => ⟨S32x1024x256, .f32⟩
  | .hbm, ⟨49, _⟩ => ⟨S61440x32x256, .f32⟩
  | .hbm, ⟨50, _⟩ => ⟨S61440x32x256, .f32⟩
  | .hbm, ⟨51, _⟩ => ⟨S61440x32x256, .f32⟩
  | .hbm, ⟨52, _⟩ => ⟨S_, .f32⟩
  | .hbm, ⟨53, _⟩ => ⟨S61440x32x256, .f32⟩
  | .hbm, ⟨54, _⟩ => ⟨S61440x32x256, .f32⟩
  | .hbm, ⟨55, _⟩ => ⟨S_, .f32⟩
  | .hbm, ⟨56, _⟩ => ⟨S61440x32x256, .f32⟩
  | .hbm, ⟨57, _⟩ => ⟨S61440x32x256, .f32⟩
  | .hbm, ⟨58, _⟩ => ⟨S61440x32x256, .f32⟩
  | .hbm, ⟨59, _⟩ => ⟨S61440x32x256, .f32⟩
  | .hbm, ⟨60, _⟩ => ⟨S61440x32x1, .f32⟩
  | .hbm, ⟨61, _⟩ => ⟨S61440x32x256, .f32⟩
  | .hbm, ⟨62, _⟩ => ⟨S61440x32x256, .f32⟩
  | .hbm, ⟨63, _⟩ => ⟨S32x256x1024, .f32⟩
  | .hbm, ⟨64, _⟩ => ⟨S61440x1024, .f32⟩
  | _, _ => ⟨S240, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call3_v0 : Ref sig .tc := ⟨.hbm, 50, rfl⟩
abbrev main_call3_v1 : Ref sig .tc := ⟨.hbm, 51, rfl⟩
abbrev main_call3_cst : Ref sig .tc := ⟨.hbm, 52, rfl⟩
abbrev main_call3_v2 : Ref sig .tc := ⟨.hbm, 53, rfl⟩
abbrev main_call3_v3 : Ref sig .tc := ⟨.hbm, 54, rfl⟩
abbrev main_call3_cst_0 : Ref sig .tc := ⟨.hbm, 55, rfl⟩
abbrev main_call3_v4 : Ref sig .tc := ⟨.hbm, 56, rfl⟩
abbrev main_call3_v5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096 : Shape := ⟨2, ![8, 4096]⟩
abbrev S8x6144 : Shape := ⟨2, ![8, 6144]⟩
abbrev S1024 : Shape := ⟨1, ![1024]⟩
abbrev S1024x4000 : Shape := ⟨2, ![1024, 4000]⟩
abbrev S256 : Shape := ⟨1, ![256]⟩
abbrev S256x768 : Shape := ⟨2, ![256, 768]⟩
abbrev S128 : Shape := ⟨1, ![128]⟩
abbrev S128x512 : Shape := ⟨2, ![128, 512]⟩
abbrev S32 : Shape := ⟨1, ![32]⟩
abbrev S640x1 : Shape := ⟨2, ![640, 1]⟩
abbrev S32768x1024 : Shape := ⟨2, ![32768, 1024]⟩
abbrev S8x1x4096 : Shape := ⟨3, ![8, 1, 4096]⟩
abbrev S8x6x1024 : Shape := ⟨3, ![8, 6, 1024]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x1024 : Shape := ⟨2, ![1024, 1024]⟩
abbrev S_ : Shape := ⟨0, ![]⟩
abbrev S32x1 : Shape := ⟨2, ![32, 1]⟩
abbrev S1024x3584 : Shape := ⟨2, ![1024, 3584]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x4x64 : Shape := ⟨3, ![256, 4, 64]⟩
abbrev S256x4x128 : Shape := ⟨3, ![256, 4, 128]⟩
abbrev S256x1536 : Shape := ⟨2, ![256, 1536]⟩
abbrev S128x8x64 : Shape := ⟨3, ![128, 8, 64]⟩
abbrev S8x64x128 : Shape := ⟨3, ![8, 64, 128]⟩
abbrev S8x80x128 : Shape := ⟨3, ![8, 80, 128]⟩
abbrev S640x128 : Shape := ⟨2, ![640, 128]⟩
abbrev S1024x8x64 : Shape := ⟨3, ![1024, 8, 64]⟩
abbrev S8x64x1024 : Shape := ⟨3, ![8, 64, 1024]⟩
abbrev S8x80x1024 : Shape := ⟨3, ![8, 80, 1024]⟩
abbrev S640x1024 : Shape := ⟨2, ![640, 1024]⟩
abbrev S1x1024 : Shape := ⟨2, ![1, 1024]⟩
abbrev S1x256 : Shape := ⟨2, ![1, 256]⟩
abbrev S1x128 : Shape := ⟨2, ![1, 128]⟩
abbrev S128x1 : Shape := ⟨2, ![128, 1]⟩
abbrev S8x640x4096 : Shape := ⟨3, ![8, 640, 4096]⟩
abbrev S32768x512 : Shape := ⟨2, ![32768, 512]⟩
abbrev S512x1024 : Shape := ⟨2, ![512, 1024]⟩
abbrev S1x1x512 : Shape := ⟨3, ![1, 1, 512]⟩
abbrev S1x6x1024 : Shape := ⟨3, ![1, 6, 1024]⟩
abbrev S1x640x512 : Shape := ⟨3, ![1, 640, 512]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩
abbrev S512x256 : Shape := ⟨2, ![512, 256]⟩
abbrev S512x128 : Shape := ⟨2, ![512, 128]⟩
abbrev S1x512 : Shape := ⟨2, ![1, 512]⟩
abbrev S512x1536 : Shape := ⟨2, ![512, 1536]⟩
abbrev S640x512 : Shape := ⟨2, ![640, 512]⟩

abbrev nBuf : Space → Nat
  | .hbm => 90
  | .vmem => 33
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x6144, .f32⟩
  | .hbm, ⟨3, _⟩ => ⟨S1024, .f32⟩
  | .hbm, ⟨4, _⟩ => ⟨S1024x4000, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x512, .f32⟩
  | .hbm, ⟨9, _⟩ => ⟨S128x512, .f32⟩
  | .hbm, ⟨10, _⟩ => ⟨S32, .i32⟩
  | .hbm, ⟨11, _⟩ => ⟨S32, .i1⟩
  | .hbm, ⟨12, _⟩ => ⟨S32, .i1⟩
  | .hbm, ⟨13, _⟩ => ⟨S640x1, .f32⟩
  | .hbm, ⟨14, _⟩ => ⟨S128, .f32⟩
  | .hbm, ⟨15, _⟩ => ⟨S128, .f32⟩
  | .hbm, ⟨16, _⟩ => ⟨S32768x1024, .f32⟩
  | .hbm, ⟨17, _⟩ => ⟨S8x1x4096, .i32⟩
  | .hbm, ⟨18, _⟩ => ⟨S8x6x1024, .f32⟩
  | .hbm, ⟨19, _⟩ => ⟨S1024x256, .f32⟩
  | .hbm, ⟨20, _⟩ => ⟨S1024x128, .f32⟩
  | .hbm, ⟨21, _⟩ => ⟨S1024x32, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S1024x1024, .f32⟩
  | .hbm, ⟨26, _⟩ => ⟨S1024x1024, .f32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S32x1, .i32⟩
  | .hbm, ⟨32, _⟩ => ⟨S1024x32, .f32⟩
  | .hbm, ⟨33, _⟩ => ⟨S1024x128, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x3584, .f32⟩
  | .hbm, ⟨38, _⟩ => ⟨S256x8x96, .f32⟩
  | .hbm, ⟨39, _⟩ => ⟨S_, .f32⟩
  | .hbm, ⟨40, _⟩ => ⟨S256x8x96, .f32⟩
  | .hbm, ⟨41, _⟩ => ⟨S256x8x96, .f32⟩
  | .hbm, ⟨42, _⟩ => ⟨S256x8x64, .f32⟩
  | .hbm, ⟨43, _⟩ => ⟨S256x512, .f32⟩
  | .hbm, ⟨44, _⟩ => ⟨S256x8x32, .f32⟩
  | .hbm, ⟨45, _⟩ => ⟨S_, .f32⟩
  | .hbm, ⟨46, _⟩ => ⟨S256x4x64, .f32⟩
  | .hbm, ⟨47, _⟩ => ⟨S256x4x64, .f32⟩
  | .hbm, ⟨48, _⟩ => ⟨S256x4x128, .f32⟩
  | .hbm, ⟨49, _⟩ => ⟨S256x512, .f32⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S32x1, .i32⟩
  | .hbm, ⟨55, _⟩ => ⟨S256x8x32, .f32⟩
  | .hbm, ⟨56, _⟩ => ⟨S256x4x64, .f32⟩
  | .hbm, ⟨57, _⟩ => ⟨S256x4x128, .f32⟩
  | .hbm, ⟨58, _⟩ => ⟨S256x512, .f32⟩
  | .hbm, ⟨59, _⟩ => ⟨S256x1536, .f32⟩
  | .hbm, ⟨60, _⟩ => ⟨S1024x3584, .bf16⟩
  | .hbm, ⟨61, _⟩ => ⟨S256x1536, .bf16⟩
  | .hbm, ⟨62, _⟩ => ⟨S128x512, .bf16⟩
  | .hbm, ⟨63, _⟩ => ⟨S128x8x64, .f32⟩
  | .hbm, ⟨64, _⟩ => ⟨S8x64x128, .f32⟩
  | .hbm, ⟨65, _⟩ => ⟨S_, .i32⟩
  | .hbm, ⟨66, _⟩ => ⟨S_, .f32⟩
  | .hbm, ⟨67, _⟩ => ⟨S8x80x128, .f32⟩
  | .hbm, ⟨68, _⟩ => ⟨S640x128, .f32⟩
  | .hbm, ⟨69, _⟩ => ⟨S640x128, .bf16⟩
  | .hbm, ⟨70, _⟩ => ⟨S1024x8x64, .f32⟩
  | .hbm, ⟨71, _⟩ => ⟨S8x64x1024, .f32⟩
  | .hbm, ⟨72, _⟩ => ⟨S_, .i32⟩
  | .hbm, ⟨73, _⟩ => ⟨S_, .f32⟩
  | .hbm, ⟨74, _⟩ => ⟨S8x80x1024, .f32⟩
  | .hbm, ⟨75, _⟩ => ⟨S640x1024, .f32⟩
  | .hbm, ⟨76, _⟩ => ⟨S640x1024, .bf16⟩
  | .hbm, ⟨77, _⟩ => ⟨S1x1024, .f32⟩
  | .hbm, ⟨78, _⟩ => ⟨S1x256, .f32⟩
  | .hbm, ⟨79, _⟩ => ⟨S1x128, .f32⟩
  | .hbm, ⟨80, _⟩ => ⟨S128x1, .f32⟩
  | .hbm, ⟨81, _⟩ => ⟨S128x1, .f32⟩
  | .hbm, ⟨82, _⟩ => ⟨S32768x1024, .bf16⟩
  | .hbm, ⟨83, _⟩ => ⟨S32768x1024, .bf16⟩
  | .hbm, ⟨84, _⟩ => ⟨S8x640x4096, .bf16⟩
  | .hbm, ⟨85, _⟩ => ⟨S32768x512, .bf16⟩
  | .hbm, ⟨86, _⟩ => ⟨S32768x512, .bf16⟩
  | .hbm, ⟨87, _⟩ => ⟨S8x640x4096, .bf16⟩
  | .hbm, ⟨88, _⟩ => ⟨S32768x1024, .bf16⟩
  | .hbm, ⟨89, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1x512, .i32⟩
  | .local _ .vmem, ⟨3, _⟩ => ⟨S1x1x512, .i32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x3584, .bf16⟩
  | .local _ .vmem, ⟨8, _⟩ => ⟨S1x256, .f32⟩
  | .local _ .vmem, ⟨9, _⟩ => ⟨S256x1536, .bf16⟩
  | .local _ .vmem, ⟨10, _⟩ => ⟨S1x128, .f32⟩
  | .local _ .vmem, ⟨11, _⟩ => ⟨S128x512, .bf16⟩
  | .local _ .vmem, ⟨12, _⟩ => ⟨S640x128, .bf16⟩
  | .local _ .vmem, ⟨13, _⟩ => ⟨S640x1024, .bf16⟩
  | .local _ .vmem, ⟨14, _⟩ => ⟨S640x1, .f32⟩
  | .local _ .vmem, ⟨15, _⟩ => ⟨S128x1, .f32⟩
  | .local _ .vmem, ⟨16, _⟩ => ⟨S128x1, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1x640x512, .bf16⟩
  | .local _ .vmem, ⟨22, _⟩ => ⟨S1x640x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S1x640x512, .bf16⟩
  | .local _ .vmem, ⟨28, _⟩ => ⟨S1x640x512, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_cst : Ref sig .tc := ⟨.hbm, 13, rfl⟩
abbrev main_cst_2 : Ref sig .tc := ⟨.hbm, 14, rfl⟩
abbrev main_cst_3 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57_0 : Ref sig .tc := ⟨.hbm, 82, rfl⟩
abbrev main_v57_1 : Ref sig .tc := ⟨.hbm, 83, rfl⟩
abbrev main_v57_2 : Ref sig .tc := ⟨.hbm, 84, rfl⟩
abbrev main_v57_3 : Ref sig .tc := ⟨.hbm, 85, rfl⟩
abbrev main_v57_4 : Ref sig .tc := ⟨.hbm, 86, rfl⟩
abbrev main_v57_5 : Ref sig .tc := ⟨.hbm, 87, rfl⟩
abbrev main_v57_6 : Ref sig .tc := ⟨.hbm, 88, rfl⟩
abbrev main_v57_7 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S640x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S640x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S640x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x640x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x640x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S8x4096x1024 : Shape := ⟨3, ![8, 4096, 1024]⟩
abbrev S8x4096 : Shape := ⟨2, ![8, 4096]⟩
abbrev S8x6144 : Shape := ⟨2, ![8, 6144]⟩
abbrev S1024 : Shape := ⟨1, ![1024]⟩
abbrev S1024x4000 : Shape := ⟨2, ![1024, 4000]⟩
abbrev S256 : Shape := ⟨1, ![256]⟩
abbrev S256x768 : Shape := ⟨2, ![256, 768]⟩
abbrev S128 : Shape := ⟨1, ![128]⟩
abbrev S128x512 : Shape := ⟨2, ![128, 512]⟩
abbrev S16 : Shape := ⟨1, ![16]⟩
abbrev S8x1024 : Shape := ⟨2, ![8, 1024]⟩
abbrev S_ : Shape := ⟨0, ![]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x4000 : Shape := ⟨3, ![8, 4096, 4000]⟩
abbrev S8x4096x256 : Shape := ⟨3, ![8, 4096, 256]⟩
abbrev S8x4096x128 : Shape := ⟨3, ![8, 4096, 128]⟩
abbrev S8x4096x32 : Shape := ⟨3, ![8, 4096, 32]⟩
abbrev S8x4096x512 : Shape := ⟨3, ![8, 4096, 512]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S1x1x16 : Shape := ⟨3, ![1, 1, 16]⟩
abbrev S8x4096x16 : Shape := ⟨3, ![8, 4096, 16]⟩
abbrev S8x4096x1x16 : Shape := ⟨4, ![8, 4096, 1, 16]⟩
abbrev S8x4096x8x16 : Shape := ⟨4, ![8, 4096, 8, 16]⟩
abbrev S1x1x128 : Shape := ⟨3, ![1, 1, 128]⟩
abbrev S8x4096x1x32 : Shape := ⟨4, ![8, 4096, 1, 32]⟩
abbrev S32768x4x128 : Shape := ⟨3, ![32768, 4, 128]⟩
abbrev S32768x4x64 : Shape := ⟨3, ![32768, 4, 64]⟩
abbrev S32768x4x256 : Shape := ⟨3, ![32768, 4, 256]⟩
abbrev S32768x1024 : Shape := ⟨2, ![32768, 1024]⟩
abbrev S8x8x64x4096 : Shape := ⟨4, ![8, 8, 64, 4096]⟩
abbrev S8x8x1x4096 : Shape := ⟨4, ![8, 8, 1, 4096]⟩
abbrev S8x8x15x4096 : Shape := ⟨4, ![8, 8, 15, 4096]⟩
abbrev S8x8x80x4096 : Shape := ⟨4, ![8, 8, 80, 4096]⟩
abbrev S8x640x4096 : Shape := ⟨3, ![8, 640, 4096]⟩
abbrev S32768x512 : Shape := ⟨2, ![32768, 512]⟩

abbrev nBuf : Space → Nat
  | .hbm => 193
  | .vmem => 0
  | .smem => 0
  | _ => 0

abbrev hbmTy0_0 (i : Nat) : BufTy := match i % 128 with
  | 0 => ⟨S8x4096x1024, .f32⟩
  | 1 => ⟨S8x4096, .i32⟩
  | 2 => ⟨S8x6144, .f32⟩
  | 3 => ⟨S1024, .f32⟩
  | 4 => ⟨S1024x4000, .f32⟩
  | 5 => ⟨S256, .f32⟩
  | 6 => ⟨S256x768, .f32⟩
  | 7 => ⟨S128, .f32⟩
  | 8 => ⟨S128x512, .f32⟩
  | 9 => ⟨S128x512, .f32⟩
  | 10 => ⟨S16, .f32⟩
  | 11 => ⟨S16, .f32⟩
  | 12 => ⟨S8x1024, .f32⟩
  | 13 => ⟨S8x1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x1x1024, .f32⟩
  | 31 => ⟨S_, .f32⟩
  | 32 => ⟨S8x1x1024, .f32⟩
  | 33 => ⟨S8x1x1024, .f32⟩
  | 34 => ⟨S8x4096x1024, .f32⟩
  | 35 => ⟨S8x4096x1024, .f32⟩
  | 36 => ⟨S8x1x1024, .f32⟩
  | 37 => ⟨S8x4096x1024, .f32⟩
  | 38 => ⟨S8x4096x1024, .f32⟩
  | 39 => ⟨S8x4096x4000, .f32⟩
  | 40 => ⟨S8x4096x256, .f32⟩
  | 41 => ⟨S8x4096x128, .f32⟩
  | 42 => ⟨S8x4096x32, .f32⟩
  | 43 => ⟨S8x4096x512, .f32⟩
  | 44 => ⟨S8x4096x512, .f32⟩
  | 45 => ⟨S8x4096x512, .f32⟩
  | 46 => ⟨S8x4096x1024, .f32⟩
  | 47 => ⟨S8x4096x1024, .f32⟩
  | 48 => ⟨S8x4096x256, .f32⟩
  | 49 => ⟨S_, .f32⟩
  | 50 => ⟨S8x4096, .f32⟩
  | 51 => ⟨S8x4096x1, .f32⟩
  | 52 => ⟨S_, .f32⟩
  | 53 => ⟨S8x4096x1, .f32⟩
  | 54 => ⟨S8x4096x1, .f32⟩
  | 55 => ⟨S_, .f32⟩
  | 56 => ⟨S8x4096x1, .f32⟩
  | 57 => ⟨S8x4096x1, .f32⟩
  | 58 => ⟨S8x4096x1, .f32⟩
  | 59 => ⟨S8x4096x256, .f32⟩
  | 60 => ⟨S8x4096x256, .f32⟩
  | 61 => ⟨S1x1x256, .f32⟩
  | 62 => ⟨S8x4096x256, .f32⟩
  | 63 => ⟨S8x4096x256, .f32⟩
  | 64 => ⟨S8x4096x768, .f32⟩
  | 65 => ⟨S8x4096x8x96, .f32⟩
  | 66 => ⟨S8x4096x8x64, .f32⟩
  | 67 => ⟨S8x4096x8x32, .f32⟩
  | 68 => ⟨S8x4096, .f32⟩
  | 69 => ⟨S8x4096x1, .f32⟩
  | 70 => ⟨S1x1x16, .f32⟩
  | 71 => ⟨S8x4096x16, .f32⟩
  | 72 => ⟨S8x4096x16, .f32⟩
  | 73 => ⟨S8x4096x16, .f32⟩
  | 74 => ⟨S8x4096x1x16, .f32⟩
  | 75 => ⟨S8x4096x1x16, .f32⟩
  | 76 => ⟨S8x4096x1x16, .f32⟩
  | 77 => ⟨S8x4096x8x16, .f32⟩
  | 78 => ⟨S8x4096x8x16, .f32⟩
  | 79 => ⟨S8x4096x8x16, .f32⟩
  | 80 => ⟨S8x4096x8x16, .f32⟩
  | 81 => ⟨S8x4096x8x16, .f32⟩
  | 82 => ⟨S8x4096x8x16, .f32⟩
  | 83 => ⟨S8x4096x8x16, .f32⟩
  | 84 => ⟨S8x4096x8x16, .f32⟩
  | 85 => ⟨S8x4096x8x16, .f32⟩
  | 86 => ⟨S8x4096x8x16, .f32⟩
  | 87 => ⟨S8x4096x8x16, .f32⟩
  | 88 => ⟨S8x4096x8x16, .f32⟩
  | 89 => ⟨S8x4096x8x32, .f32⟩
  | 90 => ⟨S8x4096x128, .f32⟩
  | 91 => ⟨S_, .f32⟩
  | 92 => ⟨S8x4096, .f32⟩
  | 93 => ⟨S8x4096x1, .f32⟩
  | 94 => ⟨S_, .f32⟩
  | 95 => ⟨S8x4096x1, .f32⟩
  | 96 => ⟨S8x4096x1, .f32⟩
  | 97 => ⟨S_, .f32⟩
  | 98 => ⟨S8x4096x1, .f32⟩
  | 99 => ⟨S8x4096x1, .f32⟩
  | 100 => ⟨S8x4096x1, .f32⟩
  | 101 => ⟨S8x4096x128, .f32⟩
  | 102 => ⟨S8x4096x128, .f32⟩
  | 103 => ⟨S1x1x128, .f32⟩
  | 104 => ⟨S8x4096x128, .f32⟩
  | 105 => ⟨S8x4096x128, .f32⟩
  | 106 => ⟨S8x4096x512, .f32⟩
  | 107 => ⟨S8x4096x8x64, .f32⟩
  | 108 => ⟨S8x4096x512, .f32⟩
  | 109 => ⟨S8x4096x8x64, .f32⟩
  | 110 => ⟨S8x4096, .f32⟩
  | 111 => ⟨S8x4096x1, .f32⟩
  | 112 => ⟨S1x1x16, .f32⟩
  | 113 => ⟨S8x4096x16, .f32⟩
  | 114 => ⟨S8x4096x16, .f32⟩
  | 115 => ⟨S8x4096x16, .f32⟩
  | 116 => ⟨S8x4096x16, .f32⟩
  | 117 => ⟨S8x4096x16, .f32⟩
  | 118 => ⟨S8x4096x16, .f32⟩
  | 119 => ⟨S8x4096x16, .f32⟩
  | 120 => ⟨S8x4096x16, .f32⟩
  | 121 => ⟨S8x4096x16, .f32⟩
  | 122 => ⟨S8x4096x16, .f32⟩
  | 123 => ⟨S8x4096x16, .f32⟩
  | 124 => ⟨S8x4096x16, .f32⟩
  | 125 => ⟨S8x4096x16, .f32⟩
  | 126 => ⟨S8x4096x32, .f32⟩
  | 127 => ⟨S8x4096x1x32, .f32⟩
  | _ => ⟨S8x4096x1024, .f32⟩

abbrev hbmTy0_1 (i : Nat) : BufTy := match i % 128 with
  | 0 => ⟨S8x4096x8x32, .f32⟩
  | 1 => ⟨S_, .f32⟩
  | 2 => ⟨S8x4096x8x64, .f32⟩
  | 3 => ⟨S8x4096x8x64, .f32⟩
  | 4 => ⟨S_, .f32⟩
  | 5 => ⟨S8x4096x8x32, .f32⟩
  | 6 => ⟨S8x4096x8x32, .f32⟩
  | 7 => ⟨S32768x4x128, .f32⟩
  | 8 => ⟨S32768x4x64, .f32⟩
  | 9 => ⟨S_, .f32⟩
  | 10 => ⟨S32768x4x64, .f32⟩
  | 11 => ⟨S32768x4x256, .f32⟩
  | 12 => ⟨S32768x1024, .f32⟩
  | 13 => ⟨S32768x4x128, .f32⟩
  | 14 => ⟨S32768x4x64, .f32⟩
  | 15 => ⟨S_, .f32⟩
  | 16 => ⟨S32768x4x64, .f32⟩
  | 17 => ⟨S32768x4x256, .f32⟩
  | 18 => ⟨S32768x1024, .f32⟩
  | 19 => ⟨S8x8x64x4096, .f32⟩
  | 20 => ⟨S_, .f32⟩
  | 21 => ⟨S8x8x1x4096, .f32⟩
  | 22 => ⟨S_, .f32⟩
  | 23 => ⟨S8x8x15x4096, .f32⟩
  | 24 => ⟨S8x8x80x4096, .f32⟩
  | 25 => ⟨S8x640x4096, .f32⟩
  | 26 => ⟨S32768x512, .f32⟩
  | 27 => ⟨S_, .f32⟩
  | 28 => ⟨S32768x512, .f32⟩
  | 29 => ⟨S32768x512, .f32⟩
  | 30 => ⟨S32768x512, .f32⟩
  | 31 => ⟨S8x4096x8x64, .f32⟩
  | 32 => ⟨S8x8x64x4096, .f32⟩
  | 33 => ⟨S_, .f32⟩
  | 34 => ⟨S8x8x1x4096, .f32⟩
  | 35 => ⟨S_, .f32⟩
  | 36 => ⟨S8x8x15x4096, .f32⟩
  | 37 => ⟨S8x8x80x4096, .f32⟩
  | 38 => ⟨S8x640x4096, .f32⟩
  | 39 => ⟨S8x4096x1024, .f32⟩
  | 40 => ⟨S8x4096x1024, .f32⟩
  | 41 => ⟨S_, .f32⟩
  | 42 => ⟨S8x4096x1024, .f32⟩
  | 43 => ⟨S8x4096x1024, .f32⟩
  | 44 => ⟨S_, .f32⟩
  | 45 => ⟨S8x4096x1024, .f32⟩
  | 46 => ⟨S8x4096x1024, .f32⟩
  | 47 => ⟨S32768x1024, .f32⟩
  | 48 => ⟨S8x4096x1024, .f32⟩
  | 49 => ⟨S8x4096x1024, .f32⟩
  | 50 => ⟨S_, .f32⟩
  | 51 => ⟨S8x4096x1024, .f32⟩
  | 52 => ⟨S8x4096x1024, .f32⟩
  | 53 => ⟨S_, .f32⟩
  | 54 => ⟨S8x4096x1024, .f32⟩
  | 55 => ⟨S8x4096x1024, .f32⟩
  | 56 => ⟨S32768x1024, .f32⟩
  | 57 => ⟨S32768x1024, .bf16⟩
  | 58 => ⟨S32768x1024, .bf16⟩
  | 59 => ⟨S8x640x4096, .bf16⟩
  | 60 => ⟨S32768x512, .bf16⟩
  | 61 => ⟨S32768x512, .bf16⟩
  | 62 => ⟨S8x640x4096, .bf16⟩
  | 63 => ⟨S32768x1024, .bf16⟩
  | 64 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_11 : Ref sig .tc := ⟨.hbm, 129, rfl⟩
abbrev main_v107 : Ref sig .tc := ⟨.hbm, 130, rfl⟩
abbrev main_v108 : Ref sig .tc := ⟨.hbm, 131, rfl⟩
abbrev main_cst_12 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_13 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_14 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_15 : Ref sig .tc := ⟨.hbm, 148, rfl⟩
abbrev main_v122 : Ref sig .tc := ⟨.hbm, 149, rfl⟩
abbrev main_cst_16 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_17 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_18 : Ref sig .tc := ⟨.hbm, 161, rfl⟩
abbrev main_v132 : Ref sig .tc := ⟨.hbm, 162, rfl⟩
abbrev main_cst_19 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_20 : Ref sig .tc := ⟨.hbm, 169, rfl⟩
abbrev main_v138 : Ref sig .tc := ⟨.hbm, 170, rfl⟩
abbrev main_v139 : Ref sig .tc := ⟨.hbm, 171, rfl⟩
abbrev main_cst_21 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_22 : Ref sig .tc := ⟨.hbm, 178, rfl⟩
abbrev main_v145 : Ref sig .tc := ⟨.hbm, 179, rfl⟩
abbrev main_v146 : Ref sig .tc := ⟨.hbm, 180, rfl⟩
abbrev main_cst_23 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S8x4096x1024 : Shape := ⟨3, ![8, 4096, 1024]⟩
abbrev S8x6144 : Shape := ⟨2, ![8, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x6x1024 : Shape := ⟨3, ![8, 6, 1024]⟩
abbrev S_ : Shape := ⟨0, ![]⟩
abbrev S1024x88 : Shape := ⟨2, ![1024, 88]⟩
abbrev S1024x128 : Shape := ⟨2, ![1024, 128]⟩
abbrev S128x1024 : Shape := ⟨2, ![128, 1024]⟩
abbrev S88 : Shape := ⟨1, ![88]⟩
abbrev S128 : Shape := ⟨1, ![128]⟩
abbrev S128x1 : Shape := ⟨2, ![128, 1]⟩
abbrev S1x1024 : Shape := ⟨2, ![1, 1024]⟩
abbrev S256x1024 : Shape := ⟨2, ![256, 1024]⟩
abbrev S32768x1152 : Shape := ⟨2, ![32768, 1152]⟩
abbrev S8x32768 : Shape := ⟨2, ![8, 32768]⟩
abbrev S512x512 : Shape := ⟨2, ![512, 512]⟩
abbrev S1x6x1024 : Shape := ⟨3, ![1, 6, 1024]⟩
abbrev S512x1152 : Shape := ⟨2, ![512, 1152]⟩
abbrev S8x512 : Shape := ⟨2, ![8, 512]⟩
abbrev S1x1x1024 : Shape := ⟨3, ![1, 1, 1024]⟩
abbrev S512 : Shape := ⟨1, ![512]⟩
abbrev S512x1 : Shape := ⟨2, ![512, 1]⟩
abbrev S256x512 : Shape := ⟨2, ![256, 512]⟩
abbrev S128x512 : Shape := ⟨2, ![128, 512]⟩
abbrev S1x512 : Shape := ⟨2, ![1, 512]⟩
abbrev S512x128 : Shape := ⟨2, ![512, 128]⟩
abbrev S128x128 : Shape := ⟨2, ![128, 128]⟩
abbrev S120x512 : Shape := ⟨2, ![120, 512]⟩

abbrev nBuf : Space → Nat
  | .hbm => 42
  | .vmem => 25
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x1024, .bf16⟩
  | .hbm, ⟨4, _⟩ => ⟨S8x4096x1024, .f32⟩
  | .hbm, ⟨5, _⟩ => ⟨S8x6144, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S32768x1024, .f32⟩
  | .hbm, ⟨15, _⟩ => ⟨S8x6x1024, .f32⟩
  | .hbm, ⟨16, _⟩ => ⟨S_, .f32⟩
  | .hbm, ⟨17, _⟩ => ⟨S1024x4, .f32⟩
  | .hbm, ⟨18, _⟩ => ⟨S_, .f32⟩
  | .hbm, ⟨19, _⟩ => ⟨S1024x88, .f32⟩
  | .hbm, ⟨20, _⟩ => ⟨S1024x128, .f32⟩
  | .hbm, ⟨21, _⟩ => ⟨S128x1024, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S88, .f32⟩
  | .hbm, ⟨26, _⟩ => ⟨S128, .f32⟩
  | .hbm, ⟨27, _⟩ => ⟨S128x1, .f32⟩
  | .hbm, ⟨28, _⟩ => ⟨S128x1024, .bf16⟩
  | .hbm, ⟨29, _⟩ => ⟨S128x1024, .f32⟩
  | .hbm, ⟨30, _⟩ => ⟨S128x1024, .f32⟩
  | .hbm, ⟨31, _⟩ => ⟨S128x1024, .bf16⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S256x1024, .bf16⟩
  | .hbm, ⟨37, _⟩ => ⟨S32768x1024, .f32⟩
  | .hbm, ⟨38, _⟩ => ⟨S32768x1152, .f32⟩
  | .hbm, ⟨39, _⟩ => ⟨S8x32768, .f32⟩
  | .hbm, ⟨40, _⟩ => ⟨S128x1, .f32⟩
  | .hbm, ⟨41, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .bf16⟩
  | .local _ .vmem, ⟨17, _⟩ => ⟨S128x1, .f32⟩
  | .local _ .vmem, ⟨18, _⟩ => ⟨S512x1024, .f32⟩
  | .local _ .vmem, ⟨19, _⟩ => ⟨S512x1024, .f32⟩
  | .local _ .vmem, ⟨20, _⟩ => ⟨S512x1152, .f32⟩
  | .local _ .vmem, ⟨21, _⟩ => ⟨S512x1152, .f32⟩
  | .local _ .vmem, ⟨22, _⟩ => ⟨S8x512, .f32⟩
  | .local _ .vmem, ⟨23, _⟩ => ⟨S8x512, .f32⟩
  | .local _ .vmem, ⟨24, _⟩ => ⟨S128x1, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S32768x512 : Shape := ⟨2, ![32768, 512]⟩
abbrev S32768x1024 : Shape := ⟨2, ![32768, 1024]⟩
abbrev S8x4096x1024 : Shape := ⟨3, ![8, 4096, 1024]⟩
abbrev S8x6144 : Shape := ⟨2, ![8, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x1024 : Shape := ⟨2, ![8, 1024]⟩
abbrev S8x4096x512 : Shape := ⟨3, ![8, 4096, 512]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x1024, .bf16⟩
  | .hbm, ⟨4, _⟩ => ⟨S8x4096x1024, .f32⟩
  | .hbm, ⟨5, _⟩ => ⟨S8x6144, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S32768x1024, .f32⟩
  | .hbm, ⟨18, _⟩ => ⟨S8x4096x1024, .f32⟩
  | .hbm, ⟨19, _⟩ => ⟨S32768x512, .f32⟩
  | .hbm, ⟨20, _⟩ => ⟨S8x4096x512, .f32⟩
  | .hbm, ⟨21, _⟩ => ⟨S8x4096x1024, .f32⟩
  | .hbm, ⟨22, _⟩ => ⟨S8x4096x1024, .f32⟩
  | .hbm, ⟨23, _⟩ => ⟨S32768x1024, .f32⟩
  | .hbm, ⟨24, _⟩ => ⟨S8x4096x1024, .f32⟩
  | .hbm, ⟨25, _⟩ => ⟨S32768x512, .f32⟩
  | .hbm, ⟨26, _⟩ => ⟨S8x4096x512, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S8x1x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S8x4096x1024, .f32⟩
  | .hbm, ⟨56, _⟩ => ⟨S8x4096x1024, .f32⟩
  | .hbm, ⟨57, _⟩ => ⟨S8x1x1024, .f32⟩
  | .hbm, ⟨58, _⟩ => ⟨S8x4096x1024, .f32⟩
  | .hbm, ⟨59, _⟩ => ⟨S8x4096x1024, .f32⟩
  | .hbm, ⟨60, _⟩ => ⟨S32768x1024, .f32⟩
  | .hbm, ⟨61, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel4.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Moe.Tables.lean ====
/-
  The precondition on the tile tables, read back from the words that state it: each tile names two different experts
  below 32, and the number of used tiles is between 1 and 240.
-/
module

public import proofs.«01_k».proof.Defs
public import proofs.«01_k».proof.Proof.Gen.Pre_tables_in_range
public import Idealize.ShloMosaic.Lib.ReduceAll
public import Idealize.ShloMosaic.Lib.WordCmp
public import Idealize.ShloMosaic.Lib.ValueIdxCore

@[expose] public section

noncomputable section

namespace Cert.Moe

open Idealize.ShloMosaic Idealize.ShloMosaic.WordCmp Idealize.ShloMosaic.ValueIdx

/-- A table of 240 tiles, and a table of one word. -/
abbrev TileTable : Type := IVec ⟨1, ![240]⟩ 32
abbrev OneWord : Type := IVec ⟨1, ![1]⟩ 32

/-- A table of one word has one index. -/
theorem oneWord_idx : Subsingleton (⟨1, ![1]⟩ : Shape).Idx :=
  ⟨fun x y => funext fun a => Fin.ext (by
    have hx := (x a).isLt
    have hy := (y a).isLt
    have e : (⟨1, ![1]⟩ : Shape).size a = 1 := (by decide : ∀ a : Fin 1, (⟨1, ![1]⟩ : Shape).size a = 1) a
    omega)⟩

/-- What the precondition says of the three tables. -/
structure InRange (lo hi : TileTable) (nu : OneWord) : Prop where
  /-- the first expert of each tile -/
  lo_lt : ∀ i, (lo i).toNat < 32
  /-- the second -/
  hi_lt : ∀ i, (hi i).toNat < 32
  /-- they differ -/
  ne : ∀ i, lo i ≠ hi i
  /-- at least one tile is used -/
  nu_pos : ∀ i, 1 ≤ (nu i).toNat
  /-- and at most all -/
  nu_le : ∀ i, (nu i).toNat ≤ 240

/-- A word that is at least zero and below 32, read with its sign, is below 32. -/
theorem toNat_lt_of_cmpi {x : BitVec 32} (h0 : IntOp.cmpi .sge x 0#32 = 1#1) (h1 : IntOp.cmpi .slt x 32#32 = 1#1) : x.toNat < 32 := by
  rw [cmpi_sge_eq, ofBool_decide_eq_one_iff] at h0
  rw [cmpi_slt_eq, ofBool_decide_eq_one_iff] at h1
  have e0 : (0#32 : BitVec 32).toInt = 0 := rfl
  have e1 : (32#32 : BitVec 32).toInt = 32 := rfl
  rw [e0] at h0; rw [e1] at h1
  rw [BitVec.toInt_eq_toNat_cond] at h0 h1
  split at h0 <;> omega

/-- A word between 1 and 240, read with its sign. -/
theorem toNat_between_of_cmpi {x : BitVec 32} (h0 : IntOp.cmpi .sge x 1#32 = 1#1) (h1 : IntOp.cmpi .sle x 240#32 = 1#1) :
    1 ≤ x.toNat ∧ x.toNat ≤ 240 := by
  rw [cmpi_sge_eq, ofBool_decide_eq_one_iff] at h0
  rw [cmpi_sle_eq, ofBool_decide_eq_one_iff] at h1
  have e0 : (1#32 : BitVec 32).toInt = 1 := rfl
  have e1 : (240#32 : BitVec 32).toInt = 240 := rfl
  rw [e0] at h0; rw [e1] at h1
  rw [BitVec.toInt_eq_toNat_cond] at h0 h1
  split at h0 <;> omega

variable {F : FTy → Type} [FloatOps F]

/-- The precondition, read back. -/
theorem inRange_of_pre (lo hi : TileTable) (nu : OneWord) (hs : FVec F ⟨2, ![61440, 1152]⟩ .f32)
    (wg wu : FVec F ⟨3, ![32, 1024, 256]⟩ .bf16) (wd : FVec F ⟨3, ![32, 256, 1024]⟩ .bf16)
    (h : Pre_tables_in_range.fn (F := F) lo hi nu hs wg wu wd = fun _ => 1#1) : InRange lo hi nu := by
  have h' := congrFun h (fun a => nomatch a)
  unfold Pre_tables_in_range.fn Pre_tables_in_range.fn_part1 at h'
  dsimp only at h'
  simp only [andi_at, cmpi_at, IntOp.andi_eq_one, constantI_at] at h'
  obtain ⟨⟨hall, hge⟩, hle⟩ := h'
  have hall' := fun i => Host.reduce_andi_all _ _ _ _ _ hall i
  simp only [andi_at, cmpi_at, IntOp.andi_eq_one, broadcastInDim_constantI, constantI_at] at hall'
  have hnu : ∀ i, (nu i) = shapeCast Pre_tables_in_range.S_ nu Pre_tables_in_range.Facts.shapeCasts_S1_S_ (fun a => nomatch a) := fun i => by
    unfold shapeCast
    exact congrArg nu (Subsingleton.elim (h := oneWord_idx) _ _)
  refine ⟨fun i => ?_, fun i => ?_, fun i => ?_, fun i => ?_, fun i => ?_⟩
  · exact toNat_lt_of_cmpi (hall' i).1.1.1.1 (hall' i).1.1.1.2
  · exact toNat_lt_of_cmpi (hall' i).1.1.2 (hall' i).1.2
  · have := (hall' i).2
    rwa [cmpi_ne_eq, ofBool_decide_eq_one_iff] at this
  · rw [hnu i]; exact (toNat_between_of_cmpi hge hle).1
  · rw [hnu i]; exact (toNat_between_of_cmpi hge hle).2

end Cert.Moe

end
-- ==== Proof.Moe.KernelIdeal.lean ====
/-
  The launch of the expert-mixture call of `KernelIdeal`: for any contents of the three prefetched tables that keep every
  window's block inside its array, the program runs to the end, leaves its arguments as they were, leaves every
  semaphore counter at zero, and leaves in each 256-row block of the result what the body computes from the tile's
  block of rows and the weights of the tile's two experts.

  The body has two branches over the first word of the third table, the number of used tiles: a used tile
  stores its two experts' mixture, an unused one stores zeros. Exactly one of the two is taken, so the result's
  window is stored at every point.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal.Gen Idealize.ShloMosaic.WordCmp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- The first condition: the tile's number, read as a signed word, is below the number of used tiles. -/
theorem cond1_iff (i : grid0.Coords) (v : BitVec 32) : k0_cond1 i v = 1#1 ↔ (BitVec.ofNat 32 (i 0).val).toInt < v.toInt := by
  unfold k0_cond1
  dsimp only
  rw [scalar_cmpi_eq, scalar_cmpi_eq, cmpi_slt_eq, cmpi_ne_eq, scalar_extui_ofBool, ofBool_decide_eq_one_iff]
  by_cases h : (BitVec.ofNat 32 (i 0).val).toInt < v.toInt <;> simp [h]

/-- The second: the opposite, so a tile is stored as zeros exactly when it is not a used one. -/
theorem cond2_iff (i : grid0.Coords) (v : BitVec 32) : k0_cond2 i v = 1#1 ↔ ¬k0_cond1 i v = 1#1 := by
  rw [cond1_iff]
  unfold k0_cond2
  dsimp only
  rw [scalar_cmpi_eq, scalar_cmpi_eq, cmpi_sge_eq, cmpi_ne_eq, scalar_extui_ofBool, ofBool_decide_eq_one_iff, not_lt]
  by_cases h : v.toInt ≤ (BitVec.ofNat 32 (i 0).val).toInt <;> simp [h]

/-- So at every point one of the two stores happens: no point is idle for the result's window. -/
theorem not_idle (i : grid0.Coords) (v : BitVec 32) : (!(k0_cond1 i v == 1#1) && !(k0_cond2 i v == 1#1)) = false := by
  by_cases h : k0_cond1 i v = 1#1
  · simp [h]
  · simp [(cond2_iff i v).mpr h]

variable (m : (ℓ : Loc nD τ sig) → Buf (Elt F) ℓ) (ρ : Dev nD → PrngReg)

/-! ## The region's entry and the tables -/

/-- The buffers when the region is entered: as launched. -/
abbrev V (c : Dev nD) (b : Ref sig .tc) : Buf (Elt F) ((c : Thread nD τ).loc b) := m ((c : Thread nD τ).loc b)

set_option maxHeartbeats 800000 in
/-- The program is its region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents (the program runs on one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl

/-- Every window's block lies inside its array, at the tables' words. -/
abbrev Ok : Prop := ok0 (F := F) (tbl m)
abbrev adm (hO : Ok m) : (pcfg0 (F := F)).Adm := ⟨tbl m, hO⟩
/-- The pipeline at the tables' contents. -/
abbrev cfgM (hO : Ok m) : Pipeline.Cfg sig Λ₀ := cfg0 (adm m hO)

abbrev tbM0 : Memref sig .tc .smem S240 .i32 := Memref.whole main_arg0
abbrev htbM0 : tbM0.IsWhole := Memref.isWhole_whole _
abbrev tbM1 : Memref sig .tc .smem S240 .i32 := Memref.whole main_arg1
abbrev htbM1 : tbM1.IsWhole := Memref.isWhole_whole _
abbrev tbM2 : Memref sig .tc .smem S1 .i32 := Memref.whole main_arg2
abbrev htbM2 : tbM2.IsWhole := Memref.isWhole_whole _

/-- A table's buffer on core `c`, and half of it held at contents `f` (the pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The halves the body is handed, table by table. -/
theorem PhiT_eq (c : Dev nD) : (Pipeline.ΦT pre0 (tbl m) c : sProp 𝕄) = iprop(tbPt c tbM0 (tbl m 0) ∗ tbPt c tbM1 (tbl m 1) ∗ tbPt c tbM2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The word the two branches read: the third table's first word, at contents `x`. -/
abbrev usedWord {c : Dev nD} (x : TbBuf (F := F) c tbM2) : BitVec 32 :=
  tbM2.view.readAt (Elt F) (Rect.unit (s := S1) ![0] S1.size inb_S1_S1_0).toLoadRect x (Shape.Idx.first (numel1_S1.symm ▸ Nat.one_pos))

/-! ## The windows' blocks -/

/-- The result's window is written back at every point. -/
theorem flush7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- Window `w`'s block at point `t`, of its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S256x1152 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x256 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x256 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x256x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1024x256 .bf16 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x256 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x256x1024 .bf16 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S256x1024 .f32 := spec0_7.stage ((cfgM m hO).slots t 7)
abbrev hs7 (hO : Ok m) (t : Fin (cfgM m hO).N) : (ms7 m hO t).IsWhole := hstage0_7 (((cfgM m hO).slots t 7).cast nbuf0_7)

/-- The kernel body at point `t`, on the buffers the pipeline hands it there. -/
abbrev bodyAt (hO : Ok m) (t : Fin (cfgM m hO).N) : Prog (TpuEff nD τ sig (Elt F) Λ₀ .tc) PUnit :=
  cc0_moe (grid0.coords t) tbM0 htbM0 tbM1 htbM1 tbM2 htbM2 (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t)

/-! ## The body's run, on any staging buffers -/

section Run

variable (c : Dev nD) (i : grid0.Coords)

  (arg4 : Memref sig .tc .vmem S256x1152 .f32) (harg4 : arg4.IsWhole)
  (arg5 : Memref sig .tc .vmem S1x1024x256 .bf16) (harg5 : arg5.IsWhole)
  (arg6 : Memref sig .tc .vmem S1x1024x256 .bf16) (harg6 : arg6.IsWhole)
  (arg7 : Memref sig .tc .vmem S1x256x1024 .bf16) (harg7 : arg7.IsWhole)
  (arg8 : Memref sig .tc .vmem S1x1024x256 .bf16) (harg8 : arg8.IsWhole)
  (arg9 : Memref sig .tc .vmem S1x1024x256 .bf16) (harg9 : arg9.IsWhole)
  (arg10 : Memref sig .tc .vmem S1x256x1024 .bf16) (harg10 : arg10.IsWhole)
  (arg11 : Memref sig .tc .vmem S256x1024 .f32) (harg11 : arg11.IsWhole)
variable (x0 : Vec F S256x1152 .f32) (x1 : Vec F S1x1024x256 .bf16) (x2 : Vec F S1x1024x256 .bf16) (x3 : Vec F S1x256x1024 .bf16) (x4 : Vec F S1x1024x256 .bf16) (x5 : Vec F S1x1024x256 .bf16) (x6 : Vec F S1x256x1024 .bf16)
  (xt0 : TbBuf (F := F) c tbM0) (xt1 : TbBuf (F := F) c tbM1) (xt2 : TbBuf (F := F) c tbM2)

/-- What the body is run from: the inputs' buffers at their contents, the result's at anything, the tables' halves. -/
abbrev RunPre : sProp 𝕄 :=
  iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ tbPt c tbM0 xt0 ∗ tbPt c tbM1 xt1 ∗ tbPt c tbM2 xt2)
/-- What it ends with: the same, the result's buffer with the stores `L` written. -/
abbrev RunPost (L : List (View.Piece (Elt F) S256x1024 .f32)) : sProp 𝕄 :=
  iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L) ∗ tbPt c tbM0 xt0 ∗ tbPt c tbM1 xt1 ∗ tbPt c tbM2 xt2)
/-- The body on those buffers. -/
abbrev RunBody : Prog (TpuEff nD τ sig (Elt F) Λ₀ .tc) PUnit :=
  cc0_moe i tbM0 htbM0 tbM1 htbM1 tbM2 htbM2 arg4 harg4 arg5 harg5 arg6 harg6 arg7 harg7 arg8 harg8 arg9 harg9 arg10 harg10 arg11 harg11

set_option maxHeartbeats 1000000 in
/-- At a used tile the body runs, and these are the stores it makes into the result's buffer. -/
def runA (hc1 : k0_cond1 i (usedWord xt2) = 1#1) (hc2 : ¬k0_cond2 i (usedWord xt2) = 1#1) :
    { L : List (View.Piece (Elt F) S256x1024 .f32) //
      ∀ (E : Set ℕ) (K : PUnit → sProp 𝕄),
        iprop(RunPre c arg4 arg5 arg6 arg7 arg8 arg9 arg10 arg11 x0 x1 x2 x3 x4 x5 x6 xt0 xt1 xt2 ∗ (RunPost c arg4 arg5 arg6 arg7 arg8 arg9 arg10 arg11 x0 x1 x2 x3 x4 x5 x6 xt0 xt1 xt2 L -∗ K ⟨⟩))
          ⊢ wp frame (wpE (defs₀ (F := F)) Variants.none c none) E (RunBody i arg4 harg4 arg5 harg5 arg6 harg6 arg7 harg7 arg8 harg8 arg9 harg9 arg10 harg10 arg11 harg11) K } := by
  refine ⟨?_, fun E K => ?run⟩
  case run =>
    unfold RunPre RunPost RunBody
    simp only [cc0_moe_eq_skeleton]; unfold cc0_moe_skel
    simp only [k0_part1_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HT0]; · iexact HT0
    isplitl [HT1]; · iexact HT1
    iexact HT2

set_option maxHeartbeats 1000000 in
/-- At an unused tile the body runs, and these are the stores it makes into the result's buffer. -/
def runB (hc1 : ¬k0_cond1 i (usedWord xt2) = 1#1) (hc2 : k0_cond2 i (usedWord xt2) = 1#1) :
    { L : List (View.Piece (Elt F) S256x1024 .f32) //
      ∀ (E : Set ℕ) (K : PUnit → sProp 𝕄),
        iprop(RunPre c arg4 arg5 arg6 arg7 arg8 arg9 arg10 arg11 x0 x1 x2 x3 x4 x5 x6 xt0 xt1 xt2 ∗ (RunPost c arg4 arg5 arg6 arg7 arg8 arg9 arg10 arg11 x0 x1 x2 x3 x4 x5 x6 xt0 xt1 xt2 L -∗ K ⟨⟩))
          ⊢ wp frame (wpE (defs₀ (F := F)) Variants.none c none) E (RunBody i arg4 harg4 arg5 harg5 arg6 harg6 arg7 harg7 arg8 harg8 arg9 harg9 arg10 harg10 arg11 harg11) K } := by
  refine ⟨?_, fun E K => ?run⟩
  case run =>
    unfold RunPre RunPost RunBody
    simp only [cc0_moe_eq_skeleton]; unfold cc0_moe_skel
    skip
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec (disch := first | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HT0]; · iexact HT0
    isplitl [HT1]; · iexact HT1
    iexact HT2

end Run

/-- The stores the body makes at point `t`. -/
def stores (hO : Ok m) (c : Dev nD) (t : Fin (cfgM m hO).N) : List (View.Piece (Elt F) S256x1024 .f32) :=
  if h : k0_cond1 (grid0.coords t) (usedWord (c := c) (tbl m 2)) = 1#1 then
    (runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) h (fun h' => (cond2_iff _ _).mp h' h)).1
  else
    (runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) h ((cond2_iff _ _).mpr h)).1

/-- They cover the result's block. -/
theorem stores_cover (hO : Ok m) (c : Dev nD) (t : Fin (cfgM m hO).N) (y : S256x1024.Idx) :
    ∃ pc ∈ stores m hO c t, y ∈ pc.1.set := by
  unfold stores
  split
  · exact View.cover_of_tiledL (runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) _ _).1 S256x1024.size (by sl_kernel_rfl) y
  · exact View.cover_of_tiledL (runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) _ _).1 S256x1024.size (by sl_kernel_rfl) y

/-- What the result's block holds after point `t`. -/
def outsAt (hO : Ok m) (c : Dev nD) (t : Fin (cfgM m hO).N) : Vec F S256x1024 .f32 := View.canon (stores m hO c t)

/-- The body at point `t`, run to its stores. -/
theorem run_at (hO : Ok m) (c : Dev nD) (t : Fin (cfgM m hO).N) (E : Set ℕ) (K : PUnit → sProp 𝕄) :
    iprop(RunPre c (ms0 m hO t) (ms1 m hO t) (ms2 m hO t) (ms3 m hO t) (ms4 m hO t) (ms5 m hO t) (ms6 m hO t) (ms7 m hO t) (iblk m hO c 0 t) (iblk m hO c 1 t) (iblk m hO c 2 t) (iblk m hO c 3 t) (iblk m hO c 4 t) (iblk m hO c 5 t) (iblk m hO c 6 t) (tbl m 0) (tbl m 1) (tbl m 2)
        ∗ (RunPost c (ms0 m hO t) (ms1 m hO t) (ms2 m hO t) (ms3 m hO t) (ms4 m hO t) (ms5 m hO t) (ms6 m hO t) (ms7 m hO t) (iblk m hO c 0 t) (iblk m hO c 1 t) (iblk m hO c 2 t) (iblk m hO c 3 t) (iblk m hO c 4 t) (iblk m hO c 5 t) (iblk m hO c 6 t) (tbl m 0) (tbl m 1) (tbl m 2) (stores m hO c t) -∗ K ⟨⟩))
      ⊢ wp frame (wpE (defs₀ (F := F)) Variants.none c none) E (bodyAt m hO t) K := by
  unfold stores
  split
  · exact (runA c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) _ _).2 E K
  · exact (runB c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (iblk m hO c 0 t) (iblk m hO c 1 t) (iblk m hO c 2 t) (iblk m hO c 3 t) (iblk m hO c 4 t) (iblk m hO c 5 t) (iblk m hO c 6 t) (tbl m 0) (tbl m 1) (tbl m 2) _ _).2 E K

/-! ## The pipeline's proof data -/

/-- The arrays as launched; after the body each input's buffer at its block, the result's at `outsAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outsAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = outsAt m hO c t := by dsimp only [dats]; try rfl

/-! Each input's buffer holds its block at every point, fetched there or not. -/

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body obligation -/

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t))

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before0, before1, before2, before3, before4, before5, before6]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7]
  rw [show (dats m hO 0 c).Φ t.castSucc = iprop(Pipeline.ΦA spec0 c ∗ Pipeline.ΦT pre0 (tbl m) c) from rfl, PhiT_eq]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_at m hO c t Set.univ _)
  unfold RunPre RunPost
  isplitl [H0 H1 H2 H3 H4 H5 H6 H7 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iexact HT2
  iintro ⟨H0, H1, H2, H3, H4, H5, H6, ⟨%e7, H7⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_eq_canon _ _ _ (stores_cover m hO c t)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hi : (cfgM m hO).idle 7 ((cfgM m hO).grid.coords t) = false := not_idle _ _
  unfold bodyPost
  iterate 9 refine sep_mono .rfl ?_
  dsimp only
  split
  · rename_i h; exact absurd (hi.symm.trans h) Bool.false_ne_true
  · exact .rfl

/-! ## The run and the frame -/

set_option backward.isDefEq.respectTransparency.types false in
/-- The launch: the run's post, and every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- Every execution ends with every array of the pipeline at what its data computes and the rest as launched. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged, wherever the run's post holds. -/
theorem args_of_post (hO : Ok m) {r : PUnit × MemSt nD τ sig (Elt F)}
    (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c).2 main_arg0 (by decide : main_arg0 ∈ Pipeline.restRefs sig spec0),
    (h c).2 main_arg1 (by decide : main_arg1 ∈ Pipeline.restRefs sig spec0),
    (h c).2 main_arg2 (by decide : main_arg2 ∈ Pipeline.restRefs sig spec0),
    ((h c).1 0).trans (((dats m hO 0 c).arrAt_in 0 rfl _).trans (A_eq m hO c 0)),
    ((h c).1 4).trans (((dats m hO 0 c).arrAt_in 4 rfl _).trans (A_eq m hO c 4)),
    ((h c).1 5).trans (((dats m hO 0 c).arrAt_in 5 rfl _).trans (A_eq m hO c 5)),
    ((h c).1 6).trans (((dats m hO 0 c).arrAt_in 6 rfl _).trans (A_eq m hO c 6))⟩

/-- The frame: from any memory whose tables keep every block inside its array. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_of_post m hO h.1, h.2⟩) (run_main_quiescent m ρ hO)

end Cert.KernelIdeal.Moe

end
-- ==== Proof.Moe.KernelIdealOk.lean ====
/-
  The side conditions of the launch of `KernelIdeal`'s expert-mixture call, from the range of the tile tables' words: every
  window's block lies inside its array.
-/
module

public import proofs.«01_k».proof.Proof.Moe.KernelIdeal
public import proofs.«01_k».proof.Proof.Moe.Tables
public import Idealize.ShloMosaic.Lib.WordArith

@[expose] public section

set_option maxRecDepth 16384

noncomputable section

namespace Cert.KernelIdeal.Moe

open Cert.KernelIdeal.Gen Cert.Moe
open Idealize.ShloMosaic Idealize.ShloMosaic.TcCoe

variable {F : FTy → Type} [FloatOps F]
variable (m : (ℓ : Loc nD τ sig) → Buf (Elt F) ℓ)

/-- The tile the first window reads at point `i`: the point's own tile, or the last used one. -/
theorem tile_lt (i : grid0.Coords) (v : BitVec 32) (h0 : 1 ≤ v.toNat) (h1 : v.toNat ≤ 240) :
    (Scalar.minsi (BitVec.ofNat 32 (i 0).val) (Scalar.subi v 1#32)).toNat = min (i 0).val (v.toNat - 1) := by
  have hi : (i 0).val < 240 := (i 0).isLt
  have e1 : (BitVec.ofNat 32 (i 0).val).toNat = (i 0).val := by rw [BitVec.toNat_ofNat]; omega
  have e2 : (Scalar.subi v 1#32).toNat = v.toNat - 1 := by
    show (v - 1#32).toNat = _
    rw [BitVec.toNat_sub]
    have : (1#32 : BitVec 32).toNat = 1 := rfl
    omega
  refine (WordArith.toNat_minsi_of_lt _ _ (by omega) (by omega)).trans ?_
  rw [e1, e2]

/-- Tables in range keep every window's block inside its array. -/
theorem ok_of_inRange (hR : InRange (tbl m 0) (tbl m 1) (tbl m 2)) : Ok m := by
  have up : ∀ e : BitVec 32, e.toNat < 32 → ∀ a : Fin 3, (![e.toNat, (0#32 : BitVec 32).toNat, (0#32 : BitVec 32).toNat] a + 1) * S1x1024x256.size a ≤ S32x1024x256.size a := by
    intro e he a
    fin_cases a
    · show (e.toNat + 1) * 1 ≤ 32; omega
    · show (0 + 1) * 1024 ≤ 1024; omega
    · show (0 + 1) * 256 ≤ 256; omega
  have down : ∀ e : BitVec 32, e.toNat < 32 → ∀ a : Fin 3, (![e.toNat, (0#32 : BitVec 32).toNat, (0#32 : BitVec 32).toNat] a + 1) * S1x256x1024.size a ≤ S32x256x1024.size a := by
    intro e he a
    fin_cases a
    · show (e.toNat + 1) * 1 ≤ 32; omega
    · show (0 + 1) * 256 ≤ 256; omega
    · show (0 + 1) * 1024 ≤ 1024; omega
  refine ⟨fun i => ⟨?_, .inl rfl⟩, fun i => ⟨up _ (hR.lo_lt _), .inr (.inr ⟨by decide, rfl, rfl, rfl⟩)⟩,
    fun i => ⟨up _ (hR.lo_lt _), .inr (.inr ⟨by decide, rfl, rfl, rfl⟩)⟩,
    fun i => ⟨down _ (hR.lo_lt _), .inr (.inr ⟨by decide, rfl, rfl, rfl⟩)⟩,
    fun i => ⟨up _ (hR.hi_lt _), .inr (.inr ⟨by decide, rfl, rfl, rfl⟩)⟩,
    fun i => ⟨up _ (hR.hi_lt _), .inr (.inr ⟨by decide, rfl, rfl, rfl⟩)⟩,
    fun i => ⟨down _ (hR.hi_lt _), .inr (.inr ⟨by decide, rfl, rfl, rfl⟩)⟩⟩
  intro a
  have hi : (i 0).val < 240 := (i 0).isLt
  fin_cases a
  · have h := tile_lt i _ (hR.nu_pos ((Rect.unit (s := S1) ![0] S1.size inb_S1_S1_0).emb (Shape.Idx.first (numel1_S1.symm ▸ Nat.one_pos)))) (hR.nu_le _)
    have h2 := hR.nu_le ((Rect.unit (s := S1) ![0] S1.size inb_S1_S1_0).emb (Shape.Idx.first (numel1_S1.symm ▸ Nat.one_pos)))
    show ((Scalar.minsi (BitVec.ofNat 32 (i 0).val) (Scalar.subi (tbl m 2 _) 1#32)).toNat + 1) * 256 ≤ 61440
    refine le_trans (Nat.mul_le_mul_right 256 (Nat.succ_le_succ (le_of_eq h))) ?_
    omega
  · show (0 + 1) * 1152 ≤ 1152; omega

end Cert.KernelIdeal.Moe

end
-- ==== Proof.Moe.Mixture.lean ====
/-
  The mathematics of the expert mixture, over the extended reals and away from any program: what two experts of a row's
  tile give, and that a sum over all 32 experts, weighted by a row weight that is zero at every other expert, is those two.
-/
module

public import proofs.«01_k».proof.Proof.Moe.Tables
public import Idealize.ShloMosaic.Lib.Pointwise.Tactic
public import Idealize.ShloMosaic.Lib.Pointwise.Index

@[expose] public section

noncomputable section

namespace Cert.Moe

open Idealize.ShloMosaic Idealize.ShloMosaic.WordCmp

/-- The sorted rows, the up and down weights of the experts, and the result. -/
abbrev Rows : Type := (⟨2, ![61440, 1152]⟩ : Shape).Idx → EReal
abbrev Up : Type := (⟨3, ![32, 1024, 256]⟩ : Shape).Idx → EReal
abbrev Down : Type := (⟨3, ![32, 256, 1024]⟩ : Shape).Idx → EReal
abbrev Out : Type := (⟨2, ![61440, 1024]⟩ : Shape).Idx → EReal

/-- The tile of a row. -/
def tileOf (r : Fin 61440) : Fin 240 := ⟨r.val / 256, by omega⟩

/-- A row's product with one column of one expert's up weights. -/
def upDot (x : Rows) (w : Up) (r : Fin 61440) (e : Fin 32) (f : Fin 256) : EReal :=
  ∑ k : Fin 1024, x (ix2 r ⟨k.val, by omega⟩) * w (ix3 e k f)

/-- `silu a * u`, the expert's hidden value. -/
def hidden (a u : EReal) : EReal := a * Ideal.div 1 (1 + Ideal.exp (-a)) * u

/-- What one expert gives a row at one column of the result, its hidden values scaled by `p`. -/
def oneExpert (x : Rows) (wg wu : Up) (wd : Down) (r : Fin 61440) (e : Fin 32) (p : EReal) (d : Fin 1024) : EReal :=
  ∑ f : Fin 256, hidden (upDot x wg r e f) (upDot x wu r e f) * p * wd (ix3 e f d)

/-- The mixture: zero in a tile that is not used, and otherwise the tile's two experts, each at the row's weight for it. -/
def mixture (lo hi : TileTable) (nu : OneWord) (x : Rows) (wg wu : Up) (wd : Down) (hR : InRange lo hi nu) : Out := fun i =>
  if (tileOf (i 0)).val < (nu (ix1 0)).toNat then
    oneExpert x wg wu wd (i 0) ⟨(lo (ix1 (tileOf (i 0)))).toNat, hR.lo_lt _⟩ (x (ix2 (i 0) 1025)) (i 1) +
      oneExpert x wg wu wd (i 0) ⟨(hi (ix1 (tileOf (i 0)))).toNat, hR.hi_lt _⟩ (x (ix2 (i 0) 1026)) (i 1)
  else 0

/-- One row of a one-hot table: one at the word's own expert, zero elsewhere. -/
theorem oneHot (v : BitVec 32) (hv : v.toNat < 32) (e : Fin 32) :
    (FloatOps.uitofp (F := Ideal) .f32 (IntOp.cmpi .eq v (BitVec.ofNat 32 e.val)) : EReal) = if e = ⟨v.toNat, hv⟩ then 1 else 0 := by
  have h : (FloatOps.uitofp (F := Ideal) .f32 (IntOp.cmpi .eq v (BitVec.ofNat 32 e.val)) : EReal)
      = (((IntOp.cmpi .eq v (BitVec.ofNat 32 e.val)).toNat : ℝ) : EReal) := rfl
  rw [h, cmpi_eq_eq]
  by_cases he : e = ⟨v.toNat, hv⟩
  · have : v = BitVec.ofNat 32 e.val := by
      subst he; exact (BitVec.ofNat_toNat 32 v).symm ▸ (by simp)
    rw [if_pos he, decide_eq_true this]
    simp
  · have : ¬v = BitVec.ofNat 32 e.val := fun hh => he (Fin.ext (by
      have h2 := congrArg BitVec.toNat hh
      rw [BitVec.toNat_ofNat] at h2
      show e.val = v.toNat
      omega))
    rw [if_neg he, decide_eq_false this]
    simp

/-- The sum over all experts is the two of the row's tile. -/
theorem sum_experts (H W : Fin 32 → Fin 256 → EReal) (p q : EReal) (lo hi : BitVec 32)
    (hlo : lo.toNat < 32) (hhi : hi.toNat < 32) (hne : lo ≠ hi) :
    ∑ e : Fin 32, ∑ f : Fin 256, H e f * ((FloatOps.uitofp (F := Ideal) .f32 (IntOp.cmpi .eq lo (BitVec.ofNat 32 e.val)) : EReal) * p
        + (FloatOps.uitofp (F := Ideal) .f32 (IntOp.cmpi .eq hi (BitVec.ofNat 32 e.val)) : EReal) * q) * W e f
      = (∑ f : Fin 256, H ⟨lo.toNat, hlo⟩ f * p * W ⟨lo.toNat, hlo⟩ f) + ∑ f : Fin 256, H ⟨hi.toNat, hhi⟩ f * q * W ⟨hi.toNat, hhi⟩ f := by
  have hn : (⟨lo.toNat, hlo⟩ : Fin 32) ≠ ⟨hi.toNat, hhi⟩ := fun h => hne (BitVec.toNat_inj.mp (Fin.mk.inj h))
  rw [Fintype.sum_eq_add (⟨lo.toNat, hlo⟩ : Fin 32) ⟨hi.toNat, hhi⟩ hn]
  · congr 1
    · refine Finset.sum_congr rfl fun f _ => ?_
      rw [oneHot lo hlo, oneHot hi hhi, if_pos rfl, if_neg hn, one_mul, zero_mul, add_zero]
    · refine Finset.sum_congr rfl fun f _ => ?_
      rw [oneHot lo hlo, oneHot hi hhi, if_pos rfl, if_neg hn.symm, one_mul, zero_mul, zero_add]
  · intro e he
    refine Finset.sum_eq_zero fun f _ => ?_
    rw [oneHot lo hlo, oneHot hi hhi, if_neg he.1, if_neg he.2, zero_mul, zero_mul, add_zero, mul_zero, zero_mul]

/-- A tile's number is below a word of at most 240, as the comparison of words has it. -/
theorem tile_slt (j : ℕ) (hj : j < 240) (v : BitVec 32) (hv : v.toNat ≤ 240) :
    (BitVec.ofNat 32 j).toInt < v.toInt ↔ j < v.toNat := by
  have e : (BitVec.ofNat 32 j).toNat = j := by rw [BitVec.toNat_ofNat]; omega
  rw [BitVec.toInt_eq_toNat_of_lt (by omega), BitVec.toInt_eq_toNat_of_lt (by omega), e]
  omega

end Cert.Moe

end
-- ==== Proof.Moe.Value.lean ====
/-
  What one tile of `KernelIdeal`'s expert-mixture call stores, as a function of the blocks it reads, and that value at one element.
-/
module

public import proofs.«01_k».proof.Proof.Moe.KernelIdealOk
public import proofs.«01_k».proof.Proof.Moe.Mixture
public import Idealize.ShloMosaic.Lib.Pipeline.ValueKit.Basic
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.KernelIdeal.Moe

open Cert.KernelIdeal.Gen Cert.Moe
open Idealize.ShloMosaic Idealize.ShloMosaic.TcCoe

section Tile

variable {F : FTy → Type} [FloatOps F]
variable (m : (ℓ : Loc nD τ sig) → Buf (Elt F) ℓ)

/-- The block a used tile stores: the two experts' outputs of its rows, added. -/
def mix (x : Vec F S256x1152 .f32) (gLo uLo : Vec F S1x1024x256 .bf16) (dLo : Vec F S1x256x1024 .bf16)
    (gHi uHi : Vec F S1x1024x256 .bf16) (dHi : Vec F S1x256x1024 .bf16) : Vec F S256x1024 .f32 :=
  k0_pay1
    (k0_pay4 (View.ld x (Rect.unit ![0, 0] ![256, 1024] inb_S256x1152_S256x1024_0_0)) gHi uHi
      (View.ld x (Rect.unit ![0, 1026] ![256, 1] inb_S256x1152_S256x1_0_1026)))
    (k0_pay5 (View.ld x (Rect.unit ![0, 0] ![256, 1024] inb_S256x1152_S256x1024_0_0)) gLo uLo
      (View.ld x (Rect.unit ![0, 1025] ![256, 1] inb_S256x1152_S256x1_0_1025)) dLo)
    dHi

section Run

variable (c : Dev nD) (i : grid0.Coords)

  (arg4 : Memref sig .tc .vmem S256x1152 .f32) (harg4 : arg4.IsWhole)
  (arg5 : Memref sig .tc .vmem S1x1024x256 .bf16) (harg5 : arg5.IsWhole)
  (arg6 : Memref sig .tc .vmem S1x1024x256 .bf16) (harg6 : arg6.IsWhole)
  (arg7 : Memref sig .tc .vmem S1x256x1024 .bf16) (harg7 : arg7.IsWhole)
  (arg8 : Memref sig .tc .vmem S1x1024x256 .bf16) (harg8 : arg8.IsWhole)
  (arg9 : Memref sig .tc .vmem S1x1024x256 .bf16) (harg9 : arg9.IsWhole)
  (arg10 : Memref sig .tc .vmem S1x256x1024 .bf16) (harg10 : arg10.IsWhole)
  (arg11 : Memref sig .tc .vmem S256x1024 .f32) (harg11 : arg11.IsWhole)
variable (x0 : Vec F S256x1152 .f32) (x1 : Vec F S1x1024x256 .bf16) (x2 : Vec F S1x1024x256 .bf16) (x3 : Vec F S1x256x1024 .bf16) (x4 : Vec F S1x1024x256 .bf16) (x5 : Vec F S1x1024x256 .bf16) (x6 : Vec F S1x256x1024 .bf16)
  (xt0 : TbBuf (F := F) c tbM0) (xt1 : TbBuf (F := F) c tbM1) (xt2 : TbBuf (F := F) c tbM2)

theorem runA_value (hc1 : k0_cond1 i (usedWord xt2) = 1#1) (hc2 : ¬k0_cond2 i (usedWord xt2) = 1#1) :
    View.canon (runA c i arg4 harg4 arg5 harg5 arg6 harg6 arg7 harg7 arg8 harg8 arg9 harg9 arg10 harg10 arg11 harg11 x0 x1 x2 x3 x4 x5 x6 xt0 xt1 xt2 hc1 hc2).1
      = mix x0 x1 x2 x3 x4 x5 x6 := by
  delta runA
  dsimp only
  refine (View.canon_cons_unit_lit (S := S256x1024) inb_S256x1024_S256x1024_0_0 _ _ (by decide)).trans ?_
  delta runA.sl.r_1 runA.sl.r_2
  unfold mix
  simp only [View.readAt_eq_ld, Memref.IsWhole.read_unread]
  have h1 : ∀ X : Vec F S1x1024x256 .bf16, View.ld X (Rect.unit ![0, 0, 0] ![1, 1024, 256] inb_S1x1024x256_S1x1024x256_0_0_0) = X :=
    fun X => View.ld_unit_lit (S := S1x1024x256) inb_S1x1024x256_S1x1024x256_0_0_0 X (by decide)
  have h2 : ∀ X : Vec F S1x256x1024 .bf16, View.ld X (Rect.unit ![0, 0, 0] ![1, 256, 1024] inb_S1x256x1024_S1x256x1024_0_0_0) = X :=
    fun X => View.ld_unit_lit (S := S1x256x1024) inb_S1x256x1024_S1x256x1024_0_0_0 X (by decide)
  simp only [h1, h2]

theorem runB_value (hc1 : ¬k0_cond1 i (usedWord xt2) = 1#1) (hc2 : k0_cond2 i (usedWord xt2) = 1#1) :
    View.canon (runB c i arg4 harg4 arg5 harg5 arg6 harg6 arg7 harg7 arg8 harg8 arg9 harg9 arg10 harg10 arg11 harg11 x0 x1 x2 x3 x4 x5 x6 xt0 xt1 xt2 hc1 hc2).1
      = k0_pay2 := by
  delta runB
  dsimp only
  exact View.canon_cons_unit_lit (S := S256x1024) inb_S256x1024_S256x1024_0_0 _ _ (by decide)

end Run

theorem outsAt_used (hO : Ok m) (c : Dev nD) (t : Fin (cfgM m hO).N) (h : k0_cond1 (grid0.coords t) (usedWord (c := c) (tbl m 2)) = 1#1) :
    outsAt m hO c t = mix (iblk m hO c 0 t) (iblk m hO c 1 t) (iblk m hO c 2 t) (iblk m hO c 3 t) (iblk m hO c 4 t) (iblk m hO c 5 t) (iblk m hO c 6 t) := by
  unfold outsAt stores
  rw [dif_pos h]
  exact runA_value ..

theorem outsAt_unused (hO : Ok m) (c : Dev nD) (t : Fin (cfgM m hO).N) (h : ¬k0_cond1 (grid0.coords t) (usedWord (c := c) (tbl m 2)) = 1#1) :
    outsAt m hO c t = k0_pay2 := by
  unfold outsAt stores
  rw [dif_neg h]
  exact runB_value ..

end Tile

/-- A used tile's block at one element, the blocks it reads being rows and experts of the whole arrays. -/
theorem mix_apply (x : Vec Ideal S256x1152 .f32) (gLo uLo : Vec Ideal S1x1024x256 .bf16) (dLo : Vec Ideal S1x256x1024 .bf16)
    (gHi uHi : Vec Ideal S1x1024x256 .bf16) (dHi : Vec Ideal S1x256x1024 .bf16) (r : Fin 256) (d : Fin 1024)
    (xs : Rows) (wg wu : Up) (wd : Down) (row : Fin 61440) (lo hi : Fin 32)
    (hx : ∀ k : Fin 1152, x (ix2 r k) = xs (ix2 row k))
    (hgLo : ∀ (k : Fin 1024) (f : Fin 256), gLo (ix3 0 k f) = wg (ix3 lo k f))
    (huLo : ∀ (k : Fin 1024) (f : Fin 256), uLo (ix3 0 k f) = wu (ix3 lo k f))
    (hdLo : ∀ (f : Fin 256) (d : Fin 1024), dLo (ix3 0 f d) = wd (ix3 lo f d))
    (hgHi : ∀ (k : Fin 1024) (f : Fin 256), gHi (ix3 0 k f) = wg (ix3 hi k f))
    (huHi : ∀ (k : Fin 1024) (f : Fin 256), uHi (ix3 0 k f) = wu (ix3 hi k f))
    (hdHi : ∀ (f : Fin 256) (d : Fin 1024), dHi (ix3 0 f d) = wd (ix3 hi f d)) :
    mix x gLo uLo dLo gHi uHi dHi (ix2 r d)
      = oneExpert xs wg wu wd row lo (xs (ix2 row 1025)) d + oneExpert xs wg wu wd row hi (xs (ix2 row 1026)) d := by
  unfold mix k0_pay1 k0_pay4 k0_pay5 k0_pay3
  pointwise
  simp only [hx, hgLo, huLo, hdLo, hgHi, huHi, hdHi]
  rfl

/-- An unused tile's block is zero. -/
theorem zero_apply (r : Fin 256) (d : Fin 1024) : (k0_pay2 (F := Ideal)) (ix2 r d) = (0 : EReal) := by
  unfold k0_pay2
  exact Ideal.ofBits_zero_f32

end Cert.KernelIdeal.Moe

end
-- ==== Proof.Moe.Array.lean ====
/-
  The blocks of `KernelIdeal`'s expert-mixture call at their coordinates in the whole arrays, and the whole result: the mixture of
  the arguments.
-/
module

public import proofs.«01_k».proof.Proof.Moe.Value
public import Idealize.ShloMosaic.Lib.Pipeline.Value
public import Idealize.ShloMosaic.Lib.Pipeline.Covers
public import Idealize.ShloMosaic.Lib.Pipeline.ValueKit.Geometry

@[expose] public section

set_option maxRecDepth 16384

noncomputable section

namespace Cert.KernelIdeal.Moe

open Cert.KernelIdeal Cert.KernelIdeal.Gen Cert.Moe
open Idealize.ShloMosaic Idealize.ShloMosaic.TcCoe

variable (m : (ℓ : Loc nD τ sig) → Buf (Elt Ideal) ℓ) (ρ : Dev nD → PrngReg)

/-- The tile a point works on. -/
abbrev tileAt (hO : Ok m) (t : Fin (cfgM m hO).N) : Fin 240 := grid0.coords t 0

/-- The tables' words at a point. -/
theorem used_eq (c : Dev nD) : usedWord (c := c) (tbl m 2) = (tbl m 2 : OneWord) (ix1 0) :=
  congrArg (tbl m 2 : OneWord) (Subsingleton.elim (h := oneWord_idx) _ _)
theorem at_eq (k : Fin 240) (h : ∀ a, (![(Scalar.indexCast (BitVec.ofNat 32 k.val)).toNat] : Fin 1 → Nat) a + S1.size a ≤ S240.size a) (i : S1.Idx) :
    (Rect.unit (s := S240) ![(Scalar.indexCast (BitVec.ofNat 32 k.val)).toNat] S1.size h).emb i = ix1 k := by
  funext a
  refine Fin.ext ?_
  rw [Rect.emb_apply]
  obtain rfl : a = 0 := Subsingleton.elim _ _
  have h1 : (i 0).val = 0 := by have := (i 0).isLt; have e : S1.size 0 = 1 := rfl; omega
  show (BitVec.ofNat 32 k.val).toNat + 1 * (i 0).val = k.val
  rw [BitVec.toNat_ofNat, h1]
  have := k.isLt
  omega

variable (hR : InRange (tbl m 0) (tbl m 1) (tbl m 2)) (hO : Ok m) (c : Dev nD) (t : Fin (cfgM m hO).N)

/-- The row of the whole array at row `r` of tile `j`. -/
def rowOf (j : Fin 240) (r : Fin 256) : Fin 61440 := ⟨j.val * 256 + r.val, by omega⟩

include hR in
/-- A used tile's rows. -/
theorem iblk0_at (hj : (tileAt m hO t).val < ((tbl m 2 : OneWord) (ix1 0)).toNat) (r : Fin 256) (k : Fin 1152) :
    (iblk m hO c 0 t : Vec Ideal S256x1152 .f32) (ix2 r k) = (m ((c.tc : Thread nD τ).loc main_arg3) : Rows) (ix2 (rowOf (tileAt m hO t) r) k) := by
  refine congrArg (m ((c.tc : Thread nD τ).loc main_arg3) : Rows) (funext fun a => Fin.ext ?_)
  refine (Pipeline.Window.rect_emb_val ((cfgM m hO).win 0) t (ix2 r k) a).trans ?_
  fin_cases a
  · show (Scalar.minsi (BitVec.ofNat 32 (grid0.coords t 0).val) (Scalar.subi (usedWord (c := c) (tbl m 2)) 1#32)).toNat * 256 + r.val = (grid0.coords t 0).val * 256 + r.val
    rw [used_eq, tile_lt _ _ (hR.nu_pos _) (hR.nu_le _)]
    have : (grid0.coords t 0).val < ((tbl m 2 : OneWord) (ix1 0)).toNat := hj
    omega
  · show 0 * 1152 + k.val = k.val
    omega

theorem iblk1_at (k : Fin 1024) (f : Fin 256) : (iblk m hO c 1 t : Vec Ideal S1x1024x256 .bf16) (ix3 0 k f)
    = (m ((c.tc : Thread nD τ).loc main_arg4) : Up) (ix3 ⟨((tbl m 0 : TileTable) (ix1 (tileAt m hO t))).toNat, hR.lo_lt _⟩ k f) := by
  refine congrArg (m ((c.tc : Thread nD τ).loc main_arg4) : Up) (funext fun a => Fin.ext ?_)
  refine (Pipeline.Window.rect_emb_val ((cfgM m hO).win 1) t (ix3 0 k f) a).trans ?_
  fin_cases a
  · exact (Nat.mul_one _).trans (congrArg (fun i => BitVec.toNat ((tbl m 0 : TileTable) i)) (at_eq (tileAt m hO t) _ _))
  · show 0 * 1024 + k.val = k.val
    omega
  · show 0 * 256 + f.val = f.val
    omega

theorem iblk2_at (k : Fin 1024) (f : Fin 256) : (iblk m hO c 2 t : Vec Ideal S1x1024x256 .bf16) (ix3 0 k f)
    = (m ((c.tc : Thread nD τ).loc main_arg5) : Up) (ix3 ⟨((tbl m 0 : TileTable) (ix1 (tileAt m hO t))).toNat, hR.lo_lt _⟩ k f) := by
  refine congrArg (m ((c.tc : Thread nD τ).loc main_arg5) : Up) (funext fun a => Fin.ext ?_)
  refine (Pipeline.Window.rect_emb_val ((cfgM m hO).win 2) t (ix3 0 k f) a).trans ?_
  fin_cases a
  · exact (Nat.mul_one _).trans (congrArg (fun i => BitVec.toNat ((tbl m 0 : TileTable) i)) (at_eq (tileAt m hO t) _ _))
  · show 0 * 1024 + k.val = k.val
    omega
  · show 0 * 256 + f.val = f.val
    omega

theorem iblk3_at (k : Fin 256) (f : Fin 1024) : (iblk m hO c 3 t : Vec Ideal S1x256x1024 .bf16) (ix3 0 k f)
    = (m ((c.tc : Thread nD τ).loc main_arg6) : Down) (ix3 ⟨((tbl m 0 : TileTable) (ix1 (tileAt m hO t))).toNat, hR.lo_lt _⟩ k f) := by
  refine congrArg (m ((c.tc : Thread nD τ).loc main_arg6) : Down) (funext fun a => Fin.ext ?_)
  refine (Pipeline.Window.rect_emb_val ((cfgM m hO).win 3) t (ix3 0 k f) a).trans ?_
  fin_cases a
  · exact (Nat.mul_one _).trans (congrArg (fun i => BitVec.toNat ((tbl m 0 : TileTable) i)) (at_eq (tileAt m hO t) _ _))
  · show 0 * 256 + k.val = k.val
    omega
  · show 0 * 1024 + f.val = f.val
    omega

theorem iblk4_at (k : Fin 1024) (f : Fin 256) : (iblk m hO c 4 t : Vec Ideal S1x1024x256 .bf16) (ix3 0 k f)
    = (m ((c.tc : Thread nD τ).loc main_arg4) : Up) (ix3 ⟨((tbl m 1 : TileTable) (ix1 (tileAt m hO t))).toNat, hR.hi_lt _⟩ k f) := by
  refine congrArg (m ((c.tc : Thread nD τ).loc main_arg4) : Up) (funext fun a => Fin.ext ?_)
  refine (Pipeline.Window.rect_emb_val ((cfgM m hO).win 4) t (ix3 0 k f) a).trans ?_
  fin_cases a
  · exact (Nat.mul_one _).trans (congrArg (fun i => BitVec.toNat ((tbl m 1 : TileTable) i)) (at_eq (tileAt m hO t) _ _))
  · show 0 * 1024 + k.val = k.val
    omega
  · show 0 * 256 + f.val = f.val
    omega

theorem iblk5_at (k : Fin 1024) (f : Fin 256) : (iblk m hO c 5 t : Vec Ideal S1x1024x256 .bf16) (ix3 0 k f)
    = (m ((c.tc : Thread nD τ).loc main_arg5) : Up) (ix3 ⟨((tbl m 1 : TileTable) (ix1 (tileAt m hO t))).toNat, hR.hi_lt _⟩ k f) := by
  refine congrArg (m ((c.tc : Thread nD τ).loc main_arg5) : Up) (funext fun a => Fin.ext ?_)
  refine (Pipeline.Window.rect_emb_val ((cfgM m hO).win 5) t (ix3 0 k f) a).trans ?_
  fin_cases a
  · exact (Nat.mul_one _).trans (congrArg (fun i => BitVec.toNat ((tbl m 1 : TileTable) i)) (at_eq (tileAt m hO t) _ _))
  · show 0 * 1024 + k.val = k.val
    omega
  · show 0 * 256 + f.val = f.val
    omega

theorem iblk6_at (k : Fin 256) (f : Fin 1024) : (iblk m hO c 6 t : Vec Ideal S1x256x1024 .bf16) (ix3 0 k f)
    = (m ((c.tc : Thread nD τ).loc main_arg6) : Down) (ix3 ⟨((tbl m 1 : TileTable) (ix1 (tileAt m hO t))).toNat, hR.hi_lt _⟩ k f) := by
  refine congrArg (m ((c.tc : Thread nD τ).loc main_arg6) : Down) (funext fun a => Fin.ext ?_)
  refine (Pipeline.Window.rect_emb_val ((cfgM m hO).win 6) t (ix3 0 k f) a).trans ?_
  fin_cases a
  · exact (Nat.mul_one _).trans (congrArg (fun i => BitVec.toNat ((tbl m 1 : TileTable) i)) (at_eq (tileAt m hO t) _ _))
  · show 0 * 256 + k.val = k.val
    omega
  · show 0 * 1024 + f.val = f.val
    omega

/-- The result: the mixture of the arguments. -/
def result : Out := mixture (tbl m 0) (tbl m 1) (tbl m 2) (m ((c.tc : Thread nD τ).loc main_arg3)) (m ((c.tc : Thread nD τ).loc main_arg4))
  (m ((c.tc : Thread nD τ).loc main_arg5)) (m ((c.tc : Thread nD τ).loc main_arg6)) hR

/-- A tile's rows lie in that tile. -/
theorem tileOf_rowOf (j : Fin 240) (r : Fin 256) : tileOf (rowOf j r) = j := Fin.ext (by show (j.val * 256 + r.val) / 256 = j.val; omega)

/-- What point `t` stores, at one element. -/
theorem outsAt_at (r : Fin 256) (d : Fin 1024) : (outsAt m hO c t) (ix2 r d) = result m hR c (ix2 (rowOf (tileAt m hO t) r) d) := by
  have hc : k0_cond1 (grid0.coords t) (usedWord (c := c) (tbl m 2)) = 1#1 ↔ (tileAt m hO t).val < ((tbl m 2 : OneWord) (ix1 0)).toNat := by
    exact (cond1_iff _ _).trans ((iff_of_eq (congrArg (fun v : BitVec 32 => (BitVec.ofNat 32 (tileAt m hO t).val).toInt < v.toInt) (used_eq m c))).trans
      (tile_slt _ (tileAt m hO t).isLt _ (hR.nu_le _)))
  unfold result mixture
  by_cases hj : (tileAt m hO t).val < ((tbl m 2 : OneWord) (ix1 0)).toNat
  · rw [outsAt_used m hO c t (hc.mpr hj)]
    refine (mix_apply _ _ _ _ _ _ _ r d _ _ _ _ (rowOf (tileAt m hO t) r) _ _ (fun k => iblk0_at m hR hO c t hj r k) (iblk1_at m hR hO c t)
      (iblk2_at m hR hO c t) (iblk3_at m hR hO c t) (iblk4_at m hR hO c t) (iblk5_at m hR hO c t) (iblk6_at m hR hO c t)).trans ?_
    have e : tileOf ((ix2 (rowOf (tileAt m hO t) r) d : (⟨2, ![61440, 1024]⟩ : Shape).Idx) 0) = tileAt m hO t := tileOf_rowOf _ _
    simp only [e]
    exact (if_pos hj).symm
  · rw [outsAt_unused m hO c t (fun h => hj (hc.mp h))]
    refine (zero_apply r d).trans ?_
    have e : tileOf ((ix2 (rowOf (tileAt m hO t) r) d : (⟨2, ![61440, 1024]⟩ : Shape).Idx) 0) = tileAt m hO t := tileOf_rowOf _ _
    simp only [e]
    exact (if_neg hj).symm

theorem flushed_eq : (dats m hO 0 c).flushed 7 t = (((cfgM m hO).win 7).blk t).view.read (Elt Ideal) (result m hR c) := by
  refine funext fun (y : S256x1024.Idx) => ?_
  show (dats m hO 0 c).after 7 t _ = _
  rw [after7]
  obtain ⟨r, d, rfl⟩ : ∃ (r : Fin 256) (d : Fin 1024), y = ix2 r d := ⟨y 0, y 1, eq_ix2 _⟩
  refine (outsAt_at m hR hO c t r d).trans (congrArg (result m hR c) (funext fun a => Fin.ext ?_))
  refine Eq.trans ?_ (Pipeline.Window.rect_emb_val ((cfgM m hO).win 7) t (ix2 r d) a).symm
  fin_cases a
  · show (tileAt m hO t).val * 256 + r.val = (BitVec.ofNat 32 (tileAt m hO t).val).toNat * 256 + r.val
    rw [BitVec.toNat_ofNat, Nat.mod_eq_of_lt (by have := (tileAt m hO t).isLt; omega)]
  · show d.val = 0 * 1024 + d.val
    omega

theorem cover (i : S61440x1024.Idx) : ∃ t : Fin (cfgM m hO).N, ((cfgM m hO).win 7).flush t = true ∧ i ∈ (((cfgM m hO).win 7).blk t).view.set := by
  have h0 : (i 0).val < 61440 := (i 0).isLt
  have h1 : (i 1).val < 1024 := (i 1).isLt
  obtain ⟨t, ht⟩ := grid0.coords_surjective (fun a => ⟨(i 0).val / 256, by fin_cases a; show _ < 240; omega⟩)
  have e : (tileAt m hO t).val = (i 0).val / 256 := congrArg (fun x => (x 0).val) ht
  refine ⟨t, flush7 _ t, ?_⟩
  refine (congrArg (i ∈ ·) (View.set_slice_whole main_v0 (((cfgM m hO).win 7).rect t))).mpr ?_
  refine (Pipeline.Window.mem_rect_iff ((cfgM m hO).win 7) t i).mpr fun a => ?_
  fin_cases a
  · show (BitVec.ofNat 32 (tileAt m hO t).val).toNat * 256 ≤ (i 0).val ∧ (i 0).val < (BitVec.ofNat 32 (tileAt m hO t).val).toNat * 256 + 256
    rw [BitVec.toNat_ofNat, Nat.mod_eq_of_lt (by have := (tileAt m hO t).isLt; omega), e]
    omega
  · show 0 * 1024 ≤ (i 1).val ∧ (i 1).val < 0 * 1024 + 1024
    omega

/-- So the result array ends holding the mixture. -/
theorem final7 : (dats m hO 0 c).arrAt 7 (cfgM m hO).N = result m hR c :=
  (dats m hO 0 c).arrAt_eq_of_cover 7 (result m hR c) (fun t _ => flushed_eq m hR hO c t) (cover m hO)

/-- Every run ends with the mixture in the result, the arguments unchanged. -/
theorem run : θ_run defs (onTc (τ := τ) (main (F := Ideal))) ⟨m, fun _ => 0, ρ⟩ (fun r => ∀ c : Dev nD,
      r.2.mem ((c.tc : Thread nD τ).loc main_v0) = result m hR c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m hR (ok_of_inRange m hR) c), args_of_post m (ok_of_inRange m hR) h c⟩)
    (run_main m ρ (ok_of_inRange m hR))

end Cert.KernelIdeal.Moe

end
-- ==== Proof.Moe.Reference.lean ====
/-
  The reference's expert mixture at one result element: every expert computed on the row, weighted by the row's own weight
  for that expert.
-/
module

public import proofs.«01_k».proof.Proof.Gen.ReferenceIdeal
public import proofs.«01_k».proof.Proof.Gen.ReferenceIdeal.Run
public import proofs.«01_k».proof.Proof.Moe.Mixture
public import Idealize.ShloMosaic.Lib.Quiescent
public import Idealize.ShloMosaic.Lib.Pointwise.Tactic
public import Idealize.ShloMosaic.Lib.Pointwise.Sums
public import Idealize.ShloMosaic.Lib.Pointwise.Contract
public import Idealize.ShloMosaic.Lib.Pointwise.Reshape
public import Idealize.ShloMosaic.Lib.Pointwise.Select

@[expose] public section

set_option maxRecDepth 16384

noncomputable section

namespace Cert.ReferenceIdeal.Moe

open Idealize.ShloMosaic Idealize.ShloMosaic.TcCoe Idealize.ShloMosaic.WordCmp Cert.Moe
open Cert.ReferenceIdeal Cert.ReferenceIdeal.Gen

variable (m : (ℓ : Loc nD τ sig) → Buf (Elt Ideal) ℓ) (ρ : Dev nD → PrngReg)

/-- Every run of the reference ends with the mixture in the result, its arguments unchanged. -/
theorem run (hR : ∀ c : Dev nD, InRange (m ((c.tc : Thread nD τ).loc main_arg0)) (m ((c.tc : Thread nD τ).loc main_arg1)) (m ((c.tc : Thread nD τ).loc main_arg2))) :
    θ_run defs (onTc (τ := τ) (main (F := Ideal))) ⟨m, fun _ => 0, ρ⟩ fun r => ∀ c : Dev nD,
      r.2.mem ((c.tc : Thread nD τ).loc main_v35) = mixture (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) (hR c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c₀ => ⟨?_, (h c₀).2⟩) (Cert.ReferenceIdeal.Value.run (F := Ideal) m ρ)
  rw [(h c₀).1]
  replace hR := hR c₀
  clear h
  funext i
  idx_vars i
  pointwise
  have hz : @id (FVec Ideal S_ .f32) (constant S_ FTy.f32 0#32) ix0 = (0 : EReal) := Ideal.ofBits_zero_f32
  have hslt : ∀ a b : EReal, Scalar.select (IntOp.cmpi CmpIPredicate.slt (BitVec.ofNat 32 (i0.val / 256)) (m ((c₀.tc : Thread nD τ).loc main_arg2) (ix1 0))) a b
      = if i0.val / 256 < (m ((c₀.tc : Thread nD τ).loc main_arg2) (ix1 0) : BitVec 32).toNat then a else b := by
    intro a b
    rw [cmpi_slt_eq]
    have := tile_slt (i0.val / 256) (by omega) (m ((c₀.tc : Thread nD τ).loc main_arg2) (ix1 0)) (hR.nu_le _)
    by_cases hj : i0.val / 256 < (m ((c₀.tc : Thread nD τ).loc main_arg2) (ix1 0) : BitVec 32).toNat
    · rw [if_pos hj, decide_eq_true (this.mpr hj)]; rfl
    · rw [if_neg hj, decide_eq_false (fun h => hj (this.mp h))]; rfl
  simp only [hz, hslt]
  unfold mixture
  by_cases hj : i0.val / 256 < (m ((c₀.tc : Thread nD τ).loc main_arg2) (ix1 0) : BitVec 32).toNat
  · simp only [if_pos hj]
    refine Eq.trans ?_ (if_pos hj).symm
    exact sum_experts (fun e f => hidden (upDot (m ((c₀.tc : Thread nD τ).loc main_arg3)) (m ((c₀.tc : Thread nD τ).loc main_arg4)) i0 e f)
        (upDot (m ((c₀.tc : Thread nD τ).loc main_arg3)) (m ((c₀.tc : Thread nD τ).loc main_arg5)) i0 e f))
      (fun e f => m ((c₀.tc : Thread nD τ).loc main_arg6) (ix3 e f i1)) _ _ _ _ (hR.lo_lt _) (hR.hi_lt _) (hR.ne _)
  · simp only [if_neg hj]
    refine Eq.trans ?_ (if_neg hj).symm
    refine Finset.sum_eq_zero fun e _ => Finset.sum_eq_zero fun f _ => ?_
    exact (congrArg (· * _) (mul_zero _)).trans (zero_mul _)

/-- The reference's frame: its arguments unchanged, its counters at zero. -/
theorem frame : θ_run defs (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2, sem_eq_zero_of_no_sems rfl r.2⟩) (Cert.ReferenceIdeal.Value.run (F := Ideal) m ρ)

end Cert.ReferenceIdeal.Moe

end
-- ==== Proof.Moe.Algebraic.lean ====
/-
  The idealized expert-mixture call and the reference end with the same result: each with the mixture of its arguments.
-/
module

public import proofs.«01_k».proof.Proof.Moe.Array
public import proofs.«01_k».proof.Proof.Moe.Reference

@[expose] public section

noncomputable section

namespace Cert.Moe

open Idealize.ShloMosaic Idealize.SL.Sem

/-- The mixture depends on its arguments alone. -/
theorem mixture_congr {lo lo' hi hi' : TileTable} {nu nu' : OneWord} {x x' : Rows} {wg wg' wu wu' : Up} {wd wd' : Down}
    (h0 : lo' = lo) (h1 : hi' = hi) (h2 : nu' = nu) (h3 : x' = x) (h4 : wg' = wg) (h5 : wu' = wu) (h6 : wd' = wd)
    (hR : InRange lo hi nu) (hR' : InRange lo' hi' nu') : mixture lo' hi' nu' x' wg' wu' wd' hR' = mixture lo hi nu x wg wu wd hR := by
  subst h0 h1 h2 h3 h4 h5 h6; rfl

theorem algebraic (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hR : InRange (Cert.KernelIdeal.Moe.tbl m 0) (Cert.KernelIdeal.Moe.tbl m 1) (Cert.KernelIdeal.Moe.tbl m 2))
    (hm : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))) :
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) := by
  refine ⟨fun c => Cert.KernelIdeal.Moe.result m hR c, Cert.KernelIdeal.Moe.run m g hR, ?_⟩
  have hR' : ∀ c : Dev Cert.ReferenceIdeal.nD, InRange (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) := fun c => by
    obtain rfl : c = 0 := Subsingleton.elim _ _
    obtain ⟨h0, h1, h2, -⟩ := hm 0
    rw [h0, h1, h2]
    exact hR
  refine (θ_run Cert.ReferenceIdeal.defs _ _).mono (fun r h c => ⟨(h c).1.trans ?_, (h c).2⟩) (Cert.ReferenceIdeal.Moe.run m' g' hR')
  obtain rfl : c = 0 := Subsingleton.elim _ _
  obtain ⟨h0, h1, h2, h3, h4, h5, h6⟩ := hm 0
  exact mixture_congr h0 h1 h2 h3 h4 h5 h6 hR (hR' 0)

end Cert.Moe

end
-- ==== Proof.Proj.KernelIdeal.lean ====
/-
  The frame of the idealized input projection: the launch, what the body stores in each block of the eight results, and the run.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- rectangles with long axes take deep recursion
set_option maxRecDepth 16384

noncomputable section

namespace Cert.Kernel2Ideal.Proj

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1x6x1024 := Rect.unit (s := S1x6x1024) ![0, 1, 0] S1x1x1024.size inb_S1x6x1024_S1x1x1024_0_1_0
abbrev r0_3 : Rect S1x6x1024 := Rect.unit (s := S1x6x1024) ![0, 0, 0] S1x1x1024.size inb_S1x6x1024_S1x1x1024_0_0_0
abbrev r0_4 : Rect S1024x3584 := Rect.unit (s := S1024x3584) ![0, 0] S1024x512.size inb_S1024x3584_S1024x512_0_0
abbrev r0_5 : Rect S1024x3584 := Rect.unit (s := S1024x3584) ![0, 1536] S1024x1024.size inb_S1024x3584_S1024x1024_0_1536
abbrev r0_6 : Rect S128x1 := Rect.unit (s := S128x1) ![0, 0] S128x1.size inb_S128x1_S128x1_0_0
abbrev r0_7 : Rect S1x1x512 := Rect.unit (s := S1x1x512) ![0, 0, 0] S1x1x512.size inb_S1x1x512_S1x1x512_0_0_0
abbrev r0_8 : Rect S1x256 := Rect.unit (s := S1x256) ![0, 0] S1x256.size inb_S1x256_S1x256_0_0
abbrev r0_9 : Rect S256x1536 := Rect.unit (s := S256x1536) ![0, 0] S256x1536.size inb_S256x1536_S256x1536_0_0
abbrev r0_10 : Rect S1x128 := Rect.unit (s := S1x128) ![0, 0] S1x128.size inb_S1x128_S1x128_0_0
abbrev r0_11 : Rect S128x512 := Rect.unit (s := S128x512) ![0, 0] S128x512.size inb_S128x512_S128x512_0_0
abbrev r0_12 : Rect S640x128 := Rect.unit (s := S640x128) ![0, 0] S640x128.size inb_S640x128_S640x128_0_0
abbrev r0_13 : Rect S640x1 := Rect.unit (s := S640x1) ![0, 0] S640x1.size inb_S640x1_S640x1_0_0
abbrev r0_14 : Rect S1x640x512 := Rect.unit (s := S1x640x512) ![0, 0, 0] S1x640x512.size inb_S1x640x512_S1x640x512_0_0_0
abbrev r0_15 : Rect S1024x3584 := Rect.unit (s := S1024x3584) ![0, 2560] S1024x1024.size inb_S1024x3584_S1024x1024_0_2560
abbrev r0_16 : Rect S512x1024 := Rect.unit (s := S512x1024) ![0, 0] S512x128.size inb_S512x1024_S512x128_0_0
abbrev r0_17 : Rect S512x1024 := Rect.unit (s := S512x1024) ![0, 128] S512x128.size inb_S512x1024_S512x128_0_128
abbrev r0_18 : Rect S512x1024 := Rect.unit (s := S512x1024) ![0, 256] S512x128.size inb_S512x1024_S512x128_0_256
abbrev r0_19 : Rect S512x1024 := Rect.unit (s := S512x1024) ![0, 384] S512x128.size inb_S512x1024_S512x128_0_384
abbrev r0_20 : Rect S512x1024 := Rect.unit (s := S512x1024) ![0, 512] S512x128.size inb_S512x1024_S512x128_0_512
abbrev r0_21 : Rect S512x1024 := Rect.unit (s := S512x1024) ![0, 640] S512x128.size inb_S512x1024_S512x128_0_640
abbrev r0_22 : Rect S512x1024 := Rect.unit (s := S512x1024) ![0, 768] S512x128.size inb_S512x1024_S512x128_0_768
abbrev r0_23 : Rect S512x1024 := Rect.unit (s := S512x1024) ![0, 896] S512x128.size inb_S512x1024_S512x128_0_896
abbrev r0_24 : Rect S1024x3584 := Rect.unit (s := S1024x3584) ![0, 512] S1024x512.size inb_S1024x3584_S1024x512_0_512
abbrev r0_25 : Rect S512x512 := Rect.unit (s := S512x512) ![0, 0] S512x512.size inb_S512x512_S512x512_0_0
abbrev r0_26 : Rect S1024x3584 := Rect.unit (s := S1024x3584) ![0, 1024] S1024x512.size inb_S1024x3584_S1024x512_0_1024
abbrev r0_27 : Rect S640x1024 := Rect.unit (s := S640x1024) ![0, 0] S640x1024.size inb_S640x1024_S640x1024_0_0

/-! ## What the body leaves in each output window's buffer -/

/-! ### Values of the body that the stores' payloads, spelt out, would write more than once

    Each is a vector the body binds (often a part call's result), stated over the input windows' blocks and
    numbered on from the skeleton's payload functions (`k0_pay33` …, after `k0_pay32`), so that
    `out0_W` and the values after it name it instead of spelling it out (`unfold_out out0_W` opens a canon
    with them, `unfold_payloads` opens them with the payloads); the comment after each is the printed function's
    name for the value (a count appended where that name is bound again). -/

def k0_pay33 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : FVec F S512x1024 .bf16 :=
  k0_pay3 (View.ld x0 r0_0) (View.ld x3 r0_1) (View.ld x2 r0_2) (View.ld x2 r0_3) -- `v26`
def k0_pay34 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : FVec F S512x128 .f32 :=
  k0_pay6 (View.ld x0 r0_0) (View.ld x3 r0_1) (View.ld x2 r0_2) (View.ld x2 r0_3) (View.ld x4 r0_4) -- `v31`
def k0_pay35 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : FVec F S512x128 .f32 :=
  k0_pay7 (View.ld x0 r0_0) (View.ld x3 r0_1) (View.ld x2 r0_2) (View.ld x2 r0_3) (View.ld x4 r0_4) -- `v32`
def k0_pay36 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : FVec F S512x128 .f32 :=
  k0_pay11 (View.ld x12 r0_6) (View.ld x1 r0_7) -- `v55`
def k0_pay37 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : FVec F S512x128 .f32 :=
  k0_pay12 (View.ld x12 r0_6) (View.ld x1 r0_7) (View.ld x13 r0_6) -- `v65`
def k0_pay38 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : FVec F S512x1536 .f32 :=
  k0_pay14 (k0_pay13 (k0_pay5 (View.ld x0 r0_0) (View.ld x3 r0_1) (View.ld x2 r0_2) (View.ld x2 r0_3) (View.ld x4 r0_4)) (View.ld x5 r0_8)) (View.ld x6 r0_9) -- `v83`
def k0_pay39 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : FVec F S512x512 .f32 :=
  k0_pay16 (k0_pay34 x0 x1 x2 x3 x4 x5 x6 x7 x8 x9 x10 x11 x12 x13) (View.ld x7 r0_10) (View.ld x8 r0_11) -- `v101`
def k0_pay40 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : FVec F S512x128 .bf16 :=
  k0_pay19 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) -- `v122`

/-- Window 14's staging buffer after the body, from the input windows' blocks: its 8 stores as pieces, LAST
    FIRST. -/
def out0_14 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : Vec F S512x1024 .bf16 :=
  View.canon [⟨r0_23, k0_pay30 (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13)⟩,
    ⟨r0_22, k0_pay29 (k0_pay38 x0 x1 x2 x3 x4 x5 x6 x7 x8 x9 x10 x11 x12 x13)⟩,
    ⟨r0_21, k0_pay27 (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13)⟩,
    ⟨r0_20, k0_pay26 (k0_pay38 x0 x1 x2 x3 x4 x5 x6 x7 x8 x9 x10 x11 x12 x13)⟩,
    ⟨r0_19, k0_pay24 (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13)⟩,
    ⟨r0_18, k0_pay23 (k0_pay38 x0 x1 x2 x3 x4 x5 x6 x7 x8 x9 x10 x11 x12 x13)⟩,
    ⟨r0_17, k0_pay21 (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13)⟩,
    ⟨r0_16, k0_pay20 (k0_pay38 x0 x1 x2 x3 x4 x5 x6 x7 x8 x9 x10 x11 x12 x13)⟩]

/-- Its stores tile the buffer (checked by evaluation), so they cover it. -/
theorem cover0_14 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_23, p0⟩, ⟨r0_22, p1⟩, ⟨r0_21, p2⟩, ⟨r0_20, p3⟩, ⟨r0_19, p4⟩, ⟨r0_18, p5⟩, ⟨r0_17, p6⟩, ⟨r0_16, p7⟩] : List (View.Piece (Elt F) S512x1024 .bf16)), y ∈ pc.1.set :=
  View.cover_of_tiled [⟨r0_23, p0⟩, ⟨r0_22, p1⟩, ⟨r0_21, p2⟩, ⟨r0_20, p3⟩, ⟨r0_19, p4⟩, ⟨r0_18, p5⟩, ⟨r0_17, p6⟩, ⟨r0_16, p7⟩] S512x128.size (by rfl) y

/-- Window 15's staging buffer after the body, from the input windows' blocks: its 8 stores as pieces, LAST
    FIRST. -/
def out0_15 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : Vec F S512x1024 .bf16 :=
  View.canon [⟨r0_23, k0_pay40 x0 x1 x2 x3 x4 x5 x6 x7 x8 x9 x10 x11 x12 x13⟩,
    ⟨r0_22, k0_pay31 (k0_pay39 x0 x1 x2 x3 x4 x5 x6 x7 x8 x9 x10 x11 x12 x13)⟩,
    ⟨r0_21, k0_pay40 x0 x1 x2 x3 x4 x5 x6 x7 x8 x9 x10 x11 x12 x13⟩,
    ⟨r0_20, k0_pay28 (k0_pay39 x0 x1 x2 x3 x4 x5 x6 x7 x8 x9 x10 x11 x12 x13)⟩,
    ⟨r0_19, k0_pay40 x0 x1 x2 x3 x4 x5 x6 x7 x8 x9 x10 x11 x12 x13⟩,
    ⟨r0_18, k0_pay25 (k0_pay39 x0 x1 x2 x3 x4 x5 x6 x7 x8 x9 x10 x11 x12 x13)⟩,
    ⟨r0_17, k0_pay19 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13)⟩,
    ⟨r0_16, k0_pay22 (k0_pay39 x0 x1 x2 x3 x4 x5 x6 x7 x8 x9 x10 x11 x12 x13)⟩]

/-- Its stores tile the buffer (checked by evaluation), so they cover it. -/
theorem cover0_15 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_23, p0⟩, ⟨r0_22, p1⟩, ⟨r0_21, p2⟩, ⟨r0_20, p3⟩, ⟨r0_19, p4⟩, ⟨r0_18, p5⟩, ⟨r0_17, p6⟩, ⟨r0_16, p7⟩] : List (View.Piece (Elt F) S512x1024 .bf16)), y ∈ pc.1.set :=
  View.cover_of_tiled [⟨r0_23, p0⟩, ⟨r0_22, p1⟩, ⟨r0_21, p2⟩, ⟨r0_20, p3⟩, ⟨r0_19, p4⟩, ⟨r0_18, p5⟩, ⟨r0_17, p6⟩, ⟨r0_16, p7⟩] S512x128.size (by rfl) y

/-- Window 16's staging buffer after the body, from the input windows' blocks: its 1 store as pieces, LAST
    FIRST. -/
def out0_16 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : Vec F S1x640x512 .bf16 :=
  View.canon [⟨r0_14, k0_pay17 (k0_pay34 x0 x1 x2 x3 x4 x5 x6 x7 x8 x9 x10 x11 x12 x13) (View.ld x7 r0_10) (View.ld x9 r0_12) (View.ld x11 r0_13)⟩]

/-- Its stores tile the buffer (checked by evaluation), so they cover it. -/
theorem cover0_16 (p0 : Vec F S1x640x512 .bf16) (y : S1x640x512.Idx) :
    ∃ pc ∈ ([⟨r0_14, p0⟩] : List (View.Piece (Elt F) S1x640x512 .bf16)), y ∈ pc.1.set :=
  View.cover_of_tiled [⟨r0_14, p0⟩] S1x640x512.size (by rfl) y

/-- Window 17's staging buffer after the body, from the input windows' blocks: its 1 store as pieces, LAST
    FIRST. -/
def out0_17 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : Vec F S512x512 .bf16 :=
  View.canon [⟨r0_25, k0_pay32 (k0_pay33 x0 x1 x2 x3 x4 x5 x6 x7 x8 x9 x10 x11 x12 x13) (View.ld x4 r0_24)⟩]

/-- Its stores tile the buffer (checked by evaluation), so they cover it. -/
theorem cover0_17 (p0 : Vec F S512x512 .bf16) (y : S512x512.Idx) :
    ∃ pc ∈ ([⟨r0_25, p0⟩] : List (View.Piece (Elt F) S512x512 .bf16)), y ∈ pc.1.set :=
  View.cover_of_tiled [⟨r0_25, p0⟩] S512x512.size (by rfl) y

/-- Window 18's staging buffer after the body, from the input windows' blocks: its 1 store as pieces, LAST
    FIRST. -/
def out0_18 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : Vec F S512x512 .bf16 :=
  View.canon [⟨r0_25, k0_pay1 (k0_pay33 x0 x1 x2 x3 x4 x5 x6 x7 x8 x9 x10 x11 x12 x13) (View.ld x4 r0_26)⟩]

/-- Its stores tile the buffer (checked by evaluation), so they cover it. -/
theorem cover0_18 (p0 : Vec F S512x512 .bf16) (y : S512x512.Idx) :
    ∃ pc ∈ ([⟨r0_25, p0⟩] : List (View.Piece (Elt F) S512x512 .bf16)), y ∈ pc.1.set :=
  View.cover_of_tiled [⟨r0_25, p0⟩] S512x512.size (by rfl) y

/-- Window 19's staging buffer after the body, from the input windows' blocks: its 1 store as pieces, LAST
    FIRST. -/
def out0_19 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : Vec F S1x640x512 .bf16 :=
  View.canon [⟨r0_14, k0_pay2 (k0_pay33 x0 x1 x2 x3 x4 x5 x6 x7 x8 x9 x10 x11 x12 x13) (View.ld x10 r0_27) (View.ld x11 r0_13)⟩]

/-- Its stores tile the buffer (checked by evaluation), so they cover it. -/
theorem cover0_19 (p0 : Vec F S1x640x512 .bf16) (y : S1x640x512.Idx) :
    ∃ pc ∈ ([⟨r0_14, p0⟩] : List (View.Piece (Elt F) S1x640x512 .bf16)), y ∈ pc.1.set :=
  View.cover_of_tiled [⟨r0_14, p0⟩] S1x640x512.size (by rfl) y

/-- Window 20's staging buffer after the body, from the input windows' blocks: its 1 store as pieces, LAST
    FIRST. -/
def out0_20 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : Vec F S512x1024 .bf16 :=
  View.canon [⟨r0_0, k0_pay8 (View.ld x0 r0_0) (View.ld x3 r0_1) (View.ld x2 r0_2) (View.ld x2 r0_3) (View.ld x4 r0_5)⟩]

/-- Its stores tile the buffer (checked by evaluation), so they cover it. -/
theorem cover0_20 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 21's staging buffer after the body, from the input windows' blocks: its 1 store as pieces, LAST
    FIRST. -/
def out0_21 (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) : Vec F S512x1024 .bf16 :=
  View.canon [⟨r0_0, k0_pay18 (k0_pay33 x0 x1 x2 x3 x4 x5 x6 x7 x8 x9 x10 x11 x12 x13) (View.ld x4 r0_15)⟩]

/-- Its stores tile the buffer (checked by evaluation), so they cover it. -/
theorem cover0_21 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1x512 .i32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x3584 .bf16) (harg5 : arg5.IsWhole) (arg6 : Memref sig .tc .vmem S1x256 .f32) (harg6 : arg6.IsWhole) (arg7 : Memref sig .tc .vmem S256x1536 .bf16) (harg7 : arg7.IsWhole) (arg8 : Memref sig .tc .vmem S1x128 .f32) (harg8 : arg8.IsWhole) (arg9 : Memref sig .tc .vmem S128x512 .bf16) (harg9 : arg9.IsWhole) (arg10 : Memref sig .tc .vmem S640x128 .bf16) (harg10 : arg10.IsWhole) (arg11 : Memref sig .tc .vmem S640x1024 .bf16) (harg11 : arg11.IsWhole) (arg12 : Memref sig .tc .vmem S640x1 .f32) (harg12 : arg12.IsWhole) (arg13 : Memref sig .tc .vmem S128x1 .f32) (harg13 : arg13.IsWhole) (arg14 : Memref sig .tc .vmem S128x1 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1x640x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S1x640x512 .bf16) (harg20 : arg20.IsWhole) (arg21 : Memref sig .tc .vmem S512x1024 .bf16) (harg21 : arg21.IsWhole) (arg22 : Memref sig .tc .vmem S512x1024 .bf16) (harg22 : arg22.IsWhole)
    (x0 : Vec F S512x1024 .f32) (x1 : Vec F S1x1x512 .i32) (x2 : Vec F S1x6x1024 .f32) (x3 : Vec F S1x1024 .f32) (x4 : Vec F S1024x3584 .bf16) (x5 : Vec F S1x256 .f32) (x6 : Vec F S256x1536 .bf16) (x7 : Vec F S1x128 .f32) (x8 : Vec F S128x512 .bf16) (x9 : Vec F S640x128 .bf16) (x10 : Vec F S640x1024 .bf16) (x11 : Vec F S640x1 .f32) (x12 : Vec F S128x1 .f32) (x13 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13) ∗ owns (c : Thread nD τ) arg21 fullShare (out0_20 x0 x1 x2 x3 x4 x5 x6 x7 x8 x9 x10 x11 x12 x13) ∗ owns (c : Thread nD τ) arg22 fullShare (out0_21 x0 x1 x2 x3 x4 x5 x6 x7 x8 x9 x10 x11 x12 x13)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_proj_eq_skeleton]; unfold cc0_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _ _ _ _ _ _ _ _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame claim: every run ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2Ideal.Proj

end
-- ==== Proof.Proj.Spec.lean ====
/-
  The input projection's eight results as functions of its arguments, element by element: the normalized, modulated row of a token
  through the large weight, and from that row's parts the queries, keys and values of both attentions and the two gates.
-/
module

public import Idealize.ShloMosaic.Lib.Pointwise.Tactic
public import Idealize.ShloMosaic.Lib.Pointwise.Index

@[expose] public section

noncomputable section

namespace Cert.Proj

open Idealize.ShloMosaic

/-- The call's arguments. -/
structure Args where
  x : FVec Ideal ⟨3, ![8, 4096, 1024]⟩ .f32
  pos : IVec ⟨2, ![8, 4096]⟩ 32
  md : FVec Ideal ⟨2, ![8, 6144]⟩ .f32
  gm : FVec Ideal ⟨1, ![1024]⟩ .f32
  wi : FVec Ideal ⟨2, ![1024, 4000]⟩ .f32
  gq : FVec Ideal ⟨1, ![256]⟩ .f32
  uq : FVec Ideal ⟨2, ![256, 768]⟩ .f32
  gk : FVec Ideal ⟨1, ![128]⟩ .f32
  uk : FVec Ideal ⟨2, ![128, 512]⟩ .f32
  uv : FVec Ideal ⟨2, ![128, 512]⟩ .f32

/-- A row normalized by its root mean square (`w`: the row's length as a float word) and scaled by `g`. -/
def nrm {n : Nat} (w : BitVec 32) (v g : Fin n → EReal) (k : Fin n) : EReal :=
  v k * Ideal.rsqrt (Ideal.div (∑ x : Fin n, v x * v x) (Ideal.ofBits .f32 w) + Ideal.ofBits .f32 897988541#32) * g k

/-- The frequencies of the rotary embedding, as float words. -/
def freqWord : Fin 16 → BitVec 32 := ![0x3F800000#32, 0x3F0FF59A#32, 0x3EA1E89B#32, 0x3E361887#32, 0x3DCCCCCD#32, 0x3D6655C3#32, 0x3D0186E2#32, 0x3C91AD39#32,
  0x3C23D70A#32, 0x3BB8449C#32, 0x3B4F3E37#32, 0x3AE91528#32, 0x3A83126F#32, 0x3A136A16#32, 0x39A5CB5F#32, 0x393A7753#32]

variable (A : Args) (b : Fin 8) (s : Fin 4096)

/-- The modulated row of token `(b, s)`. -/
def hid (k : Fin 1024) : EReal :=
  nrm 1149239296#32 (fun x => A.x (ix3 b s x)) (fun x => A.gm (ix1 x)) k * (1 + A.md (ix2 b ⟨1024 + k.val, by omega⟩)) + A.md (ix2 b ⟨k.val, by omega⟩)

/-- That row through the large weight. -/
def prj (j : Fin 4000) : EReal := ∑ k : Fin 1024, hid A b s k * A.wi (ix2 k j)

/-- The normalized query latent. -/
def qlat : Fin 256 → EReal := nrm 1132462080#32 (fun x => prj A b s ⟨x.val, by omega⟩) (fun x => A.gq (ix1 x))

/-- The normalized key and value latent. -/
def klat : Fin 128 → EReal := nrm 1124073472#32 (fun x => prj A b s ⟨256 + x.val, by omega⟩) (fun x => A.gk (ix1 x))

/-- Head `h`'s query. -/
def query (h : Fin 8) (d : Fin 96) : EReal := ∑ x : Fin 256, qlat A b s x * A.uq (ix2 x ⟨h.val * 96 + d.val, by omega⟩)

/-- Head `h`'s row of a weight over the key and value latent. -/
def latent (w : FVec Ideal ⟨2, ![128, 512]⟩ .f32) (h : Fin 8) (d : Fin 64) : EReal :=
  ∑ x : Fin 128, klat A b s x * w (ix2 x ⟨h.val * 64 + d.val, by omega⟩)

/-- The rotary angle of a position at a frequency. -/
def angle (d : Fin 16) : EReal := FloatOps.sitofp (F := Ideal) .f32 (A.pos (ix2 b s)) * Ideal.ofBits .f32 (freqWord d)

/-- The rotary embedding of 32 numbers: the first half rotated with the second. -/
def rope (v : Fin 32 → EReal) (d : Fin 32) : EReal :=
  if h : d.val < 16 then v d * Ideal.cos (angle A b s ⟨d.val, h⟩) - v ⟨16 + d.val, by omega⟩ * Ideal.sin (angle A b s ⟨d.val, h⟩)
  else v ⟨16 + (d.val - 16), by omega⟩ * Ideal.cos (angle A b s ⟨d.val - 16, by omega⟩) + v ⟨d.val - 16, by omega⟩ * Ideal.sin (angle A b s ⟨d.val - 16, by omega⟩)

/-- Column `j` of the pair layout: two heads' plain parts, then their rotary parts, then zeros. -/
def pairAt (n : Fin 8 → Fin 64 → EReal) (r : Fin 8 → Fin 32 → EReal) (j : Fin 1024) : EReal :=
  if h : j.val % 256 < 128 then n ⟨j.val / 256 * 2 + j.val % 256 / 64, by omega⟩ ⟨j.val % 64, by omega⟩
  else if h : j.val % 256 < 192 then r ⟨j.val / 256 * 2 + j.val % 64 / 32, by omega⟩ ⟨j.val % 32, by omega⟩
  else 0

/-- Row `n` of the value layout: a head's 64 values, a one, and 15 zeros. -/
def colAt (v : Fin 8 → Fin 64 → EReal) (n : Fin 640) : EReal :=
  if h : n.val % 80 < 64 then v ⟨n.val / 80, by omega⟩ ⟨n.val % 80, h⟩ else if n.val % 80 = 64 then 1 else 0

/-- The scale of the first attention's queries. -/
def scaleA : EReal := Ideal.ofBits .f32 1041680192#32
/-- The scale of the second attention's queries. -/
def scaleB : EReal := Ideal.ofBits .f32 1043900987#32

/-- First attention: the queries, the keys and the values. -/
def qaAt (j : Fin 1024) : EReal :=
  pairAt (fun h d => query A b s h ⟨d.val, by omega⟩ * scaleA) (fun h d => rope A b s (fun e => query A b s h ⟨64 + e.val, by omega⟩) d * scaleA) j
def kaAt (j : Fin 1024) : EReal := pairAt (latent A b s A.uk) (fun _ d => rope A b s (fun e => prj A b s ⟨384 + e.val, by omega⟩) d) j
def vaAt (n : Fin 640) : EReal := colAt (latent A b s A.uv) n

/-- Second attention: the queries, the keys and the values. -/
def qbAt (j : Fin 512) : EReal := prj A b s ⟨416 + j.val, by omega⟩ * scaleB
def kbAt (j : Fin 512) : EReal := prj A b s ⟨928 + j.val, by omega⟩
def vbAt (n : Fin 640) : EReal := colAt (fun h d => prj A b s ⟨1440 + (h.val * 64 + d.val), by omega⟩) n

/-- The gates. -/
def gaAt (j : Fin 1024) : EReal := Ideal.logistic (prj A b s ⟨1952 + j.val, by omega⟩)
def gbAt (j : Fin 1024) : EReal := Ideal.logistic (prj A b s ⟨2976 + j.val, by omega⟩)

/-- An array with one row per token. -/
def rows {n : Nat} (f : Fin 8 → Fin 4096 → Fin n → EReal) : FVec Ideal ⟨2, ![32768, n]⟩ .bf16 := fun i =>
  f ⟨(i 0).val / 4096, by have h : (i 0).val < 32768 := (i 0).isLt; omega⟩ ⟨(i 0).val % 4096, by omega⟩ (i 1)

/-- An array with one column per token of its batch. -/
def cols (f : Fin 8 → Fin 4096 → Fin 640 → EReal) : FVec Ideal ⟨3, ![8, 640, 4096]⟩ .bf16 := fun i => f (i 0) (i 2) (i 1)

end Cert.Proj

end
-- ==== Proof.Proj.Weights.lean ====
/-
  The arrays the host part of `Kernel2Ideal` lays out for the call, read at an index: the large weight's columns reordered, the
  query weight split into plain and rotary columns with zeros between, the value weights transposed and padded, the sixteen
  frequencies and their signs repeated over 128 lanes.
-/
module

public import proofs.«01_k».proof.Proof.Proj.KernelIdeal
public import proofs.«01_k».proof.Proof.Proj.Spec
public import Idealize.ShloMosaic.Lib.Pointwise.Tactic
public import Idealize.ShloMosaic.Lib.Pointwise.Sums
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Kernel2Ideal.Proj

open Cert.Kernel2Ideal.Gen Cert.Proj
open Idealize.ShloMosaic Idealize.ShloMosaic.TcCoe Idealize.ShloMosaic.StableHlo

/-! ## The two gathers of exchanged halves -/

/-- The table of columns: the second half of 32 before the first. -/
def swapIdx : IVec S32x1 32 :=
  broadcastInDim S32x1 ![0] bcast_S32_S32x1_0 (select (constantI S32 1 0#1) (addi (fun i => lit0 (S32.rowMajor i)) (broadcastInDim S32 ![] bcast_S_S32 (constantI S_ 32 32#32)))
    (fun i => lit0 (S32.rowMajor i)))

theorem lit0_eq (q : Fin 32) : (lit0 q).toInt.toNat = (q.val + 16) % 32 := by fin_cases q <;> rfl
theorem flat_pos (q : Fin 32) : S32.rowMajor (ix1 q) = q := by fin_cases q <;> rfl

theorem swapIdx_at (q : Fin 32) : (swapIdx (ix2 q 0)).toInt.toNat = (q.val + 16) % 32 := by
  have e : swapIdx (ix2 q 0) = lit0 (S32.rowMajor (ix1 q)) := by
    unfold swapIdx
    pointwise
  rw [e, flat_pos, lit0_eq]

theorem gather2_at (x : FVec Ideal S1024x32 .f32) (k : Fin 1024) (q : Fin 32) :
    Host.gather gather_S1024x32_S32x1_S1024x32_0_1_n_n_1_1_10241 x swapIdx (ix2 k q) = x (ix2 k ⟨(q.val + 16) % 32, by omega⟩) := by
  unfold Host.gather
  refine congrArg x (funext fun a => Fin.ext ?_)
  fin_cases a
  · show 0 + 0 + k.val = k.val
    omega
  · show min (swapIdx _).toInt.toNat 31 + 0 + 0 = (q.val + 16) % 32
    refine (congrArg (fun i => min (swapIdx i).toInt.toNat 31 + 0 + 0) (show _ = (ix2 q 0 : S32x1.Idx) from ?_)).trans ?_
    · funext b; fin_cases b <;> rfl
    · rw [swapIdx_at]; omega

theorem gather3_at (x : FVec Ideal S256x8x32 .f32) (k : Fin 256) (h : Fin 8) (q : Fin 32) :
    Host.gather gather_S256x8x32_S32x1_S256x8x32_01_2_n_n_2_1_25681 x swapIdx (ix3 k h q) = x (ix3 k h ⟨(q.val + 16) % 32, by omega⟩) := by
  unfold Host.gather
  refine congrArg x (funext fun a => Fin.ext ?_)
  fin_cases a
  · show 0 + 0 + k.val = k.val
    omega
  · show 0 + 0 + h.val = h.val
    omega
  · show min (swapIdx _).toInt.toNat 31 + 0 + 0 = (q.val + 16) % 32
    refine (congrArg (fun i => min (swapIdx i).toInt.toNat 31 + 0 + 0) (show _ = (ix2 q 0 : S32x1.Idx) from ?_)).trans ?_
    · funext b; fin_cases b <;> rfl
    · rw [swapIdx_at]; omega

/-! ## The laid-out weights as functions of the arguments -/

/-- The large weight: its columns in the order the call reads them. -/
def big (w : FVec Ideal S1024x4000 .f32) : FVec Ideal S1024x3584 .bf16 :=
  truncf .bf16 (concatenate S1024x3584 1 [⟨S1024x256, extractStridedSlice S1024x256 ![0, 0] w slices_S1024x4000_S1024x256_0_0⟩,
    ⟨S1024x128, extractStridedSlice S1024x128 ![0, 256] w slices_S1024x4000_S1024x128_0_256⟩,
    ⟨S1024x128, concatenate S1024x128 1 [⟨S1024x32, extractStridedSlice S1024x32 ![0, 384] w slices_S1024x4000_S1024x32_0_384⟩,
      ⟨S1024x32, extractStridedSlice S1024x32 ![0, 384] w slices_S1024x4000_S1024x32_0_384⟩,
      ⟨S1024x32, Host.gather gather_S1024x32_S32x1_S1024x32_0_1_n_n_1_1_10241 (extractStridedSlice S1024x32 ![0, 384] w slices_S1024x4000_S1024x32_0_384) swapIdx⟩,
      ⟨S1024x32, Host.gather gather_S1024x32_S32x1_S1024x32_0_1_n_n_1_1_10241 (extractStridedSlice S1024x32 ![0, 384] w slices_S1024x4000_S1024x32_0_384) swapIdx⟩]
      concatenates_S1024x32_S1024x32_S1024x32_S1024x32_S1024x128_d1⟩,
    ⟨S1024x512, mulf (F := Ideal) (extractStridedSlice S1024x512 ![0, 416] w slices_S1024x4000_S1024x512_0_416) (broadcastInDim S1024x512 ![] bcast_S_S1024x512 (constant (F := Ideal) S_ .f32 0x3E38AA3B#32))⟩,
    ⟨S1024x512, extractStridedSlice S1024x512 ![0, 928] w slices_S1024x4000_S1024x512_0_928⟩,
    ⟨S1024x1024, extractStridedSlice S1024x1024 ![0, 1952] w slices_S1024x4000_S1024x1024_0_1952⟩,
    ⟨S1024x1024, extractStridedSlice S1024x1024 ![0, 2976] w slices_S1024x4000_S1024x1024_0_2976⟩]
    concatenates_S1024x256_S1024x128_S1024x128_S1024x512_S1024x512_S1024x1024_S1024x1024_S1024x3584_d1 : FVec Ideal S1024x3584 .f32) bitsLt_bf16_f32

set_option maxHeartbeats 1000000 in
/-- The columns of the large weight, in the call's order. -/
theorem big_at (w : FVec Ideal S1024x4000 .f32) (k : Fin 1024) (j : Fin 3584) : big w (ix2 k j)
    = if h : j.val < 384 then w (ix2 k ⟨j.val, by omega⟩)
      else if h : j.val < 448 then w (ix2 k ⟨384 + j.val % 32, by omega⟩)
      else if h : j.val < 512 then w (ix2 k ⟨384 + (j.val + 16) % 32, by omega⟩)
      else if h : j.val < 1024 then w (ix2 k ⟨416 + (j.val - 512), by omega⟩) * scaleB
      else if h : j.val < 1536 then w (ix2 k ⟨928 + (j.val - 1024), by omega⟩)
      else if h : j.val < 2560 then w (ix2 k ⟨1952 + (j.val - 1536), by omega⟩)
      else w (ix2 k ⟨2976 + (j.val - 2560), by omega⟩) := by
  unfold big
  pointwise
  simp only [gather2_at]
  pointwise
  unfold scaleB
  repeat' split
  all_goals first
    | omega
    | exact congrArg (fun i => w (ix2 k i)) (Fin.ext (by first | rfl | omega | (dsimp only; omega)))
    | exact congrArg (fun i => w (ix2 k i) * Ideal.ofBits .f32 1043900987#32) (Fin.ext (by first | rfl | omega | (dsimp only; omega)))

/-- The query weight, scaled. -/
def scaled (u : FVec Ideal S256x768 .f32) : FVec Ideal S256x8x96 .f32 :=
  mulf (F := Ideal) (shapeCast _ u shapeCasts_S256x768_S256x8x96) (broadcastInDim S256x8x96 ![] bcast_S_S256x8x96 (constant (F := Ideal) S_ .f32 0x3E16C740#32))

/-- The query weight's columns: plain, rotary, and rotary with exchanged halves. -/
def qw (u : FVec Ideal S256x768 .f32) : FVec Ideal S256x1536 .bf16 :=
  truncf .bf16 (concatenate S256x1536 1 [⟨S256x512, shapeCast S256x512 (extractStridedSlice S256x8x64 ![0, 0, 0] (scaled u) slices_S256x8x96_S256x8x64_0_0_0) shapeCasts_S256x8x64_S256x512⟩,
    ⟨S256x512, shapeCast S256x512 (concatenate S256x4x128 2 [⟨S256x4x64, shapeCast S256x4x64 (extractStridedSlice S256x8x32 ![0, 0, 64] (scaled u) slices_S256x8x96_S256x8x32_0_0_64) shapeCasts_S256x8x32_S256x4x64⟩,
      ⟨S256x4x64, broadcastInDim S256x4x64 ![] bcast_S_S256x4x64 (constant (F := Ideal) S_ .f32 0x00000000#32)⟩] concatenates_S256x4x64_S256x4x64_S256x4x128_d2) shapeCasts_S256x4x128_S256x512⟩,
    ⟨S256x512, shapeCast S256x512 (concatenate S256x4x128 2 [⟨S256x4x64, shapeCast S256x4x64 (Host.gather gather_S256x8x32_S32x1_S256x8x32_01_2_n_n_2_1_25681 (extractStridedSlice S256x8x32 ![0, 0, 64] (scaled u) slices_S256x8x96_S256x8x32_0_0_64) swapIdx) shapeCasts_S256x8x32_S256x4x64⟩,
      ⟨S256x4x64, broadcastInDim S256x4x64 ![] bcast_S_S256x4x64 (constant (F := Ideal) S_ .f32 0x00000000#32)⟩] concatenates_S256x4x64_S256x4x64_S256x4x128_d2) shapeCasts_S256x4x128_S256x512⟩]
    concatenates_S256x512_S256x512_S256x512_S256x1536_d1 : FVec Ideal S256x1536 .f32) bitsLt_bf16_f32

/-- The query weight's columns. -/
theorem qw_at (u : FVec Ideal S256x768 .f32) (k : Fin 256) (j : Fin 1536) : qw u (ix2 k j)
    = if h : j.val < 512 then u (ix2 k ⟨j.val / 64 * 96 + j.val % 64, by omega⟩) * scaleA
      else if h : j.val < 1024 then
        if h' : j.val % 128 < 64 then u (ix2 k ⟨((j.val - 512) / 128 * 2 + j.val % 64 / 32) * 96 + (64 + j.val % 32), by omega⟩) * scaleA else 0
      else
        if h' : j.val % 128 < 64 then u (ix2 k ⟨((j.val - 1024) / 128 * 2 + j.val % 64 / 32) * 96 + (64 + (j.val + 16) % 32), by omega⟩) * scaleA else 0 := by
  unfold qw scaled scaleA
  pointwise
  simp only [gather3_at]
  pointwise
  repeat' split
  all_goals first
    | omega
    | rfl
    | exact congrArg (fun i => u (ix2 k i) * Ideal.ofBits .f32 1041680192#32) (Fin.ext (by first | omega | (dsimp only; omega)))

/-- The integer zero as a number. -/
theorem zero_word : (FloatOps.sitofp (F := Ideal) .f32 0#32 : EReal) = 0 := by
  show (((0#32 : BitVec 32).toInt : ℝ) : EReal) = 0
  simp

/-- The first value weight, transposed, with 16 rows of zeros under each head. -/
def vw (w : FVec Ideal S128x512 .f32) : FVec Ideal S640x128 .bf16 :=
  truncf .bf16 (shapeCast S640x128 (pad S8x80x128 ![0, 0, 0] ![0, 16, 0] ![0, 0, 0] (transpose S8x64x128 [1, 2, 0] (shapeCast S128x8x64 w shapeCasts_S128x512_S128x8x64 : FVec Ideal S128x8x64 .f32) transposes_S128x8x64_S8x64x128_1_2_0)
    (sitofp (F := Ideal) .f32 (constantI S_ 32 0#32) : FVec Ideal S_ .f32) pads_S8x64x128_S8x80x128_000_0160_000 h_S_) shapeCasts_S8x80x128_S640x128 : FVec Ideal S640x128 .f32) bitsLt_bf16_f32

theorem vw_at (w : FVec Ideal S128x512 .f32) (n : Fin 640) (k : Fin 128) : vw w (ix2 n k)
    = if h : n.val % 80 < 64 then w (ix2 k ⟨n.val / 80 * 64 + n.val % 80, by omega⟩) else 0 := by
  unfold vw
  pointwise
  by_cases h : n.val % 80 < 64
  · rw [dif_pos ⟨by omega, h⟩, dif_pos h]
  · rw [dif_neg (fun h' => h h'.2), dif_neg h]
    exact zero_word

/-- The second value weight, cut from the large one, transposed, with 16 rows of zeros under each head. -/
def vbw (w : FVec Ideal S1024x4000 .f32) : FVec Ideal S640x1024 .bf16 :=
  truncf .bf16 (shapeCast S640x1024 (pad S8x80x1024 ![0, 0, 0] ![0, 16, 0] ![0, 0, 0] (transpose S8x64x1024 [1, 2, 0]
    (shapeCast S1024x8x64 (extractStridedSlice S1024x512 ![0, 1440] w slices_S1024x4000_S1024x512_0_1440) shapeCasts_S1024x512_S1024x8x64 : FVec Ideal S1024x8x64 .f32) transposes_S1024x8x64_S8x64x1024_1_2_0)
    (sitofp (F := Ideal) .f32 (constantI S_ 32 0#32) : FVec Ideal S_ .f32) pads_S8x64x1024_S8x80x1024_000_0160_000 h_S_) shapeCasts_S8x80x1024_S640x1024 : FVec Ideal S640x1024 .f32) bitsLt_bf16_f32

theorem vbw_at (w : FVec Ideal S1024x4000 .f32) (n : Fin 640) (k : Fin 1024) : vbw w (ix2 n k)
    = if h : n.val % 80 < 64 then w (ix2 k ⟨1440 + (n.val / 80 * 64 + n.val % 80), by omega⟩) else 0 := by
  unfold vbw
  pointwise
  by_cases h : n.val % 80 < 64
  · refine (dif_pos ⟨by omega, h⟩).trans (Eq.trans ?_ (dif_pos h).symm)
    exact congrArg (fun i => w (ix2 k i)) (Fin.ext rfl)
  · rw [dif_neg (fun h' => h h'.2), dif_neg h]
    exact zero_word

/-! ## The small tables -/

theorem lit1_eq (n : Fin 640) : lit1 n = if n.val % 80 = 64 then 1065353216#32 else 0#32 := by
  revert n; decide
theorem lit2_eq (l : Fin 128) : lit2 l = freqWord ⟨l.val % 16, by omega⟩ := by fin_cases l <;> rfl
theorem lit3_eq (l : Fin 128) : lit3 l = if l.val % 32 < 16 then 3212836864#32 else 1065353216#32 := by fin_cases l <;> rfl

/-! ## What the call finds in its arrays -/

variable (m : (ℓ : Loc nD τ sig) → Buf (Elt Ideal) ℓ) (c : Dev nD)

theorem V_v0 : V m c main_v0 = (shapeCast S32768x1024 ((m ((c.tc : Thread nD τ).loc main_arg0)) : FVec Ideal S8x4096x1024 .f32) shapeCasts_S8x4096x1024_S32768x1024 : FVec Ideal S32768x1024 .f32) := by
  show after (List.flatten [hostOps0, hostOps0_1, hostOps0_2, hostOps0_3, hostOps0_4]) (fun b => m (c, b)) (Proc.devRef .tc main_v0) = _
  simp only [hostOps0, hostOps0_1, hostOps0_2, hostOps0_3, hostOps0_4, List.flatten_cons, List.flatten_nil, List.append_nil, List.cons_append, List.nil_append]
  after_results_simp
  rfl

theorem V_v1 : V m c main_v1 = (shapeCast S8x1x4096 ((m ((c.tc : Thread nD τ).loc main_arg1)) : IVec S8x4096 32) shapeCasts_S8x4096_S8x1x4096 : IVec S8x1x4096 32) := by
  show after (List.flatten [hostOps0, hostOps0_1, hostOps0_2, hostOps0_3, hostOps0_4]) (fun b => m (c, b)) (Proc.devRef .tc main_v1) = _
  simp only [hostOps0, hostOps0_1, hostOps0_2, hostOps0_3, hostOps0_4, List.flatten_cons, List.flatten_nil, List.append_nil, List.cons_append, List.nil_append]
  after_results_simp
  rfl

theorem V_v2 : V m c main_v2 = (shapeCast S8x6x1024 ((m ((c.tc : Thread nD τ).loc main_arg2)) : FVec Ideal S8x6144 .f32) shapeCasts_S8x6144_S8x6x1024 : FVec Ideal S8x6x1024 .f32) := by
  show after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append]
  after_results_simp
  rfl

theorem V_v52 : V m c main_v52 = (shapeCast S1x1024 ((m ((c.tc : Thread nD τ).loc main_arg3)) : FVec Ideal S1024 .f32) shapeCasts_S1024_S1x1024 : FVec Ideal S1x1024 .f32) := by
  show after (List.flatten [hostOps0, hostOps0_1, hostOps0_2, hostOps0_3, hostOps0_4]) (fun b => m (c, b)) (Proc.devRef .tc main_v52) = _
  simp only [hostOps0, hostOps0_1, hostOps0_2, hostOps0_3, hostOps0_4, List.flatten_cons, List.flatten_nil, List.append_nil, List.cons_append, List.nil_append]
  after_results_simp
  rfl

theorem V_v39 : V m c main_v39 = big (m ((c.tc : Thread nD τ).loc main_arg4)) := by
  show after (List.flatten [hostOps0, hostOps0_1, hostOps0_2, hostOps0_3, hostOps0_4]) (fun b => m (c, b)) (Proc.devRef .tc main_v39) = _
  simp only [hostOps0, hostOps0_1, hostOps0_2, hostOps0_3, hostOps0_4, List.flatten_cons, List.flatten_nil, List.append_nil, List.cons_append, List.nil_append]
  after_results_simp
  rfl

theorem V_v53 : V m c main_v53 = (shapeCast S1x256 ((m ((c.tc : Thread nD τ).loc main_arg5)) : FVec Ideal S256 .f32) shapeCasts_S256_S1x256 : FVec Ideal S1x256 .f32) := by
  show after (List.flatten [hostOps0, hostOps0_1, hostOps0_2, hostOps0_3, hostOps0_4]) (fun b => m (c, b)) (Proc.devRef .tc main_v53) = _
  simp only [hostOps0, hostOps0_1, hostOps0_2, hostOps0_3, hostOps0_4, List.flatten_cons, List.flatten_nil, List.append_nil, List.cons_append, List.nil_append]
  after_results_simp
  rfl

theorem V_v40 : V m c main_v40 = qw (m ((c.tc : Thread nD τ).loc main_arg6)) := by
  show after (List.flatten [hostOps0, hostOps0_1, hostOps0_2, hostOps0_3, hostOps0_4]) (fun b => m (c, b)) (Proc.devRef .tc main_v40) = _
  simp only [hostOps0, hostOps0_1, hostOps0_2, hostOps0_3, hostOps0_4, List.flatten_cons, List.flatten_nil, List.append_nil, List.cons_append, List.nil_append]
  after_results_simp
  rfl

theorem V_v54 : V m c main_v54 = (shapeCast S1x128 ((m ((c.tc : Thread nD τ).loc main_arg7)) : FVec Ideal S128 .f32) shapeCasts_S128_S1x128 : FVec Ideal S1x128 .f32) := by
  show after (List.flatten [hostOps0, hostOps0_1, hostOps0_2, hostOps0_3, hostOps0_4]) (fun b => m (c, b)) (Proc.devRef .tc main_v54) = _
  simp only [hostOps0, hostOps0_1, hostOps0_2, hostOps0_3, hostOps0_4, List.flatten_cons, List.flatten_nil, List.append_nil, List.cons_append, List.nil_append]
  after_results_simp
  rfl

theorem V_v41 : V m c main_v41 = (truncf .bf16 ((m ((c.tc : Thread nD τ).loc main_arg8)) : FVec Ideal S128x512 .f32) bitsLt_bf16_f32 : FVec Ideal S128x512 .bf16) := by
  show after (List.flatten [hostOps0, hostOps0_1, hostOps0_2, hostOps0_3, hostOps0_4]) (fun b => m (c, b)) (Proc.devRef .tc main_v41) = _
  simp only [hostOps0, hostOps0_1, hostOps0_2, hostOps0_3, hostOps0_4, List.flatten_cons, List.flatten_nil, List.append_nil, List.cons_append, List.nil_append]
  after_results_simp

theorem V_v46 : V m c main_v46 = vw (m ((c.tc : Thread nD τ).loc main_arg9)) := by
  show after (List.flatten [hostOps0, hostOps0_1, hostOps0_2, hostOps0_3, hostOps0_4]) (fun b => m (c, b)) (Proc.devRef .tc main_v46) = _
  simp only [hostOps0, hostOps0_1, hostOps0_2, hostOps0_3, hostOps0_4, List.flatten_cons, List.flatten_nil, List.append_nil, List.cons_append, List.nil_append]
  after_results_simp
  rfl

theorem V_v51 : V m c main_v51 = vbw (m ((c.tc : Thread nD τ).loc main_arg4)) := by
  show after (List.flatten [hostOps0, hostOps0_1, hostOps0_2, hostOps0_3, hostOps0_4]) (fun b => m (c, b)) (Proc.devRef .tc main_v51) = _
  simp only [hostOps0, hostOps0_1, hostOps0_2, hostOps0_3, hostOps0_4, List.flatten_cons, List.flatten_nil, List.append_nil, List.cons_append, List.nil_append]
  after_results_simp
  rfl

theorem V_cst : V m c main_cst = (fun i => Ideal.ofBits .f32 (lit1 (S640x1.rowMajor i)) : FVec Ideal S640x1 .f32) := by
  show after (List.flatten [hostOps0, hostOps0_1, hostOps0_2, hostOps0_3, hostOps0_4]) (fun b => m (c, b)) (Proc.devRef .tc main_cst) = _
  simp only [hostOps0, hostOps0_1, hostOps0_2, hostOps0_3, hostOps0_4, List.flatten_cons, List.flatten_nil, List.append_nil, List.cons_append, List.nil_append]
  after_results_simp
  rfl

theorem V_v55 : V m c main_v55 = (shapeCast S128x1 (fun i => Ideal.ofBits .f32 (lit2 (S128.rowMajor i)) : FVec Ideal S128 .f32) shapeCasts_S128_S128x1 : FVec Ideal S128x1 .f32) := by
  show after (List.flatten [hostOps0, hostOps0_1, hostOps0_2, hostOps0_3, hostOps0_4]) (fun b => m (c, b)) (Proc.devRef .tc main_v55) = _
  simp only [hostOps0, hostOps0_1, hostOps0_2, hostOps0_3, hostOps0_4, List.flatten_cons, List.flatten_nil, List.append_nil, List.cons_append, List.nil_append]
  after_results_simp
  rfl

theorem V_v56 : V m c main_v56 = (shapeCast S128x1 (fun i => Ideal.ofBits .f32 (lit3 (S128.rowMajor i)) : FVec Ideal S128 .f32) shapeCasts_S128_S128x1 : FVec Ideal S128x1 .f32) := by
  show after (List.flatten [hostOps0, hostOps0_1, hostOps0_2, hostOps0_3, hostOps0_4]) (fun b => m (c, b)) (Proc.devRef .tc main_v56) = _
  simp only [hostOps0, hostOps0_1, hostOps0_2, hostOps0_3, hostOps0_4, List.flatten_cons, List.flatten_nil, List.append_nil, List.cons_append, List.nil_append]
  after_results_simp
  rfl

end Cert.Kernel2Ideal.Proj

end
-- ==== Proof.Proj.Rules.lean ====
/-
  Facts about extended reals, and about the rotation, that the projection's two forms differ by.
-/
module

public import proofs.«01_k».proof.Proof.Proj.Spec

@[expose] public section

noncomputable section

namespace Cert.Proj

open Idealize.ShloMosaic

/-- A normal float word without a sign is a non-negative real number. -/
theorem word_real (w : BitVec 32) (h1 : (w.extractLsb' 31 1 == 1#1) = false) (h2 : (w.extractLsb' 23 8).toNat ≠ 2 ^ 8 - 1)
    (h3 : (w.extractLsb' 23 8).toNat ≠ 0) : ∃ a : ℝ, 0 ≤ a ∧ Ideal.ofBits .f32 w = (a : EReal) := by
  refine ⟨(if (w.extractLsb' (8 + 23) 1 == 1#1) = true then -1 else 1) * (2 ^ 23 + (w.extractLsb' 0 23).toNat : ℕ)
    * (2 : ℝ) ^ (((w.extractLsb' 23 8).toNat : ℤ) - (2 ^ (8 - 1) - 1) - (23 : ℕ)), ?_, (if_neg h2).trans (if_neg h3)⟩
  rw [show (w.extractLsb' (8 + 23) 1 == 1#1) = false from h1, if_neg (by decide)]
  positivity

/-- Both scales are non-negative real numbers. -/
theorem scaleA_real : ∃ a : ℝ, 0 ≤ a ∧ scaleA = (a : EReal) := word_real _ (by decide) (by decide) (by decide)
theorem scaleB_real : ∃ a : ℝ, 0 ≤ a ∧ scaleB = (a : EReal) := word_real _ (by decide) (by decide) (by decide)

/-- A non-negative real factor goes through a sum of two. -/
theorem add_scaled (s : EReal) (hs : ∃ a : ℝ, 0 ≤ a ∧ s = (a : EReal)) (x y : EReal) : (x + y) * s = x * s + y * s := by
  obtain ⟨a, h, rfl⟩ := hs
  exact EReal.right_distrib_of_nonneg_of_ne_top (EReal.coe_nonneg.mpr h) (EReal.coe_ne_top a) x y

/-- And out of a finite one. -/
theorem sum_scaled {n : Nat} (s : EReal) (hs : ∃ a : ℝ, 0 ≤ a ∧ s = (a : EReal)) (f g : Fin n → EReal) :
    ∑ x, f x * (g x * s) = (∑ x, f x * g x) * s := by
  have h : ∀ t : Finset (Fin n), ∑ x ∈ t, f x * (g x * s) = (∑ x ∈ t, f x * g x) * s := fun t => by
    induction t using Finset.induction_on with
    | empty => simp
    | insert a t ha ih => rw [Finset.sum_insert ha, Finset.sum_insert ha, add_scaled s hs, ih, mul_assoc]
  exact h Finset.univ

variable (A : Args) (b : Fin 8) (s : Fin 4096)

/-- The rotation as one product with the cosine and one, of the half turned by 16 places, with the signed sine. -/
theorem rope_eq (v : Fin 32 → EReal) (d : Fin 32) (θ σ : EReal) (hθ : θ = angle A b s ⟨d.val % 16, by omega⟩) (hσ : σ = if d.val < 16 then -1 else 1) :
    v d * Ideal.cos θ + v ⟨(d.val + 16) % 32, by omega⟩ * (Ideal.sin θ * σ) = rope A b s v d := by
  subst hθ hσ
  unfold rope
  by_cases h : d.val < 16
  · rw [dif_pos h, if_pos h, mul_neg_one, mul_neg, sub_eq_add_neg]
    have e : (⟨d.val % 16, by omega⟩ : Fin 16) = ⟨d.val, h⟩ := Fin.ext (by show d.val % 16 = d.val; omega)
    have e' : (⟨(d.val + 16) % 32, by omega⟩ : Fin 32) = ⟨16 + d.val, by omega⟩ := Fin.ext (by show (d.val + 16) % 32 = 16 + d.val; omega)
    rw [e, e']
  · rw [dif_neg h, if_neg h, mul_one]
    have e : (⟨d.val % 16, by omega⟩ : Fin 16) = ⟨d.val - 16, by omega⟩ := Fin.ext (by show d.val % 16 = d.val - 16; omega)
    have e' : (⟨(d.val + 16) % 32, by omega⟩ : Fin 32) = ⟨d.val - 16, by omega⟩ := Fin.ext (by show (d.val + 16) % 32 = d.val - 16; omega)
    have e'' : d = ⟨16 + (d.val - 16), by omega⟩ := Fin.ext (by show d.val = 16 + (d.val - 16); omega)
    rw [e, e', ← e'']

/-- The same of scaled numbers. -/
theorem rope_scaled (v : Fin 32 → EReal) (d : Fin 32) (θ σ a : EReal) (ha : ∃ r : ℝ, 0 ≤ r ∧ a = (r : EReal))
    (hθ : θ = angle A b s ⟨d.val % 16, by omega⟩) (hσ : σ = if d.val < 16 then -1 else 1) :
    v d * a * Ideal.cos θ + v ⟨(d.val + 16) % 32, by omega⟩ * a * (Ideal.sin θ * σ) = rope A b s v d * a := by
  rw [← rope_eq A b s v d θ σ hθ hσ, add_scaled a ha, mul_right_comm, mul_right_comm (v ⟨(d.val + 16) % 32, _⟩)]

/-- The choice of the first 64 of 128 lanes. -/
theorem lane_at (q : Fin 128) (x y : EReal) : Scalar.select (IntOp.cmpi .slt (BitVec.ofNat 32 q.val) 64#32) x y = if q.val < 64 then x else y := by
  have h : IntOp.cmpi .slt (BitVec.ofNat 32 q.val) 64#32 = if q.val < 64 then 1#1 else 0#1 := by revert q; decide
  rw [h]
  split <;> rfl

end Cert.Proj

end
-- ==== Proof.Proj.Value.lean ====
/-
  What one point of the input projection stores, element by element, from blocks that hold the arguments' elements.
-/
module

public import proofs.«01_k».proof.Proof.Proj.Weights
public import proofs.«01_k».proof.Proof.Proj.Rules
public import Idealize.ShloMosaic.Lib.Pipeline.Value
public import Idealize.ShloMosaic.Lib.Pipeline.ValueKit.Basic
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Kernel2Ideal.Proj

open Cert.Kernel2Ideal.Gen Cert.Proj
open Idealize.ShloMosaic Idealize.ShloMosaic.TcCoe

/-- The fourteen input blocks of a point whose rows are the tokens `s r` of batch `b`. -/
structure Holds (A : Args) (b : Fin 8) (s : Fin 512 → Fin 4096) (x0 : Vec Ideal S512x1024 .f32) (x1 : Vec Ideal S1x1x512 .i32) (x2 : Vec Ideal S1x6x1024 .f32) (x3 : Vec Ideal S1x1024 .f32) (x4 : Vec Ideal S1024x3584 .bf16) (x5 : Vec Ideal S1x256 .f32) (x6 : Vec Ideal S256x1536 .bf16)
  (x7 : Vec Ideal S1x128 .f32) (x8 : Vec Ideal S128x512 .bf16) (x9 : Vec Ideal S640x128 .bf16) (x10 : Vec Ideal S640x1024 .bf16) (x11 : Vec Ideal S640x1 .f32) (x12 : Vec Ideal S128x1 .f32) (x13 : Vec Ideal S128x1 .f32) : Prop where
  h0 : ∀ (r : Fin 512) (k : Fin 1024), x0 (ix2 r k) = A.x (ix3 b (s r) k)
  h1 : ∀ r : Fin 512, x1 (ix3 0 0 r) = A.pos (ix2 b (s r))
  h2 : ∀ (a : Fin 6) (k : Fin 1024), x2 (ix3 0 a k) = A.md (ix2 b ⟨a.val * 1024 + k.val, by omega⟩)
  h3 : ∀ k : Fin 1024, x3 (ix2 0 k) = A.gm (ix1 k)
  h4 : ∀ (k : Fin 1024) (j : Fin 3584), x4 (ix2 k j) = big A.wi (ix2 k j)
  h5 : ∀ k : Fin 256, x5 (ix2 0 k) = A.gq (ix1 k)
  h6 : ∀ (k : Fin 256) (j : Fin 1536), x6 (ix2 k j) = qw A.uq (ix2 k j)
  h7 : ∀ k : Fin 128, x7 (ix2 0 k) = A.gk (ix1 k)
  h8 : ∀ (k : Fin 128) (j : Fin 512), x8 (ix2 k j) = A.uk (ix2 k j)
  h9 : ∀ (n : Fin 640) (k : Fin 128), x9 (ix2 n k) = vw A.uv (ix2 n k)
  h10 : ∀ (n : Fin 640) (k : Fin 1024), x10 (ix2 n k) = vbw A.wi (ix2 n k)
  h11 : ∀ n : Fin 640, x11 (ix2 n 0) = if n.val % 80 = 64 then 1 else 0
  h12 : ∀ l : Fin 128, x12 (ix2 l 0) = Ideal.ofBits .f32 (freqWord ⟨l.val % 16, by omega⟩)
  h13 : ∀ l : Fin 128, x13 (ix2 l 0) = if l.val % 32 < 16 then -1 else 1

variable {A : Args} {b : Fin 8} {s : Fin 512 → Fin 4096} {x0 : Vec Ideal S512x1024 .f32} {x1 : Vec Ideal S1x1x512 .i32} {x2 : Vec Ideal S1x6x1024 .f32} {x3 : Vec Ideal S1x1024 .f32} {x4 : Vec Ideal S1024x3584 .bf16}
  {x5 : Vec Ideal S1x256 .f32} {x6 : Vec Ideal S256x1536 .bf16} {x7 : Vec Ideal S1x128 .f32} {x8 : Vec Ideal S128x512 .bf16} {x9 : Vec Ideal S640x128 .bf16} {x10 : Vec Ideal S640x1024 .bf16} {x11 : Vec Ideal S640x1 .f32}
  {x12 : Vec Ideal S128x1 .f32} {x13 : Vec Ideal S128x1 .f32} (H : Holds A b s x0 x1 x2 x3 x4 x5 x6 x7 x8 x9 x10 x11 x12 x13)

/-! ## The loads, at an element -/

theorem ld_0 (x : Vec Ideal S512x1024 .f32) (r : Fin 512) (k : Fin 1024) : View.ld x r0_0 (ix2 r k) = x (ix2 r k) := by
  rw [View.ld_unit]
  pointwise
theorem ld_1 (x : Vec Ideal S1x1024 .f32) (k : Fin 1024) : View.ld x r0_1 (ix2 0 k) = x (ix2 0 k) := by
  rw [View.ld_unit]
  pointwise
theorem ld_2 (x : Vec Ideal S1x6x1024 .f32) (k : Fin 1024) : View.ld x r0_2 (ix3 0 0 k) = x (ix3 0 1 k) := by
  rw [View.ld_unit]
  pointwise
theorem ld_3 (x : Vec Ideal S1x6x1024 .f32) (k : Fin 1024) : View.ld x r0_3 (ix3 0 0 k) = x (ix3 0 0 k) := by
  rw [View.ld_unit]
  pointwise
theorem ld_4 (x : Vec Ideal S1024x3584 .bf16) (k : Fin 1024) (j : Fin 512) : View.ld x r0_4 (ix2 k j) = x (ix2 k ⟨j.val, by omega⟩) := by
  rw [View.ld_unit]
  pointwise
theorem ld_24 (x : Vec Ideal S1024x3584 .bf16) (k : Fin 1024) (j : Fin 512) : View.ld x r0_24 (ix2 k j) = x (ix2 k ⟨512 + j.val, by omega⟩) := by
  rw [View.ld_unit]
  pointwise
theorem ld_26 (x : Vec Ideal S1024x3584 .bf16) (k : Fin 1024) (j : Fin 512) : View.ld x r0_26 (ix2 k j) = x (ix2 k ⟨1024 + j.val, by omega⟩) := by
  rw [View.ld_unit]
  pointwise
theorem ld_5 (x : Vec Ideal S1024x3584 .bf16) (k : Fin 1024) (j : Fin 1024) : View.ld x r0_5 (ix2 k j) = x (ix2 k ⟨1536 + j.val, by omega⟩) := by
  rw [View.ld_unit]
  pointwise
theorem ld_15 (x : Vec Ideal S1024x3584 .bf16) (k : Fin 1024) (j : Fin 1024) : View.ld x r0_15 (ix2 k j) = x (ix2 k ⟨2560 + j.val, by omega⟩) := by
  rw [View.ld_unit]
  pointwise
theorem ld_6 (x : Vec Ideal S128x1 .f32) (l : Fin 128) : View.ld x r0_6 (ix2 l 0) = x (ix2 l 0) := by
  rw [View.ld_unit]
  pointwise
theorem ld_7 (x : Vec Ideal S1x1x512 .i32) (r : Fin 512) : View.ld x r0_7 (ix3 0 0 r) = x (ix3 0 0 r) := by
  rw [View.ld_unit]
  pointwise
theorem ld_8 (x : Vec Ideal S1x256 .f32) (k : Fin 256) : View.ld x r0_8 (ix2 0 k) = x (ix2 0 k) := by
  rw [View.ld_unit]
  pointwise
theorem ld_9 (x : Vec Ideal S256x1536 .bf16) (k : Fin 256) (j : Fin 1536) : View.ld x r0_9 (ix2 k j) = x (ix2 k j) := by
  rw [View.ld_unit]
  pointwise
theorem ld_10 (x : Vec Ideal S1x128 .f32) (k : Fin 128) : View.ld x r0_10 (ix2 0 k) = x (ix2 0 k) := by
  rw [View.ld_unit]
  pointwise
theorem ld_11 (x : Vec Ideal S128x512 .bf16) (k : Fin 128) (j : Fin 512) : View.ld x r0_11 (ix2 k j) = x (ix2 k j) := by
  rw [View.ld_unit]
  pointwise
theorem ld_12 (x : Vec Ideal S640x128 .bf16) (n : Fin 640) (k : Fin 128) : View.ld x r0_12 (ix2 n k) = x (ix2 n k) := by
  rw [View.ld_unit]
  pointwise
theorem ld_13 (x : Vec Ideal S640x1 .f32) (n : Fin 640) : View.ld x r0_13 (ix2 n 0) = x (ix2 n 0) := by
  rw [View.ld_unit]
  pointwise
theorem ld_27 (x : Vec Ideal S640x1024 .bf16) (n : Fin 640) (k : Fin 1024) : View.ld x r0_27 (ix2 n k) = x (ix2 n k) := by
  rw [View.ld_unit]
  pointwise

/-! ## The stages -/

theorem hid_gen (v0 : Vec Ideal S512x1024 .f32) (v2 : Vec Ideal S1x1024 .f32) (v16 v22 : Vec Ideal S1x1x1024 .f32) (r : Fin 512) (k : Fin 1024) :
    k0_pay3 v0 v2 v16 v22 (ix2 r k) = nrm 1149239296#32 (fun x => v0 (ix2 r x)) (fun x => v2 (ix2 0 x)) k * (1 + v16 (ix3 0 0 k)) + v22 (ix3 0 0 k) := by
  unfold k0_pay3
  pointwise
  rfl

theorem low_gen (v0 : Vec Ideal S512x1024 .f32) (v2 : Vec Ideal S1x1024 .f32) (v16 v22 : Vec Ideal S1x1x1024 .f32) (v27 : Vec Ideal S1024x512 .bf16) (r : Fin 512) (j : Fin 512) :
    k0_pay4 v0 v2 v16 v22 v27 (ix2 r j) = ∑ k : Fin 1024, k0_pay3 v0 v2 v16 v22 (ix2 r k) * v27 (ix2 k j) := by
  unfold k0_pay4
  pointwise

theorem ga_gen (v0 : Vec Ideal S512x1024 .f32) (v2 : Vec Ideal S1x1024 .f32) (v16 v22 : Vec Ideal S1x1x1024 .f32) (v33 : Vec Ideal S1024x1024 .bf16) (r : Fin 512) (j : Fin 1024) :
    k0_pay8 v0 v2 v16 v22 v33 (ix2 r j) = Ideal.logistic (∑ k : Fin 1024, k0_pay3 v0 v2 v16 v22 (ix2 r k) * v33 (ix2 k j)) := by
  unfold k0_pay8
  pointwise

theorem gb_gen (v26 : FVec Ideal S512x1024 .bf16) (v112 : Vec Ideal S1024x1024 .bf16) (r : Fin 512) (j : Fin 1024) :
    k0_pay18 v26 v112 (ix2 r j) = Ideal.logistic (∑ k : Fin 1024, v26 (ix2 r k) * v112 (ix2 k j)) := by
  unfold k0_pay18
  pointwise

theorem qb_gen (v26 : FVec Ideal S512x1024 .bf16) (v179 : Vec Ideal S1024x512 .bf16) (r : Fin 512) (j : Fin 512) :
    k0_pay32 v26 v179 (ix2 r j) = ∑ k : Fin 1024, v26 (ix2 r k) * v179 (ix2 k j) := by
  unfold k0_pay32
  pointwise

theorem kb_gen (v26 : FVec Ideal S512x1024 .bf16) (v184 : Vec Ideal S1024x512 .bf16) (r : Fin 512) (j : Fin 512) :
    k0_pay1 v26 v184 (ix2 r j) = ∑ k : Fin 1024, v26 (ix2 r k) * v184 (ix2 k j) := by
  unfold k0_pay1
  pointwise

theorem vb_gen (v26 : FVec Ideal S512x1024 .bf16) (v189 : Vec Ideal S640x1024 .bf16) (v192 : Vec Ideal S640x1 .f32) (n : Fin 640) (r : Fin 512) :
    k0_pay2 v26 v189 v192 (ix3 0 n r) = (∑ k : Fin 1024, v189 (ix2 n k) * v26 (ix2 r k)) + v192 (ix2 n 0) := by
  unfold k0_pay2
  pointwise

theorem va_gen (v31 : FVec Ideal S512x128 .f32) (v84 : Vec Ideal S1x128 .f32) (v102 : Vec Ideal S640x128 .bf16) (v105 : Vec Ideal S640x1 .f32) (n : Fin 640) (r : Fin 512) :
    k0_pay17 v31 v84 v102 v105 (ix3 0 n r) = (∑ k : Fin 128, v102 (ix2 n k) * nrm 1124073472#32 (fun x => v31 (ix2 r x)) (fun x => v84 (ix2 0 x)) k) + v105 (ix2 n 0) := by
  unfold k0_pay17 k0_pay15
  pointwise
  rfl

theorem ka_gen (v31 : FVec Ideal S512x128 .f32) (v84 : Vec Ideal S1x128 .f32) (v99 : Vec Ideal S128x512 .bf16) (r : Fin 512) (j : Fin 512) :
    k0_pay16 v31 v84 v99 (ix2 r j) = ∑ k : Fin 128, nrm 1124073472#32 (fun x => v31 (ix2 r x)) (fun x => v84 (ix2 0 x)) k * v99 (ix2 k j) := by
  unfold k0_pay16 k0_pay15
  pointwise
  rfl

theorem qa_gen (v30 : FVec Ideal S512x256 .f32) (v66 : Vec Ideal S1x256 .f32) (v81 : Vec Ideal S256x1536 .bf16) (r : Fin 512) (j : Fin 1536) :
    k0_pay14 (k0_pay13 v30 v66) v81 (ix2 r j) = ∑ k : Fin 256, nrm 1132462080#32 (fun x => v30 (ix2 r x)) (fun x => v66 (ix2 0 x)) k * v81 (ix2 k j) := by
  unfold k0_pay14 k0_pay13
  pointwise
  rfl

theorem cos_gen (v39 : Vec Ideal S128x1 .f32) (v41 : Vec Ideal S1x1x512 .i32) (r : Fin 512) (q : Fin 128) :
    k0_pay11 v39 v41 (ix2 r q) = if q.val < 64 then Ideal.cos (v39 (ix2 q 0) * FloatOps.sitofp (F := Ideal) .f32 (v41 (ix3 0 0 r))) else 0 := by
  unfold k0_pay11 k0_pay10 k0_pay9
  pointwise
  exact lane_at _ _ _

theorem sin_gen (v39 : Vec Ideal S128x1 .f32) (v41 : Vec Ideal S1x1x512 .i32) (v57 : Vec Ideal S128x1 .f32) (r : Fin 512) (q : Fin 128) :
    k0_pay12 v39 v41 v57 (ix2 r q) = if q.val < 64 then Ideal.sin (v39 (ix2 q 0) * FloatOps.sitofp (F := Ideal) .f32 (v41 (ix3 0 0 r))) * v57 (ix2 q 0) else 0 := by
  unfold k0_pay12 k0_pay10 k0_pay9
  pointwise
  exact lane_at _ _ _

theorem kr_gen (v32 v55 v65 : FVec Ideal S512x128 .f32) (r : Fin 512) (q : Fin 128) :
    k0_pay19 v32 v55 v65 (ix2 r q) = v32 (ix2 r q) * v55 (ix2 r q) + v32 (ix2 r ⟨(q.val + 128 - 64) % 128, by omega⟩) * v65 (ix2 r q) := by
  unfold k0_pay19
  pointwise

/-! ## The stages of a point -/

/-- The norm of equal rows. -/
theorem nrm_congr {n : Nat} (w : BitVec 32) {v v' g g' : Fin n → EReal} (hv : ∀ x, v x = v' x) (hg : ∀ x, g x = g' x) (k : Fin n) : nrm w v g k = nrm w v' g' k := by
  rw [funext hv, funext hg]

include H in
/-- The modulated row. -/
theorem hid_at (r : Fin 512) (k : Fin 1024) : k0_pay33 x0 x1 x2 x3 x4 x5 x6 x7 x8 x9 x10 x11 x12 x13 (ix2 r k) = hid A b (s r) k := by
  unfold k0_pay33
  rw [hid_gen]
  unfold hid
  refine congr (congrArg HAdd.hAdd (congr (congrArg HMul.hMul (nrm_congr _ (fun x => (ld_0 x0 r x).trans (H.h0 r x)) (fun x => (ld_1 x3 x).trans (H.h3 x)) k)) (congrArg (1 + ·)
    (((ld_2 x2 k).trans (H.h2 1 k)).trans (congrArg (fun i => A.md (ix2 b i)) (Fin.ext ?_)))))) (((ld_3 x2 k).trans (H.h2 0 k)).trans (congrArg (fun i => A.md (ix2 b i)) (Fin.ext ?_)))
  · show 1 * 1024 + k.val = 1024 + k.val
    omega
  · show 0 * 1024 + k.val = k.val
    omega

include H in
/-- It through the first 512 columns of the large weight. -/
theorem low_at (r : Fin 512) (j : Fin 512) : k0_pay4 (View.ld x0 r0_0) (View.ld x3 r0_1) (View.ld x2 r0_2) (View.ld x2 r0_3) (View.ld x4 r0_4) (ix2 r j)
      = ∑ k : Fin 1024, hid A b (s r) k * big A.wi (ix2 k ⟨j.val, by omega⟩) := by
  rw [low_gen]
  refine Finset.sum_congr rfl fun k _ => congr (congrArg HMul.hMul (hid_at H r k)) ?_
  exact (ld_4 _ _ _).trans (H.h4 _ _)

include H in
/-- The query latent before its norm. -/
theorem qlow_at (r : Fin 512) (k : Fin 256) : k0_pay5 (View.ld x0 r0_0) (View.ld x3 r0_1) (View.ld x2 r0_2) (View.ld x2 r0_3) (View.ld x4 r0_4) (ix2 r k)
      = prj A b (s r) ⟨k.val, by omega⟩ := by
  unfold k0_pay5
  pointwise
  rw [low_at H]
  refine Finset.sum_congr rfl fun x _ => congrArg (hid A b (s r) x * ·) ?_
  rw [big_at, dif_pos (by show k.val < 384; omega)]

include H in
/-- The key and value latent before its norm. -/
theorem klow_at (r : Fin 512) (k : Fin 128) : k0_pay34 x0 x1 x2 x3 x4 x5 x6 x7 x8 x9 x10 x11 x12 x13 (ix2 r k) = prj A b (s r) ⟨256 + k.val, by omega⟩ := by
  unfold k0_pay34 k0_pay6
  pointwise
  rw [low_at H]
  refine Finset.sum_congr rfl fun x _ => congrArg (hid A b (s r) x * ·) ?_
  rw [big_at, dif_pos (by show 256 + k.val < 384; omega)]

include H in
/-- And after it. -/
theorem klat_at (r : Fin 512) (k : Fin 128) : nrm 1124073472#32 (fun x => k0_pay34 x0 x1 x2 x3 x4 x5 x6 x7 x8 x9 x10 x11 x12 x13 (ix2 r x)) (fun x => View.ld x7 r0_10 (ix2 0 x)) k = klat A b (s r) k :=
  nrm_congr _ (klow_at H r) (fun x => (ld_10 x7 x).trans (H.h7 x)) k

include H in
/-- The rotary key, twice, then turned by 16 places, twice. -/
theorem rlow_at (r : Fin 512) (q : Fin 128) : k0_pay35 x0 x1 x2 x3 x4 x5 x6 x7 x8 x9 x10 x11 x12 x13 (ix2 r q)
    = if q.val < 64 then prj A b (s r) ⟨384 + q.val % 32, by omega⟩ else prj A b (s r) ⟨384 + (q.val + 16) % 32, by omega⟩ := by
  unfold k0_pay35 k0_pay7
  pointwise
  rw [low_at H]
  split
  · refine Finset.sum_congr rfl fun x _ => congrArg (hid A b (s r) x * ·) ?_
    rw [big_at, dif_neg (by show ¬ (384 + q.val < 384); omega), dif_pos (by show 384 + q.val < 448; omega)]
    exact congrArg (fun i => A.wi (ix2 x i)) (Fin.ext (by show 384 + (384 + q.val) % 32 = 384 + q.val % 32; omega))
  · refine Finset.sum_congr rfl fun x _ => congrArg (hid A b (s r) x * ·) ?_
    rw [big_at, dif_neg (by show ¬ (384 + q.val < 384); omega), dif_neg (by show ¬ (384 + q.val < 448); omega), dif_pos (by show 384 + q.val < 512; omega)]
    exact congrArg (fun i => A.wi (ix2 x i)) (Fin.ext (by show 384 + (384 + q.val + 16) % 32 = 384 + (q.val + 16) % 32; omega))

include H in
/-- The angle of a lane. -/
theorem angle_at (r : Fin 512) (q : Fin 128) : View.ld x12 r0_6 (ix2 q 0) * FloatOps.sitofp (F := Ideal) .f32 (View.ld x1 r0_7 (ix3 0 0 r))
    = angle A b (s r) ⟨q.val % 32 % 16, by omega⟩ := by
  rw [ld_6, ld_7, H.h12, H.h1, mul_comm]
  exact congrArg (fun i => FloatOps.sitofp (F := Ideal) .f32 (A.pos (ix2 b (s r))) * Ideal.ofBits .f32 (freqWord i)) (Fin.ext (by show q.val % 16 = q.val % 32 % 16; omega))

include H in
theorem cos_at (r : Fin 512) (q : Fin 128) : k0_pay36 x0 x1 x2 x3 x4 x5 x6 x7 x8 x9 x10 x11 x12 x13 (ix2 r q) = if q.val < 64 then Ideal.cos (angle A b (s r) ⟨q.val % 32 % 16, by omega⟩) else 0 := by
  unfold k0_pay36
  rw [cos_gen, angle_at H]

include H in
theorem sin_at (r : Fin 512) (q : Fin 128) : k0_pay37 x0 x1 x2 x3 x4 x5 x6 x7 x8 x9 x10 x11 x12 x13 (ix2 r q)
    = if q.val < 64 then Ideal.sin (angle A b (s r) ⟨q.val % 32 % 16, by omega⟩) * (if q.val % 32 < 16 then -1 else 1) else 0 := by
  unfold k0_pay37
  rw [sin_gen, angle_at H, ld_6, H.h13]

include H in
/-- All queries, through the rearranged weight. -/
theorem qall_at (r : Fin 512) (j : Fin 1536) : k0_pay38 x0 x1 x2 x3 x4 x5 x6 x7 x8 x9 x10 x11 x12 x13 (ix2 r j) = ∑ k : Fin 256, qlat A b (s r) k * qw A.uq (ix2 k j) := by
  unfold k0_pay38
  rw [qa_gen]
  exact Finset.sum_congr rfl fun k _ => congr (congrArg HMul.hMul (nrm_congr _ (qlow_at H r) (fun x => (ld_8 x5 x).trans (H.h5 x)) k)) ((ld_9 x6 k j).trans (H.h6 k j))

include H in
/-- A column that holds a scaled column of the weight gives that query, scaled. -/
theorem qcol_at (r : Fin 512) (i : Fin 1536) (h : Fin 8) (d : Fin 96)
    (hw : ∀ x : Fin 256, qw A.uq (ix2 x i) = A.uq (ix2 x ⟨h.val * 96 + d.val, by omega⟩) * scaleA) :
    k0_pay38 x0 x1 x2 x3 x4 x5 x6 x7 x8 x9 x10 x11 x12 x13 (ix2 r i) = query A b (s r) h d * scaleA :=
  (qall_at H r i).trans ((Finset.sum_congr rfl fun x _ => congrArg (qlat A b (s r) x * ·) (hw x)).trans (sum_scaled _ scaleA_real _ _))

include H in
theorem qplain_at (r : Fin 512) (j : Fin 512) (i : Fin 1536) (hi : i.val = j.val) : k0_pay38 x0 x1 x2 x3 x4 x5 x6 x7 x8 x9 x10 x11 x12 x13 (ix2 r i)
    = query A b (s r) ⟨j.val / 64, by omega⟩ ⟨j.val % 64, by omega⟩ * scaleA := by
  refine qcol_at H r i _ _ fun x => ?_
  rw [qw_at, dif_pos (by omega)]
  exact congrArg (fun i => A.uq (ix2 x i) * scaleA) (Fin.ext (by show i.val / 64 * 96 + i.val % 64 = j.val / 64 * 96 + j.val % 64; rw [hi]))

include H in
theorem qrot_at (r : Fin 512) (p : Fin 4) (q : Fin 64) (i : Fin 1536) (hi : i.val = 512 + 128 * p.val + q.val) : k0_pay38 x0 x1 x2 x3 x4 x5 x6 x7 x8 x9 x10 x11 x12 x13 (ix2 r i)
    = query A b (s r) ⟨p.val * 2 + q.val / 32, by omega⟩ ⟨64 + q.val % 32, by omega⟩ * scaleA := by
  refine qcol_at H r i _ _ fun x => ?_
  rw [qw_at, dif_neg (by omega), dif_pos (by omega), dif_pos (by omega)]
  exact congrArg (fun i => A.uq (ix2 x i) * scaleA) (Fin.ext (by
    show ((i.val - 512) / 128 * 2 + i.val % 64 / 32) * 96 + (64 + i.val % 32) = (p.val * 2 + q.val / 32) * 96 + (64 + q.val % 32); omega))

include H in
theorem qswap_at (r : Fin 512) (p : Fin 4) (q : Fin 64) (i : Fin 1536) (hi : i.val = 1024 + 128 * p.val + q.val) : k0_pay38 x0 x1 x2 x3 x4 x5 x6 x7 x8 x9 x10 x11 x12 x13 (ix2 r i)
    = query A b (s r) ⟨p.val * 2 + q.val / 32, by omega⟩ ⟨64 + (q.val % 32 + 16) % 32, by omega⟩ * scaleA := by
  refine qcol_at H r i _ _ fun x => ?_
  rw [qw_at, dif_neg (by omega), dif_neg (by omega), dif_pos (by omega)]
  exact congrArg (fun i => A.uq (ix2 x i) * scaleA) (Fin.ext (by
    show ((i.val - 1024) / 128 * 2 + i.val % 64 / 32) * 96 + (64 + (i.val + 16) % 32) = (p.val * 2 + q.val / 32) * 96 + (64 + (q.val % 32 + 16) % 32); omega))

/-! ## The eight results of a point -/

/-- Every even quarter of the query block is a slice of the queries. -/
theorem even_gen (v83 : FVec Ideal S512x1536 .f32) (r : Fin 512) (q : Fin 128) :
    k0_pay20 v83 (ix2 r q) = v83 (ix2 r ⟨q.val, by omega⟩) ∧ k0_pay23 v83 (ix2 r q) = v83 (ix2 r ⟨128 + q.val, by omega⟩)
    ∧ k0_pay26 v83 (ix2 r q) = v83 (ix2 r ⟨256 + q.val, by omega⟩) ∧ k0_pay29 v83 (ix2 r q) = v83 (ix2 r ⟨384 + q.val, by omega⟩) := by
  unfold k0_pay20 k0_pay23 k0_pay26 k0_pay29
  pointwise

/-- Every odd quarter a rotated one. -/
theorem odd_gen (v55 v65 : FVec Ideal S512x128 .f32) (v83 : FVec Ideal S512x1536 .f32) (r : Fin 512) (q : Fin 128) :
    k0_pay21 v55 v65 v83 (ix2 r q) = v83 (ix2 r ⟨512 + q.val, by omega⟩) * v55 (ix2 r q) + v83 (ix2 r ⟨1024 + q.val, by omega⟩) * v65 (ix2 r q)
    ∧ k0_pay24 v55 v65 v83 (ix2 r q) = v83 (ix2 r ⟨640 + q.val, by omega⟩) * v55 (ix2 r q) + v83 (ix2 r ⟨1152 + q.val, by omega⟩) * v65 (ix2 r q)
    ∧ k0_pay27 v55 v65 v83 (ix2 r q) = v83 (ix2 r ⟨768 + q.val, by omega⟩) * v55 (ix2 r q) + v83 (ix2 r ⟨1280 + q.val, by omega⟩) * v65 (ix2 r q)
    ∧ k0_pay30 v55 v65 v83 (ix2 r q) = v83 (ix2 r ⟨896 + q.val, by omega⟩) * v55 (ix2 r q) + v83 (ix2 r ⟨1408 + q.val, by omega⟩) * v65 (ix2 r q) := by
  unfold k0_pay21 k0_pay24 k0_pay27 k0_pay30
  pointwise

theorem key_gen (v101 : FVec Ideal S512x512 .f32) (r : Fin 512) (q : Fin 128) :
    k0_pay22 v101 (ix2 r q) = v101 (ix2 r ⟨q.val, by omega⟩) ∧ k0_pay25 v101 (ix2 r q) = v101 (ix2 r ⟨128 + q.val, by omega⟩)
    ∧ k0_pay28 v101 (ix2 r q) = v101 (ix2 r ⟨256 + q.val, by omega⟩) ∧ k0_pay31 v101 (ix2 r q) = v101 (ix2 r ⟨384 + q.val, by omega⟩) := by
  unfold k0_pay22 k0_pay25 k0_pay28 k0_pay31
  pointwise

include H in
/-- An even quarter of the query block. -/
theorem qeven_at (r : Fin 512) (p : Fin 4) (q : Fin 128) (i : Fin 1536) (hi : i.val = 128 * p.val + q.val) (j : Fin 1024) (hj : j.val = 256 * p.val + q.val) :
    k0_pay38 x0 x1 x2 x3 x4 x5 x6 x7 x8 x9 x10 x11 x12 x13 (ix2 r i) = qaAt A b (s r) j := by
  rw [qplain_at H r ⟨i.val, by omega⟩ i rfl]
  unfold qaAt pairAt
  refine Eq.trans ?_ (dif_pos (by omega)).symm
  exact congrArg₂ (fun (h : Fin 8) (d : Fin 96) => query A b (s r) h d * scaleA) (Fin.ext (by show i.val / 64 = j.val / 256 * 2 + j.val % 256 / 64; omega))
    (Fin.ext (by show i.val % 64 = j.val % 64; omega))

include H in
/-- An odd quarter of the query block. -/
theorem qodd_at (r : Fin 512) (p : Fin 4) (q : Fin 128) (i i' : Fin 1536) (hi : i.val = 512 + 128 * p.val + q.val) (hi' : i'.val = 1024 + 128 * p.val + q.val)
    (j : Fin 1024) (hj : j.val = 256 * p.val + 128 + q.val) :
    k0_pay38 x0 x1 x2 x3 x4 x5 x6 x7 x8 x9 x10 x11 x12 x13 (ix2 r i) * k0_pay36 x0 x1 x2 x3 x4 x5 x6 x7 x8 x9 x10 x11 x12 x13 (ix2 r q) + k0_pay38 x0 x1 x2 x3 x4 x5 x6 x7 x8 x9 x10 x11 x12 x13 (ix2 r i') * k0_pay37 x0 x1 x2 x3 x4 x5 x6 x7 x8 x9 x10 x11 x12 x13 (ix2 r q) = qaAt A b (s r) j := by
  rw [cos_at H, sin_at H]
  unfold qaAt pairAt
  refine Eq.trans ?_ (dif_neg (by omega)).symm
  by_cases hq : q.val < 64
  · rw [qrot_at H r p ⟨q.val, hq⟩ i hi, qswap_at H r p ⟨q.val, hq⟩ i' hi', if_pos hq, if_pos hq]
    refine Eq.trans ?_ (dif_pos (by omega)).symm
    refine (rope_scaled A b (s r) (fun e => query A b (s r) ⟨p.val * 2 + q.val / 32, by omega⟩ ⟨64 + e.val, by omega⟩) ⟨q.val % 32, by omega⟩ _ _ scaleA scaleA_real rfl rfl).trans ?_
    exact congrArg₂ (fun (h : Fin 8) (d : Fin 32) => rope A b (s r) (fun e => query A b (s r) h ⟨64 + e.val, by omega⟩) d * scaleA)
      (Fin.ext (by show p.val * 2 + q.val / 32 = j.val / 256 * 2 + j.val % 64 / 32; omega)) (Fin.ext (by show q.val % 32 = j.val % 32; omega))
  · simp only [if_neg hq, mul_zero, add_zero]
    refine Eq.trans ?_ (dif_neg (show ¬ j.val % 256 < 192 by omega)).symm
    rfl

include H in
/-- An even quarter of the key block. -/
theorem keven_at (r : Fin 512) (p : Fin 4) (q : Fin 128) (i : Fin 512) (hi : i.val = 128 * p.val + q.val) (j : Fin 1024) (hj : j.val = 256 * p.val + q.val) :
    k0_pay39 x0 x1 x2 x3 x4 x5 x6 x7 x8 x9 x10 x11 x12 x13 (ix2 r i) = kaAt A b (s r) j := by
  unfold k0_pay39
  rw [ka_gen]
  unfold kaAt pairAt
  refine Eq.trans ?_ (dif_pos (by omega)).symm
  refine Finset.sum_congr rfl fun x _ => congr (congrArg HMul.hMul (klat_at H r x)) (((ld_11 x8 x i).trans (H.h8 x i)).trans (congrArg (fun i => A.uk (ix2 x i)) (Fin.ext ?_)))
  show i.val = (j.val / 256 * 2 + j.val % 256 / 64) * 64 + j.val % 64
  omega

include H in
/-- An odd quarter of the key block: the same for every head. -/
theorem kodd_at (r : Fin 512) (q : Fin 128) (j : Fin 1024) (hj : j.val % 256 = 128 + q.val) : k0_pay40 x0 x1 x2 x3 x4 x5 x6 x7 x8 x9 x10 x11 x12 x13 (ix2 r q) = kaAt A b (s r) j := by
  unfold k0_pay40
  rw [kr_gen, cos_at H, sin_at H, rlow_at H, rlow_at H]
  unfold kaAt pairAt
  refine Eq.trans ?_ (dif_neg (by omega)).symm
  by_cases hq : q.val < 64
  · rw [if_pos hq, if_pos hq, if_pos hq, if_neg (by show ¬ ((q.val + 128 - 64) % 128 < 64); omega)]
    refine Eq.trans ?_ (dif_pos (by omega)).symm
    refine Eq.trans ?_ ((rope_eq A b (s r) (fun e => prj A b (s r) ⟨384 + e.val, by omega⟩) ⟨q.val % 32, by omega⟩ _ _ rfl rfl).trans
      (congrArg (fun d : Fin 32 => rope A b (s r) (fun e => prj A b (s r) ⟨384 + e.val, by omega⟩) d) (Fin.ext (by show q.val % 32 = j.val % 32; omega))))
    refine congrArg (fun i => _ + prj A b (s r) i * _) (Fin.ext ?_)
    show 384 + ((q.val + 128 - 64) % 128 + 16) % 32 = 384 + (q.val % 32 + 16) % 32
    omega
  · simp only [if_neg hq, mul_zero, add_zero]
    refine Eq.trans ?_ (dif_neg (show ¬ j.val % 256 < 192 by omega)).symm
    rfl

/-- A row of the value layout, from its rows of numbers, zeros and ones. -/
theorem col_eq {m : Nat} (v : Fin 8 → Fin 64 → EReal) (n : Fin 640) (f g : Fin m → EReal) (o : EReal) (ho : o = if n.val % 80 = 64 then 1 else 0)
    (hf : ∀ h : n.val % 80 < 64, ∑ k, f k * g k = v ⟨n.val / 80, by omega⟩ ⟨n.val % 80, h⟩) (hz : ¬ n.val % 80 < 64 → ∀ k, f k = 0) :
    (∑ k, f k * g k) + o = colAt v n := by
  subst ho
  unfold colAt
  by_cases h : n.val % 80 < 64
  · rw [hf h, if_neg (by omega), add_zero, dif_pos h]
  · rw [dif_neg h]
    simp only [hz h, zero_mul, Finset.sum_const_zero, zero_add]

include H in
/-- The value block of the first attention. -/
theorem va_at (n : Fin 640) (r : Fin 512) : k0_pay17 (k0_pay34 x0 x1 x2 x3 x4 x5 x6 x7 x8 x9 x10 x11 x12 x13) (View.ld x7 r0_10) (View.ld x9 r0_12) (View.ld x11 r0_13) (ix3 0 n r) = vaAt A b (s r) n := by
  rw [va_gen]
  have hv : ∀ x : Fin 128, View.ld x9 r0_12 (ix2 n x) = vw A.uv (ix2 n x) := fun x => (ld_12 x9 n x).trans (H.h9 n x)
  refine col_eq (latent A b (s r) A.uv) n _ _ _ ((ld_13 x11 n).trans (H.h11 n)) (fun h => ?_) (fun h k => (hv k).trans ?_)
  · exact Finset.sum_congr rfl fun x _ => (mul_comm _ _).trans (congr (congrArg HMul.hMul (klat_at H r x)) ((hv x).trans ((vw_at _ _ _).trans (dif_pos h))))
  · rw [vw_at, dif_neg h]

include H in
/-- The value block of the second attention. -/
theorem vb_at (n : Fin 640) (r : Fin 512) : k0_pay2 (k0_pay33 x0 x1 x2 x3 x4 x5 x6 x7 x8 x9 x10 x11 x12 x13) (View.ld x10 r0_27) (View.ld x11 r0_13) (ix3 0 n r) = vbAt A b (s r) n := by
  rw [vb_gen]
  have hv : ∀ x : Fin 1024, View.ld x10 r0_27 (ix2 n x) = vbw A.wi (ix2 n x) := fun x => (ld_27 x10 n x).trans (H.h10 n x)
  refine col_eq (fun h d => prj A b (s r) ⟨1440 + (h.val * 64 + d.val), by omega⟩) n _ _ _ ((ld_13 x11 n).trans (H.h11 n)) (fun h => ?_) (fun h k => (hv k).trans ?_)
  · exact Finset.sum_congr rfl fun x _ => (mul_comm _ _).trans (congr (congrArg HMul.hMul (hid_at H r x)) ((hv x).trans ((vbw_at _ _ _).trans (dif_pos h))))
  · rw [vbw_at, dif_neg h]

include H in
/-- The queries and the keys of the second attention. -/
theorem qb_at (r : Fin 512) (j : Fin 512) : k0_pay32 (k0_pay33 x0 x1 x2 x3 x4 x5 x6 x7 x8 x9 x10 x11 x12 x13) (View.ld x4 r0_24) (ix2 r j) = qbAt A b (s r) j := by
  rw [qb_gen]
  refine Eq.trans ?_ (sum_scaled scaleB scaleB_real _ _)
  refine Finset.sum_congr rfl fun k _ => congr (congrArg HMul.hMul (hid_at H r k)) ?_
  rw [ld_24, H.h4, big_at, dif_neg (by show ¬ (512 + j.val < 384); omega), dif_neg (by show ¬ (512 + j.val < 448); omega),
    dif_neg (by show ¬ (512 + j.val < 512); omega), dif_pos (by show 512 + j.val < 1024; omega)]
  exact congrArg (fun i => A.wi (ix2 k i) * scaleB) (Fin.ext (by show 416 + (512 + j.val - 512) = 416 + j.val; omega))

include H in
theorem kb_at (r : Fin 512) (j : Fin 512) : k0_pay1 (k0_pay33 x0 x1 x2 x3 x4 x5 x6 x7 x8 x9 x10 x11 x12 x13) (View.ld x4 r0_26) (ix2 r j) = kbAt A b (s r) j := by
  rw [kb_gen]
  unfold kbAt prj
  refine Finset.sum_congr rfl fun k _ => congr (congrArg HMul.hMul (hid_at H r k)) ?_
  rw [ld_26, H.h4, big_at, dif_neg (by show ¬ (1024 + j.val < 384); omega), dif_neg (by show ¬ (1024 + j.val < 448); omega),
    dif_neg (by show ¬ (1024 + j.val < 512); omega), dif_neg (by show ¬ (1024 + j.val < 1024); omega), dif_pos (by show 1024 + j.val < 1536; omega)]
  exact congrArg (fun i => A.wi (ix2 k i)) (Fin.ext (by show 928 + (1024 + j.val - 1024) = 928 + j.val; omega))

include H in
/-- The gates. -/
theorem ga_at (r : Fin 512) (j : Fin 1024) : k0_pay8 (View.ld x0 r0_0) (View.ld x3 r0_1) (View.ld x2 r0_2) (View.ld x2 r0_3) (View.ld x4 r0_5) (ix2 r j) = gaAt A b (s r) j := by
  rw [ga_gen]
  refine congrArg Ideal.logistic (Finset.sum_congr rfl fun k _ => congr (congrArg HMul.hMul (hid_at H r k)) ?_)
  rw [ld_5, H.h4, big_at, dif_neg (by show ¬ (1536 + j.val < 384); omega), dif_neg (by show ¬ (1536 + j.val < 448); omega),
    dif_neg (by show ¬ (1536 + j.val < 512); omega), dif_neg (by show ¬ (1536 + j.val < 1024); omega), dif_neg (by show ¬ (1536 + j.val < 1536); omega),
    dif_pos (by show 1536 + j.val < 2560; omega)]
  exact congrArg (fun i => A.wi (ix2 k i)) (Fin.ext (by show 1952 + (1536 + j.val - 1536) = 1952 + j.val; omega))

include H in
theorem gb_at (r : Fin 512) (j : Fin 1024) : k0_pay18 (k0_pay33 x0 x1 x2 x3 x4 x5 x6 x7 x8 x9 x10 x11 x12 x13) (View.ld x4 r0_15) (ix2 r j) = gbAt A b (s r) j := by
  rw [gb_gen]
  refine congrArg Ideal.logistic (Finset.sum_congr rfl fun k _ => congr (congrArg HMul.hMul (hid_at H r k)) ?_)
  rw [ld_15, H.h4, big_at, dif_neg (by show ¬ (2560 + j.val < 384); omega), dif_neg (by show ¬ (2560 + j.val < 448); omega),
    dif_neg (by show ¬ (2560 + j.val < 512); omega), dif_neg (by show ¬ (2560 + j.val < 1024); omega), dif_neg (by show ¬ (2560 + j.val < 1536); omega),
    dif_neg (by show ¬ (2560 + j.val < 2560); omega)]
  exact congrArg (fun i => A.wi (ix2 k i)) (Fin.ext (by show 2976 + (2560 + j.val - 2560) = 2976 + j.val; omega))

end Cert.Kernel2Ideal.Proj

end
-- ==== Proof.Proj.Blocks.lean ====
/-
  The blocks of the input projection at their coordinates in the whole arrays: they hold the arguments.
-/
module

public import proofs.«01_k».proof.Proof.Proj.Value
public import Idealize.ShloMosaic.Lib.Pipeline.Covers
public import Idealize.ShloMosaic.Lib.Pipeline.ValueKit.Geometry

@[expose] public section

set_option maxRecDepth 16384

noncomputable section

namespace Cert.Kernel2Ideal.Proj

open Cert.Kernel2Ideal Cert.Kernel2Ideal.Gen Cert.Proj
open Idealize.ShloMosaic Idealize.ShloMosaic.TcCoe

variable (m : (ℓ : Loc nD τ sig) → Buf (Elt Ideal) ℓ) (ρ : Dev nD → PrngReg) (c : Dev nD) (t : Fin cfg0.N)

/-- The call's arguments. -/
def argsOf : Args where
  x := m ((c.tc : Thread nD τ).loc main_arg0)
  pos := m ((c.tc : Thread nD τ).loc main_arg1)
  md := m ((c.tc : Thread nD τ).loc main_arg2)
  gm := m ((c.tc : Thread nD τ).loc main_arg3)
  wi := m ((c.tc : Thread nD τ).loc main_arg4)
  gq := m ((c.tc : Thread nD τ).loc main_arg5)
  uq := m ((c.tc : Thread nD τ).loc main_arg6)
  gk := m ((c.tc : Thread nD τ).loc main_arg7)
  uk := m ((c.tc : Thread nD τ).loc main_arg8)
  uv := m ((c.tc : Thread nD τ).loc main_arg9)

/-- The point's place in the grid, its batch, and the token of its row `r`. -/
abbrev pt : Fin 64 := grid0.coords t 0
def bat : Fin 8 := ⟨(pt t).val / 8, by have := (pt t).isLt; omega⟩
def tok (r : Fin 512) : Fin 4096 := ⟨(pt t).val % 8 * 512 + r.val, by omega⟩

/-- The points' blocks: a batch's row of 8 points. -/
theorem at1 (i : grid0.Coords) : cc0_transform_1 i = ![(i 0).val / 8, 0, (i 0).val % 8] := by
  have h : ∀ p : Fin 64, cc0_transform_1 (fun a => Fin.cast (by fin_cases a; rfl) p) = ![p.val / 8, 0, p.val % 8] := by decide +kernel
  refine Eq.trans (congrArg cc0_transform_1 (funext fun a => ?_)) (h (i 0))
  fin_cases a
  rfl
theorem at2 (i : grid0.Coords) : cc0_transform_2 i = ![(i 0).val / 8, 0, 0] := by
  have h : ∀ p : Fin 64, cc0_transform_2 (fun a => Fin.cast (by fin_cases a; rfl) p) = ![p.val / 8, 0, 0] := by decide +kernel
  refine Eq.trans (congrArg cc0_transform_2 (funext fun a => ?_)) (h (i 0))
  fin_cases a
  rfl
theorem at16 (i : grid0.Coords) : cc0_transform_16 i = ![(i 0).val / 8, 0, (i 0).val % 8] := at1 i
theorem at19 (i : grid0.Coords) : cc0_transform_19 i = ![(i 0).val / 8, 0, (i 0).val % 8] := at1 i

/-- The row of a point's row in the arrays with one row per token. -/
def rowOf (r : Fin 512) : Fin 32768 := ⟨(pt t).val * 512 + r.val, by have := (pt t).isLt; omega⟩

theorem iblk0_at (r : Fin 512) (k : Fin 1024) : (iblk m c 0 t : Vec Ideal S512x1024 .f32) (ix2 r k) = (V m c main_v0 : FVec Ideal S32768x1024 .f32) (ix2 (rowOf t r) k) := by
  refine congrArg (V m c main_v0 : FVec Ideal S32768x1024 .f32) (funext fun a => Fin.ext ?_)
  refine (Pipeline.Window.rect_emb_val (cfg0.win 0) t (ix2 r k) a).trans ?_
  fin_cases a
  · show (BitVec.ofNat 32 (pt t).val).toNat * 512 + r.val = (pt t).val * 512 + r.val
    rw [BitVec.toNat_ofNat, Nat.mod_eq_of_lt (by have := (pt t).isLt; omega)]
  · show 0 * 1024 + k.val = k.val
    omega

theorem iblk1_at (r : Fin 512) : (iblk m c 1 t : Vec Ideal S1x1x512 .i32) (ix3 0 0 r) = (V m c main_v1 : IVec S8x1x4096 32) (ix3 (bat t) 0 (tok t r)) := by
  refine congrArg (V m c main_v1 : IVec S8x1x4096 32) (funext fun a => Fin.ext ?_)
  refine (Pipeline.Window.rect_emb_val (cfg0.win 1) t (ix3 0 0 r) a).trans ?_
  fin_cases a
  · exact (congrArg (· * 1 + 0) (congrFun (at1 (grid0.coords t)) 0)).trans (by show (pt t).val / 8 * 1 + 0 = (pt t).val / 8; omega)
  · exact congrArg (· * 1 + 0) (congrFun (at1 (grid0.coords t)) 1)
  · exact congrArg (· * 512 + r.val) (congrFun (at1 (grid0.coords t)) 2)

theorem iblk2_at (k : Fin 6) (j : Fin 1024) : (iblk m c 2 t : Vec Ideal S1x6x1024 .f32) (ix3 0 k j) = (V m c main_v2 : FVec Ideal S8x6x1024 .f32) (ix3 (bat t) k j) := by
  refine congrArg (V m c main_v2 : FVec Ideal S8x6x1024 .f32) (funext fun a => Fin.ext ?_)
  refine (Pipeline.Window.rect_emb_val (cfg0.win 2) t (ix3 0 k j) a).trans ?_
  fin_cases a
  · exact (congrArg (· * 1 + 0) (congrFun (at2 (grid0.coords t)) 0)).trans (by show (pt t).val / 8 * 1 + 0 = (pt t).val / 8; omega)
  · exact (congrArg (· * 6 + k.val) (congrFun (at2 (grid0.coords t)) 1)).trans (by show 0 * 6 + k.val = k.val; omega)
  · exact (congrArg (· * 1024 + j.val) (congrFun (at2 (grid0.coords t)) 2)).trans (by show 0 * 1024 + j.val = j.val; omega)

/-! The other blocks are whole arrays. -/

theorem iblk3_at (y : S1x1024.Idx) : (iblk m c 3 t : Vec Ideal S1x1024 .f32) y = (V m c main_v52 : FVec Ideal S1x1024 .f32) y :=
  congrArg (V m c main_v52 : FVec Ideal S1x1024 .f32) (funext fun a => Fin.ext ((Pipeline.Window.rect_emb_val (cfg0.win 3) t y a).trans (by
    fin_cases a
    · exact Nat.zero_add _
    · exact Nat.zero_add _)))
theorem iblk4_at (y : S1024x3584.Idx) : (iblk m c 4 t : Vec Ideal S1024x3584 .bf16) y = (V m c main_v39 : FVec Ideal S1024x3584 .bf16) y :=
  congrArg (V m c main_v39 : FVec Ideal S1024x3584 .bf16) (funext fun a => Fin.ext ((Pipeline.Window.rect_emb_val (cfg0.win 4) t y a).trans (by
    fin_cases a
    · exact Nat.zero_add _
    · exact Nat.zero_add _)))
theorem iblk5_at (y : S1x256.Idx) : (iblk m c 5 t : Vec Ideal S1x256 .f32) y = (V m c main_v53 : FVec Ideal S1x256 .f32) y :=
  congrArg (V m c main_v53 : FVec Ideal S1x256 .f32) (funext fun a => Fin.ext ((Pipeline.Window.rect_emb_val (cfg0.win 5) t y a).trans (by
    fin_cases a
    · exact Nat.zero_add _
    · exact Nat.zero_add _)))
theorem iblk6_at (y : S256x1536.Idx) : (iblk m c 6 t : Vec Ideal S256x1536 .bf16) y = (V m c main_v40 : FVec Ideal S256x1536 .bf16) y :=
  congrArg (V m c main_v40 : FVec Ideal S256x1536 .bf16) (funext fun a => Fin.ext ((Pipeline.Window.rect_emb_val (cfg0.win 6) t y a).trans (by
    fin_cases a
    · exact Nat.zero_add _
    · exact Nat.zero_add _)))
theorem iblk7_at (y : S1x128.Idx) : (iblk m c 7 t : Vec Ideal S1x128 .f32) y = (V m c main_v54 : FVec Ideal S1x128 .f32) y :=
  congrArg (V m c main_v54 : FVec Ideal S1x128 .f32) (funext fun a => Fin.ext ((Pipeline.Window.rect_emb_val (cfg0.win 7) t y a).trans (by
    fin_cases a
    · exact Nat.zero_add _
    · exact Nat.zero_add _)))
theorem iblk8_at (y : S128x512.Idx) : (iblk m c 8 t : Vec Ideal S128x512 .bf16) y = (V m c main_v41 : FVec Ideal S128x512 .bf16) y :=
  congrArg (V m c main_v41 : FVec Ideal S128x512 .bf16) (funext fun a => Fin.ext ((Pipeline.Window.rect_emb_val (cfg0.win 8) t y a).trans (by
    fin_cases a
    · exact Nat.zero_add _
    · exact Nat.zero_add _)))
theorem iblk9_at (y : S640x128.Idx) : (iblk m c 9 t : Vec Ideal S640x128 .bf16) y = (V m c main_v46 : FVec Ideal S640x128 .bf16) y :=
  congrArg (V m c main_v46 : FVec Ideal S640x128 .bf16) (funext fun a => Fin.ext ((Pipeline.Window.rect_emb_val (cfg0.win 9) t y a).trans (by
    fin_cases a
    · exact Nat.zero_add _
    · exact Nat.zero_add _)))
theorem iblk10_at (y : S640x1024.Idx) : (iblk m c 10 t : Vec Ideal S640x1024 .bf16) y = (V m c main_v51 : FVec Ideal S640x1024 .bf16) y :=
  congrArg (V m c main_v51 : FVec Ideal S640x1024 .bf16) (funext fun a => Fin.ext ((Pipeline.Window.rect_emb_val (cfg0.win 10) t y a).trans (by
    fin_cases a
    · exact Nat.zero_add _
    · exact Nat.zero_add _)))
theorem iblk11_at (y : S640x1.Idx) : (iblk m c 11 t : Vec Ideal S640x1 .f32) y = (V m c main_cst : FVec Ideal S640x1 .f32) y :=
  congrArg (V m c main_cst : FVec Ideal S640x1 .f32) (funext fun a => Fin.ext ((Pipeline.Window.rect_emb_val (cfg0.win 11) t y a).trans (by
    fin_cases a
    · exact Nat.zero_add _
    · exact Nat.zero_add _)))
theorem iblk12_at (y : S128x1.Idx) : (iblk m c 12 t : Vec Ideal S128x1 .f32) y = (V m c main_v55 : FVec Ideal S128x1 .f32) y :=
  congrArg (V m c main_v55 : FVec Ideal S128x1 .f32) (funext fun a => Fin.ext ((Pipeline.Window.rect_emb_val (cfg0.win 12) t y a).trans (by
    fin_cases a
    · exact Nat.zero_add _
    · exact Nat.zero_add _)))
theorem iblk13_at (y : S128x1.Idx) : (iblk m c 13 t : Vec Ideal S128x1 .f32) y = (V m c main_v56 : FVec Ideal S128x1 .f32) y :=
  congrArg (V m c main_v56 : FVec Ideal S128x1 .f32) (funext fun a => Fin.ext ((Pipeline.Window.rect_emb_val (cfg0.win 13) t y a).trans (by
    fin_cases a
    · exact Nat.zero_add _
    · exact Nat.zero_add _)))

/-! ## The host arrays at an element -/

theorem tokens_at (x : FVec Ideal S8x4096x1024 .f32) (i : Fin 32768) (k : Fin 1024) :
    shapeCast S32768x1024 x shapeCasts_S8x4096x1024_S32768x1024 (ix2 i k) = x (ix3 ⟨i.val / 4096, by omega⟩ ⟨i.val % 4096, by omega⟩ k) := by
  pointwise
theorem positions_at (x : IVec S8x4096 32) (b : Fin 8) (s : Fin 4096) : shapeCast S8x1x4096 x shapeCasts_S8x4096_S8x1x4096 (ix3 b 0 s) = x (ix2 b s) := by
  pointwise
theorem mods_at (x : FVec Ideal S8x6144 .f32) (b : Fin 8) (a : Fin 6) (k : Fin 1024) :
    shapeCast S8x6x1024 x shapeCasts_S8x6144_S8x6x1024 (ix3 b a k) = x (ix2 b ⟨a.val * 1024 + k.val, by omega⟩) := by
  pointwise
theorem gain_at (x : FVec Ideal S1024 .f32) (k : Fin 1024) : shapeCast S1x1024 x shapeCasts_S1024_S1x1024 (ix2 0 k) = x (ix1 k) := by
  pointwise
theorem gainq_at (x : FVec Ideal S256 .f32) (k : Fin 256) : shapeCast S1x256 x shapeCasts_S256_S1x256 (ix2 0 k) = x (ix1 k) := by
  pointwise
theorem gaink_at (x : FVec Ideal S128 .f32) (k : Fin 128) : shapeCast S1x128 x shapeCasts_S128_S1x128 (ix2 0 k) = x (ix1 k) := by
  pointwise
theorem column_at (x : FVec Ideal S128 .f32) (k : Fin 128) : shapeCast S128x1 x shapeCasts_S128_S128x1 (ix2 k 0) = x (ix1 k) := by
  pointwise

/-- The words of the tables. -/
theorem one_word : Ideal.ofBits .f32 1065353216#32 = 1 := IdealRules.sign_bit.ideal_onePat .f32
theorem neg_one_word : Ideal.ofBits .f32 3212836864#32 = -1 := IdealRules.sign_bit.ideal_negOnePat .f32

/-- Positions in a column and in a vector. -/
theorem column_pos (n : Fin 640) : S640x1.rowMajor (ix2 n 0) = n := Fin.ext ((Shape.rowMajor_val_two _).trans (by show n.val * 1 + 0 = n.val; omega))
theorem vector_pos (l : Fin 128) : S128.rowMajor (ix1 l) = l := Fin.ext (Shape.rowMajor_val_one _)

theorem ones_at (n : Fin 640) : Ideal.ofBits .f32 (lit1 (S640x1.rowMajor (ix2 n 0))) = if n.val % 80 = 64 then 1 else 0 := by
  rw [column_pos, lit1_eq]
  split
  · exact one_word
  · exact Ideal.ofBits_zero_f32
theorem freq_at (l : Fin 128) : Ideal.ofBits .f32 (lit2 (S128.rowMajor (ix1 l))) = Ideal.ofBits .f32 (freqWord ⟨l.val % 16, by omega⟩) := by
  rw [vector_pos, lit2_eq]
theorem sign_at (l : Fin 128) : Ideal.ofBits .f32 (lit3 (S128.rowMajor (ix1 l))) = if l.val % 32 < 16 then -1 else 1 := by
  rw [vector_pos, lit3_eq]
  split
  · exact neg_one_word
  · exact one_word

/-- The token of a point's row. -/
theorem token_eq (f : Fin 8 → Fin 4096 → EReal) (r : Fin 512) : f ⟨(rowOf t r).val / 4096, by omega⟩ ⟨(rowOf t r).val % 4096, by omega⟩ = f (bat t) (tok t r) :=
  congrArg₂ f (Fin.ext (by show ((pt t).val * 512 + r.val) / 4096 = (pt t).val / 8; omega))
    (Fin.ext (by show ((pt t).val * 512 + r.val) % 4096 = (pt t).val % 8 * 512 + r.val; omega))

/-- A point's blocks hold the arguments. -/
theorem holds : Holds (argsOf m c) (bat t) (tok t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) where
  h0 r k := (iblk0_at m c t r k).trans ((congrFun (V_v0 m c) _).trans ((tokens_at _ _ _).trans (token_eq t (fun p q => (argsOf m c).x (ix3 p q k)) r)))
  h1 r := (iblk1_at m c t r).trans ((congrFun (V_v1 m c) _).trans (positions_at _ _ _))
  h2 a k := (iblk2_at m c t a k).trans ((congrFun (V_v2 m c) _).trans (mods_at _ _ _ _))
  h3 k := (iblk3_at m c t _).trans ((congrFun (V_v52 m c) _).trans (gain_at _ _))
  h4 k j := (iblk4_at m c t _).trans (congrFun (V_v39 m c) _)
  h5 k := (iblk5_at m c t _).trans ((congrFun (V_v53 m c) _).trans (gainq_at _ _))
  h6 k j := (iblk6_at m c t _).trans (congrFun (V_v40 m c) _)
  h7 k := (iblk7_at m c t _).trans ((congrFun (V_v54 m c) _).trans (gaink_at _ _))
  h8 k j := (iblk8_at m c t _).trans (congrFun (V_v41 m c) _)
  h9 n k := (iblk9_at m c t _).trans (congrFun (V_v46 m c) _)
  h10 n k := (iblk10_at m c t _).trans (congrFun (V_v51 m c) _)
  h11 n := (iblk11_at m c t _).trans ((congrFun (V_cst m c) _).trans (ones_at n))
  h12 l := (iblk12_at m c t _).trans ((congrFun (V_v55 m c) _).trans ((column_at _ _).trans (freq_at l)))
  h13 l := (iblk13_at m c t _).trans ((congrFun (V_v56 m c) _).trans ((column_at _ _).trans (sign_at l)))

end Cert.Kernel2Ideal.Proj

end
-- ==== Proof.Proj.Stored.lean ====
/-
  The eight output blocks of a point of the input projection, from blocks that hold the arguments' elements.
-/
module

public import proofs.«01_k».proof.Proof.Proj.Value
public import Idealize.ShloMosaic.Lib.Pipeline.Value
public import Idealize.ShloMosaic.Lib.Pipeline.ValueKit.Basic
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Kernel2Ideal.Proj

open Cert.Kernel2Ideal.Gen Cert.Proj
open Idealize.ShloMosaic Idealize.ShloMosaic.TcCoe

variable {A : Args} {b : Fin 8} {s : Fin 512 → Fin 4096} {x0 : Vec Ideal S512x1024 .f32} {x1 : Vec Ideal S1x1x512 .i32} {x2 : Vec Ideal S1x6x1024 .f32} {x3 : Vec Ideal S1x1024 .f32} {x4 : Vec Ideal S1024x3584 .bf16}
  {x5 : Vec Ideal S1x256 .f32} {x6 : Vec Ideal S256x1536 .bf16} {x7 : Vec Ideal S1x128 .f32} {x8 : Vec Ideal S128x512 .bf16} {x9 : Vec Ideal S640x128 .bf16} {x10 : Vec Ideal S640x1024 .bf16} {x11 : Vec Ideal S640x1 .f32}
  {x12 : Vec Ideal S128x1 .f32} {x13 : Vec Ideal S128x1 .f32} (H : Holds A b s x0 x1 x2 x3 x4 x5 x6 x7 x8 x9 x10 x11 x12 x13)

/-! ## What a point leaves in its eight output blocks -/

/-- A function of the row and the column, read at an element of a quarter that begins at column `o`. -/
theorem quarter_at (g : Fin 512 → Fin 1024 → EReal) (o : Nat) (inb : ∀ a, (![0, o] : Fin 2 → Nat) a + S512x128.size a ≤ S512x1024.size a) (r : Fin 512) (q : Fin 128)
    (j : Fin 1024) (hj : j.val = o + q.val) :
    (fun y : S512x1024.Idx => g (y 0) (y 1)) ((Rect.unit (s := S512x1024) ![0, o] S512x128.size inb).emb (ix2 r q)) = g r j := by
  refine congrArg₂ g (Fin.ext ?_) (Fin.ext ?_)
  · rw [Rect.emb_apply]
    show 0 + 1 * r.val = r.val
    omega
  · rw [Rect.emb_apply, hj]
    show o + 1 * q.val = o + q.val
    omega

/-- A block of eight quarters, each of which holds `g` there, holds `g`. -/
theorem quarters_at (g : Fin 512 → Fin 1024 → EReal) (p0 p1 p2 p3 p4 p5 p6 p7 : FVec Ideal S512x128 .bf16)
    (h0 : ∀ r (q : Fin 128), p0 (ix2 r q) = g r ⟨q.val, by omega⟩) (h1 : ∀ r (q : Fin 128), p1 (ix2 r q) = g r ⟨128 + q.val, by omega⟩)
    (h2 : ∀ r (q : Fin 128), p2 (ix2 r q) = g r ⟨256 + q.val, by omega⟩) (h3 : ∀ r (q : Fin 128), p3 (ix2 r q) = g r ⟨384 + q.val, by omega⟩)
    (h4 : ∀ r (q : Fin 128), p4 (ix2 r q) = g r ⟨512 + q.val, by omega⟩) (h5 : ∀ r (q : Fin 128), p5 (ix2 r q) = g r ⟨640 + q.val, by omega⟩)
    (h6 : ∀ r (q : Fin 128), p6 (ix2 r q) = g r ⟨768 + q.val, by omega⟩) (h7 : ∀ r (q : Fin 128), p7 (ix2 r q) = g r ⟨896 + q.val, by omega⟩) (r : Fin 512) (j : Fin 1024) :
    (View.canon ([⟨r0_23, p7⟩, ⟨r0_22, p6⟩, ⟨r0_21, p5⟩, ⟨r0_20, p4⟩, ⟨r0_19, p3⟩, ⟨r0_18, p2⟩, ⟨r0_17, p1⟩, ⟨r0_16, p0⟩] : List (View.Piece (Elt Ideal) S512x1024 .bf16)) : Vec Ideal S512x1024 .bf16) (ix2 r j) = g r j := by
  refine View.canon_apply_of_pieces (Val := Elt Ideal) (e := .bf16) (fun y : S512x1024.Idx => (g (y 0) (y 1) : EReal)) _ ?_ (ix2 r j) (cover0_14 (F := Ideal) p7 p6 p5 p4 p3 p2 p1 p0 _)
  have hp : ∀ (o : Nat) (inb : ∀ a, (![0, o] : Fin 2 → Nat) a + S512x128.size a ≤ S512x1024.size a) (p : FVec Ideal S512x128 .bf16) (ho : o + 128 ≤ 1024)
      (_ : ∀ r (q : Fin 128), p (ix2 r q) = g r ⟨o + q.val, by omega⟩) (x : S512x128.Idx),
      p x = (fun y : S512x1024.Idx => (g (y 0) (y 1) : EReal)) ((Rect.unit (s := S512x1024) ![0, o] S512x128.size inb).emb x) := fun o inb p ho h x => by
    obtain ⟨r, q, rfl⟩ : ∃ (r : Fin 512) (q : Fin 128), x = ix2 r q := ⟨x 0, x 1, eq_ix2 _⟩
    exact (h r q).trans (quarter_at g o inb r q _ rfl).symm
  simp only [List.forall_mem_cons]
  refine ⟨hp 896 _ p7 (by omega) h7, hp 768 _ p6 (by omega) h6, hp 640 _ p5 (by omega) h5, hp 512 _ p4 (by omega) h4, hp 384 _ p3 (by omega) h3, hp 256 _ p2 (by omega) h2,
    hp 128 _ p1 (by omega) h1, hp 0 _ p0 (by omega) (fun r q => (h0 r q).trans (congrArg (g r) (Fin.ext (Nat.zero_add _).symm))), fun _ h => absurd h List.not_mem_nil⟩

include H in
theorem out14_at (r : Fin 512) (j : Fin 1024) : out0_14 x0 x1 x2 x3 x4 x5 x6 x7 x8 x9 x10 x11 x12 x13 (ix2 r j) = qaAt A b (s r) j := by
  unfold out0_14
  refine quarters_at (fun r j => qaAt A b (s r) j) _ _ _ _ _ _ _ _
    (fun r q => (even_gen _ r q).1.trans (qeven_at H r 0 q _ (by show q.val = 128 * 0 + q.val; omega) _ (by show q.val = 256 * 0 + q.val; omega)))
    (fun r q => (odd_gen _ _ _ r q).1.trans (qodd_at H r 0 q _ _ (by show 512 + q.val = 512 + 128 * 0 + q.val; omega) (by show 1024 + q.val = 1024 + 128 * 0 + q.val; omega) _ (by show 128 + q.val = 256 * 0 + 128 + q.val; omega)))
    (fun r q => (even_gen _ r q).2.1.trans (qeven_at H r 1 q _ (by show 128 + q.val = 128 * 1 + q.val; omega) _ (by show 256 + q.val = 256 * 1 + q.val; omega)))
    (fun r q => (odd_gen _ _ _ r q).2.1.trans (qodd_at H r 1 q _ _ (by show 640 + q.val = 512 + 128 * 1 + q.val; omega) (by show 1152 + q.val = 1024 + 128 * 1 + q.val; omega) _ (by show 384 + q.val = 256 * 1 + 128 + q.val; omega)))
    (fun r q => (even_gen _ r q).2.2.1.trans (qeven_at H r 2 q _ (by show 256 + q.val = 128 * 2 + q.val; omega) _ (by show 512 + q.val = 256 * 2 + q.val; omega)))
    (fun r q => (odd_gen _ _ _ r q).2.2.1.trans (qodd_at H r 2 q _ _ (by show 768 + q.val = 512 + 128 * 2 + q.val; omega) (by show 1280 + q.val = 1024 + 128 * 2 + q.val; omega) _ (by show 640 + q.val = 256 * 2 + 128 + q.val; omega)))
    (fun r q => (even_gen _ r q).2.2.2.trans (qeven_at H r 3 q _ (by show 384 + q.val = 128 * 3 + q.val; omega) _ (by show 768 + q.val = 256 * 3 + q.val; omega)))
    (fun r q => (odd_gen _ _ _ r q).2.2.2.trans (qodd_at H r 3 q _ _ (by show 896 + q.val = 512 + 128 * 3 + q.val; omega) (by show 1408 + q.val = 1024 + 128 * 3 + q.val; omega) _ (by show 896 + q.val = 256 * 3 + 128 + q.val; omega)))
    r j

include H in
theorem out15_at (r : Fin 512) (j : Fin 1024) : out0_15 x0 x1 x2 x3 x4 x5 x6 x7 x8 x9 x10 x11 x12 x13 (ix2 r j) = kaAt A b (s r) j := by
  unfold out0_15
  refine quarters_at (fun r j => kaAt A b (s r) j) _ _ _ _ _ _ _ _
    (fun r q => (key_gen _ r q).1.trans (keven_at H r 0 q _ (by show q.val = 128 * 0 + q.val; omega) _ (by show q.val = 256 * 0 + q.val; omega)))
    (fun r q => kodd_at H r q _ (by show (128 + q.val) % 256 = 128 + q.val; omega))
    (fun r q => (key_gen _ r q).2.1.trans (keven_at H r 1 q _ (by show 128 + q.val = 128 * 1 + q.val; omega) _ (by show 256 + q.val = 256 * 1 + q.val; omega)))
    (fun r q => kodd_at H r q _ (by show (384 + q.val) % 256 = 128 + q.val; omega))
    (fun r q => (key_gen _ r q).2.2.1.trans (keven_at H r 2 q _ (by show 256 + q.val = 128 * 2 + q.val; omega) _ (by show 512 + q.val = 256 * 2 + q.val; omega)))
    (fun r q => kodd_at H r q _ (by show (640 + q.val) % 256 = 128 + q.val; omega))
    (fun r q => (key_gen _ r q).2.2.2.trans (keven_at H r 3 q _ (by show 384 + q.val = 128 * 3 + q.val; omega) _ (by show 768 + q.val = 256 * 3 + q.val; omega)))
    (fun r q => kodd_at H r q _ (by show (896 + q.val) % 256 = 128 + q.val; omega))
    r j

/-- Offsets of zero. -/
theorem zero2 : (![0, 0] : Fin 2 → Nat) = fun _ => 0 := by funext a; fin_cases a <;> rfl
theorem zero3 : (![0, 0, 0] : Fin 3 → Nat) = fun _ => 0 := by funext a; fin_cases a <;> rfl

include H in
theorem out16_at (n : Fin 640) (r : Fin 512) : out0_16 x0 x1 x2 x3 x4 x5 x6 x7 x8 x9 x10 x11 x12 x13 (ix3 0 n r) = vaAt A b (s r) n :=
  (congrFun (View.canon_unit_zero (S := S1x640x512) zero3 _ _) _).trans (va_at H n r)
include H in
theorem out17_at (r : Fin 512) (j : Fin 512) : out0_17 x0 x1 x2 x3 x4 x5 x6 x7 x8 x9 x10 x11 x12 x13 (ix2 r j) = qbAt A b (s r) j :=
  (congrFun (View.canon_unit_zero (S := S512x512) zero2 _ _) _).trans (qb_at H r j)
include H in
theorem out18_at (r : Fin 512) (j : Fin 512) : out0_18 x0 x1 x2 x3 x4 x5 x6 x7 x8 x9 x10 x11 x12 x13 (ix2 r j) = kbAt A b (s r) j :=
  (congrFun (View.canon_unit_zero (S := S512x512) zero2 _ _) _).trans (kb_at H r j)
include H in
theorem out19_at (n : Fin 640) (r : Fin 512) : out0_19 x0 x1 x2 x3 x4 x5 x6 x7 x8 x9 x10 x11 x12 x13 (ix3 0 n r) = vbAt A b (s r) n :=
  (congrFun (View.canon_unit_zero (S := S1x640x512) zero3 _ _) _).trans (vb_at H n r)
include H in
theorem out20_at (r : Fin 512) (j : Fin 1024) : out0_20 x0 x1 x2 x3 x4 x5 x6 x7 x8 x9 x10 x11 x12 x13 (ix2 r j) = gaAt A b (s r) j :=
  (congrFun (View.canon_unit_zero (S := S512x1024) zero2 _ _) _).trans (ga_at H r j)
include H in
theorem out21_at (r : Fin 512) (j : Fin 1024) : out0_21 x0 x1 x2 x3 x4 x5 x6 x7 x8 x9 x10 x11 x12 x13 (ix2 r j) = gbAt A b (s r) j :=
  (congrFun (View.canon_unit_zero (S := S512x1024) zero2 _ _) _).trans (gb_at H r j)

end Cert.Kernel2Ideal.Proj

end
-- ==== Proof.Proj.Array.lean ====
/-
  The whole results of the input projection.
-/
module

public import proofs.«01_k».proof.Proof.Proj.Blocks
public import proofs.«01_k».proof.Proof.Proj.Stored
public import Idealize.ShloMosaic.Lib.Pipeline.Covers
public import Idealize.ShloMosaic.Lib.Pipeline.ValueKit.Geometry

@[expose] public section

set_option maxRecDepth 16384

noncomputable section

namespace Cert.Kernel2Ideal.Proj

open Cert.Kernel2Ideal Cert.Kernel2Ideal.Gen Cert.Proj
open Idealize.ShloMosaic Idealize.ShloMosaic.TcCoe

variable (m : (ℓ : Loc nD τ sig) → Buf (Elt Ideal) ℓ) (ρ : Dev nD → PrngReg) (c : Dev nD) (t : Fin cfg0.N)

/-! ## From a block to the whole array -/

/-- A block of 512 rows that holds its tokens' values is the whole array's block there. -/
theorem rows_block {n : Nat} (f : Fin 8 → Fin 4096 → Fin n → EReal) (out : FVec Ideal ⟨2, ![512, n]⟩ .bf16) (ho : ∀ r j, out (ix2 r j) = f (bat t) (tok t r) j)
    (y : (⟨2, ![512, n]⟩ : Shape).Idx) (z : (⟨2, ![32768, n]⟩ : Shape).Idx) (h0 : (z 0).val = (pt t).val * 512 + (y 0).val) (h1 : (z 1).val = (y 1).val) : out y = rows f z := by
  obtain ⟨r, j, rfl⟩ : ∃ (r : Fin 512) (j : Fin n), y = ix2 r j := ⟨y 0, y 1, eq_ix2 _⟩
  obtain ⟨i, k, rfl⟩ : ∃ (i : Fin 32768) (k : Fin n), z = ix2 i k := ⟨z 0, z 1, eq_ix2 _⟩
  obtain rfl : i = rowOf t r := Fin.ext h0
  obtain rfl : k = j := Fin.ext h1
  exact (ho r k).trans (token_eq t (fun p q => f p q k) r).symm

/-- A block of 512 columns of a batch likewise. -/
theorem cols_block (f : Fin 8 → Fin 4096 → Fin 640 → EReal) (out : FVec Ideal S1x640x512 .bf16) (ho : ∀ n r, out (ix3 0 n r) = f (bat t) (tok t r) n)
    (y : S1x640x512.Idx) (z : S8x640x4096.Idx) (h0 : (z 0).val = (pt t).val / 8) (h1 : (z 1).val = (y 1).val) (h2 : (z 2).val = (pt t).val % 8 * 512 + (y 2).val) : out y = cols f z := by
  obtain ⟨a, n, r, rfl⟩ : ∃ (a : Fin 1) (n : Fin 640) (r : Fin 512), y = ix3 a n r := ⟨y 0, y 1, y 2, eq_ix3 _⟩
  obtain ⟨i, k, l, rfl⟩ : ∃ (i : Fin 8) (k : Fin 640) (l : Fin 4096), z = ix3 i k l := ⟨z 0, z 1, z 2, eq_ix3 _⟩
  obtain rfl : a = 0 := Subsingleton.elim _ _
  obtain rfl : i = bat t := Fin.ext h0
  obtain rfl : k = n := Fin.ext h1
  obtain rfl : l = tok t r := Fin.ext h2
  exact ho k r

/-- Every place of the grid is a point's. -/
theorem point_of (p : Fin 64) : ∃ t : Fin cfg0.N, (pt t).val = p.val := by
  obtain ⟨t, ht⟩ := grid0.coords_surjective (fun a => Fin.cast (by fin_cases a; rfl) p)
  exact ⟨t, congrArg (fun x : grid0.Coords => (x 0).val) ht⟩

/-- A point's place as a word. -/
theorem place_word : (BitVec.ofNat 32 (pt t).val).toNat = (pt t).val := by
  rw [BitVec.toNat_ofNat, Nat.mod_eq_of_lt (by have := (pt t).isLt; omega)]

theorem flushed14 : (dats m 0 c).flushed 14 t = ((cfg0.win 14).blk t).view.read (Elt Ideal) (rows (qaAt (argsOf m c))) := by
  refine funext fun (y : S512x1024.Idx) => ?_
  show (dats m 0 c).after 14 t _ = _
  rw [after0_14]
  refine rows_block t (qaAt (argsOf m c)) _ (out14_at (holds m c t)) y _ ?_ ?_
  · refine (Pipeline.Window.rect_emb_val (cfg0.win 14) t y 0).trans ?_
    show (BitVec.ofNat 32 (pt t).val).toNat * 512 + (y 0).val = _
    rw [place_word]
  · refine (Pipeline.Window.rect_emb_val (cfg0.win 14) t y 1).trans ?_
    show 0 * 1024 + (y 1).val = _
    omega

theorem cover14 (i : S32768x1024.Idx) : ∃ t : Fin cfg0.N, (cfg0.win 14).flush t = true ∧ i ∈ ((cfg0.win 14).blk t).view.set := by
  have h0 : (i 0).val < 32768 := (i 0).isLt
  have h1 : (i 1).val < 1024 := (i 1).isLt
  obtain ⟨t, ht⟩ := point_of ⟨(i 0).val / 512, by omega⟩
  have e : (pt t).val = (i 0).val / 512 := ht
  refine ⟨t, flush0_14 t, (congrArg (i ∈ ·) (View.set_slice_whole main_v57_0 ((cfg0.win 14).rect t))).mpr ((Pipeline.Window.mem_rect_iff (cfg0.win 14) t i).mpr fun a => ?_)⟩
  fin_cases a
  · show (BitVec.ofNat 32 (pt t).val).toNat * 512 ≤ (i 0).val ∧ (i 0).val < (BitVec.ofNat 32 (pt t).val).toNat * 512 + 512
    rw [place_word, e]
    omega
  · show 0 * 1024 ≤ (i 1).val ∧ (i 1).val < 0 * 1024 + 1024
    omega

theorem final14 : (dats m 0 c).arrAt 14 cfg0.N = rows (qaAt (argsOf m c)) :=
  (dats m 0 c).arrAt_eq_of_cover 14 (rows (qaAt (argsOf m c))) (fun t _ => flushed14 m c t) cover14

theorem flushed15 : (dats m 0 c).flushed 15 t = ((cfg0.win 15).blk t).view.read (Elt Ideal) (rows (kaAt (argsOf m c))) := by
  refine funext fun (y : S512x1024.Idx) => ?_
  show (dats m 0 c).after 15 t _ = _
  rw [after0_15]
  refine rows_block t (kaAt (argsOf m c)) _ (out15_at (holds m c t)) y _ ?_ ?_
  · refine (Pipeline.Window.rect_emb_val (cfg0.win 15) t y 0).trans ?_
    show (BitVec.ofNat 32 (pt t).val).toNat * 512 + (y 0).val = _
    rw [place_word]
  · refine (Pipeline.Window.rect_emb_val (cfg0.win 15) t y 1).trans ?_
    show 0 * 1024 + (y 1).val = _
    omega

theorem cover15 (i : S32768x1024.Idx) : ∃ t : Fin cfg0.N, (cfg0.win 15).flush t = true ∧ i ∈ ((cfg0.win 15).blk t).view.set := by
  have h0 : (i 0).val < 32768 := (i 0).isLt
  have h1 : (i 1).val < 1024 := (i 1).isLt
  obtain ⟨t, ht⟩ := point_of ⟨(i 0).val / 512, by omega⟩
  have e : (pt t).val = (i 0).val / 512 := ht
  refine ⟨t, flush0_15 t, (congrArg (i ∈ ·) (View.set_slice_whole main_v57_1 ((cfg0.win 15).rect t))).mpr ((Pipeline.Window.mem_rect_iff (cfg0.win 15) t i).mpr fun a => ?_)⟩
  fin_cases a
  · show (BitVec.ofNat 32 (pt t).val).toNat * 512 ≤ (i 0).val ∧ (i 0).val < (BitVec.ofNat 32 (pt t).val).toNat * 512 + 512
    rw [place_word, e]
    omega
  · show 0 * 1024 ≤ (i 1).val ∧ (i 1).val < 0 * 1024 + 1024
    omega

theorem final15 : (dats m 0 c).arrAt 15 cfg0.N = rows (kaAt (argsOf m c)) :=
  (dats m 0 c).arrAt_eq_of_cover 15 (rows (kaAt (argsOf m c))) (fun t _ => flushed15 m c t) cover15

theorem flushed17 : (dats m 0 c).flushed 17 t = ((cfg0.win 17).blk t).view.read (Elt Ideal) (rows (qbAt (argsOf m c))) := by
  refine funext fun (y : S512x512.Idx) => ?_
  show (dats m 0 c).after 17 t _ = _
  rw [after0_17]
  refine rows_block t (qbAt (argsOf m c)) _ (out17_at (holds m c t)) y _ ?_ ?_
  · refine (Pipeline.Window.rect_emb_val (cfg0.win 17) t y 0).trans ?_
    show (BitVec.ofNat 32 (pt t).val).toNat * 512 + (y 0).val = _
    rw [place_word]
  · refine (Pipeline.Window.rect_emb_val (cfg0.win 17) t y 1).trans ?_
    show 0 * 512 + (y 1).val = _
    omega

theorem cover17 (i : S32768x512.Idx) : ∃ t : Fin cfg0.N, (cfg0.win 17).flush t = true ∧ i ∈ ((cfg0.win 17).blk t).view.set := by
  have h0 : (i 0).val < 32768 := (i 0).isLt
  have h1 : (i 1).val < 512 := (i 1).isLt
  obtain ⟨t, ht⟩ := point_of ⟨(i 0).val / 512, by omega⟩
  have e : (pt t).val = (i 0).val / 512 := ht
  refine ⟨t, flush0_17 t, (congrArg (i ∈ ·) (View.set_slice_whole main_v57_3 ((cfg0.win 17).rect t))).mpr ((Pipeline.Window.mem_rect_iff (cfg0.win 17) t i).mpr fun a => ?_)⟩
  fin_cases a
  · show (BitVec.ofNat 32 (pt t).val).toNat * 512 ≤ (i 0).val ∧ (i 0).val < (BitVec.ofNat 32 (pt t).val).toNat * 512 + 512
    rw [place_word, e]
    omega
  · show 0 * 512 ≤ (i 1).val ∧ (i 1).val < 0 * 512 + 512
    omega

theorem final17 : (dats m 0 c).arrAt 17 cfg0.N = rows (qbAt (argsOf m c)) :=
  (dats m 0 c).arrAt_eq_of_cover 17 (rows (qbAt (argsOf m c))) (fun t _ => flushed17 m c t) cover17

theorem flushed18 : (dats m 0 c).flushed 18 t = ((cfg0.win 18).blk t).view.read (Elt Ideal) (rows (kbAt (argsOf m c))) := by
  refine funext fun (y : S512x512.Idx) => ?_
  show (dats m 0 c).after 18 t _ = _
  rw [after0_18]
  refine rows_block t (kbAt (argsOf m c)) _ (out18_at (holds m c t)) y _ ?_ ?_
  · refine (Pipeline.Window.rect_emb_val (cfg0.win 18) t y 0).trans ?_
    show (BitVec.ofNat 32 (pt t).val).toNat * 512 + (y 0).val = _
    rw [place_word]
  · refine (Pipeline.Window.rect_emb_val (cfg0.win 18) t y 1).trans ?_
    show 0 * 512 + (y 1).val = _
    omega

theorem cover18 (i : S32768x512.Idx) : ∃ t : Fin cfg0.N, (cfg0.win 18).flush t = true ∧ i ∈ ((cfg0.win 18).blk t).view.set := by
  have h0 : (i 0).val < 32768 := (i 0).isLt
  have h1 : (i 1).val < 512 := (i 1).isLt
  obtain ⟨t, ht⟩ := point_of ⟨(i 0).val / 512, by omega⟩
  have e : (pt t).val = (i 0).val / 512 := ht
  refine ⟨t, flush0_18 t, (congrArg (i ∈ ·) (View.set_slice_whole main_v57_4 ((cfg0.win 18).rect t))).mpr ((Pipeline.Window.mem_rect_iff (cfg0.win 18) t i).mpr fun a => ?_)⟩
  fin_cases a
  · show (BitVec.ofNat 32 (pt t).val).toNat * 512 ≤ (i 0).val ∧ (i 0).val < (BitVec.ofNat 32 (pt t).val).toNat * 512 + 512
    rw [place_word, e]
    omega
  · show 0 * 512 ≤ (i 1).val ∧ (i 1).val < 0 * 512 + 512
    omega

theorem final18 : (dats m 0 c).arrAt 18 cfg0.N = rows (kbAt (argsOf m c)) :=
  (dats m 0 c).arrAt_eq_of_cover 18 (rows (kbAt (argsOf m c))) (fun t _ => flushed18 m c t) cover18

theorem flushed20 : (dats m 0 c).flushed 20 t = ((cfg0.win 20).blk t).view.read (Elt Ideal) (rows (gaAt (argsOf m c))) := by
  refine funext fun (y : S512x1024.Idx) => ?_
  show (dats m 0 c).after 20 t _ = _
  rw [after0_20]
  refine rows_block t (gaAt (argsOf m c)) _ (out20_at (holds m c t)) y _ ?_ ?_
  · refine (Pipeline.Window.rect_emb_val (cfg0.win 20) t y 0).trans ?_
    show (BitVec.ofNat 32 (pt t).val).toNat * 512 + (y 0).val = _
    rw [place_word]
  · refine (Pipeline.Window.rect_emb_val (cfg0.win 20) t y 1).trans ?_
    show 0 * 1024 + (y 1).val = _
    omega

theorem cover20 (i : S32768x1024.Idx) : ∃ t : Fin cfg0.N, (cfg0.win 20).flush t = true ∧ i ∈ ((cfg0.win 20).blk t).view.set := by
  have h0 : (i 0).val < 32768 := (i 0).isLt
  have h1 : (i 1).val < 1024 := (i 1).isLt
  obtain ⟨t, ht⟩ := point_of ⟨(i 0).val / 512, by omega⟩
  have e : (pt t).val = (i 0).val / 512 := ht
  refine ⟨t, flush0_20 t, (congrArg (i ∈ ·) (View.set_slice_whole main_v57_6 ((cfg0.win 20).rect t))).mpr ((Pipeline.Window.mem_rect_iff (cfg0.win 20) t i).mpr fun a => ?_)⟩
  fin_cases a
  · show (BitVec.ofNat 32 (pt t).val).toNat * 512 ≤ (i 0).val ∧ (i 0).val < (BitVec.ofNat 32 (pt t).val).toNat * 512 + 512
    rw [place_word, e]
    omega
  · show 0 * 1024 ≤ (i 1).val ∧ (i 1).val < 0 * 1024 + 1024
    omega

theorem final20 : (dats m 0 c).arrAt 20 cfg0.N = rows (gaAt (argsOf m c)) :=
  (dats m 0 c).arrAt_eq_of_cover 20 (rows (gaAt (argsOf m c))) (fun t _ => flushed20 m c t) cover20

theorem flushed21 : (dats m 0 c).flushed 21 t = ((cfg0.win 21).blk t).view.read (Elt Ideal) (rows (gbAt (argsOf m c))) := by
  refine funext fun (y : S512x1024.Idx) => ?_
  show (dats m 0 c).after 21 t _ = _
  rw [after0_21]
  refine rows_block t (gbAt (argsOf m c)) _ (out21_at (holds m c t)) y _ ?_ ?_
  · refine (Pipeline.Window.rect_emb_val (cfg0.win 21) t y 0).trans ?_
    show (BitVec.ofNat 32 (pt t).val).toNat * 512 + (y 0).val = _
    rw [place_word]
  · refine (Pipeline.Window.rect_emb_val (cfg0.win 21) t y 1).trans ?_
    show 0 * 1024 + (y 1).val = _
    omega

theorem cover21 (i : S32768x1024.Idx) : ∃ t : Fin cfg0.N, (cfg0.win 21).flush t = true ∧ i ∈ ((cfg0.win 21).blk t).view.set := by
  have h0 : (i 0).val < 32768 := (i 0).isLt
  have h1 : (i 1).val < 1024 := (i 1).isLt
  obtain ⟨t, ht⟩ := point_of ⟨(i 0).val / 512, by omega⟩
  have e : (pt t).val = (i 0).val / 512 := ht
  refine ⟨t, flush0_21 t, (congrArg (i ∈ ·) (View.set_slice_whole main_v57_7 ((cfg0.win 21).rect t))).mpr ((Pipeline.Window.mem_rect_iff (cfg0.win 21) t i).mpr fun a => ?_)⟩
  fin_cases a
  · show (BitVec.ofNat 32 (pt t).val).toNat * 512 ≤ (i 0).val ∧ (i 0).val < (BitVec.ofNat 32 (pt t).val).toNat * 512 + 512
    rw [place_word, e]
    omega
  · show 0 * 1024 ≤ (i 1).val ∧ (i 1).val < 0 * 1024 + 1024
    omega

theorem final21 : (dats m 0 c).arrAt 21 cfg0.N = rows (gbAt (argsOf m c)) :=
  (dats m 0 c).arrAt_eq_of_cover 21 (rows (gbAt (argsOf m c))) (fun t _ => flushed21 m c t) cover21

theorem flushed16 : (dats m 0 c).flushed 16 t = ((cfg0.win 16).blk t).view.read (Elt Ideal) (cols (vaAt (argsOf m c))) := by
  refine funext fun (y : S1x640x512.Idx) => ?_
  show (dats m 0 c).after 16 t _ = _
  rw [after0_16]
  have hy : (y 0).val < 1 := (y 0).isLt
  refine cols_block t (vaAt (argsOf m c)) _ (out16_at (holds m c t)) y _ ?_ ?_ ?_
  · refine (Pipeline.Window.rect_emb_val (cfg0.win 16) t y 0).trans ((congrArg (· * 1 + (y 0).val) (congrFun (at16 (grid0.coords t)) 0)).trans ?_)
    show (pt t).val / 8 * 1 + (y 0).val = _
    omega
  · refine (Pipeline.Window.rect_emb_val (cfg0.win 16) t y 1).trans ((congrArg (· * 640 + (y 1).val) (congrFun (at16 (grid0.coords t)) 1)).trans ?_)
    show 0 * 640 + (y 1).val = _
    omega
  · exact (Pipeline.Window.rect_emb_val (cfg0.win 16) t y 2).trans (congrArg (· * 512 + (y 2).val) (congrFun (at16 (grid0.coords t)) 2))

theorem cover16 (i : S8x640x4096.Idx) : ∃ t : Fin cfg0.N, (cfg0.win 16).flush t = true ∧ i ∈ ((cfg0.win 16).blk t).view.set := by
  have h0 : (i 0).val < 8 := (i 0).isLt
  have h1 : (i 1).val < 640 := (i 1).isLt
  have h2 : (i 2).val < 4096 := (i 2).isLt
  obtain ⟨t, ht⟩ := point_of ⟨(i 0).val * 8 + (i 2).val / 512, by omega⟩
  have e : (pt t).val = (i 0).val * 8 + (i 2).val / 512 := ht
  refine ⟨t, flush0_16 t, (congrArg (i ∈ ·) (View.set_slice_whole main_v57_2 ((cfg0.win 16).rect t))).mpr ((Pipeline.Window.mem_rect_iff (cfg0.win 16) t i).mpr fun a => ?_)⟩
  have ht := at16 (grid0.coords t)
  fin_cases a
  · have k : cc0_transform_16 (grid0.coords t) 0 = (pt t).val / 8 := congrFun ht 0
    show cc0_transform_16 (grid0.coords t) 0 * 1 ≤ (i 0).val ∧ (i 0).val < cc0_transform_16 (grid0.coords t) 0 * 1 + 1
    rw [k, e]
    omega
  · have k : cc0_transform_16 (grid0.coords t) 1 = 0 := congrFun ht 1
    show cc0_transform_16 (grid0.coords t) 1 * 640 ≤ (i 1).val ∧ (i 1).val < cc0_transform_16 (grid0.coords t) 1 * 640 + 640
    rw [k]
    omega
  · have k : cc0_transform_16 (grid0.coords t) 2 = (pt t).val % 8 := congrFun ht 2
    show cc0_transform_16 (grid0.coords t) 2 * 512 ≤ (i 2).val ∧ (i 2).val < cc0_transform_16 (grid0.coords t) 2 * 512 + 512
    rw [k, e]
    omega

theorem final16 : (dats m 0 c).arrAt 16 cfg0.N = cols (vaAt (argsOf m c)) :=
  (dats m 0 c).arrAt_eq_of_cover 16 (cols (vaAt (argsOf m c))) (fun t _ => flushed16 m c t) cover16

theorem flushed19 : (dats m 0 c).flushed 19 t = ((cfg0.win 19).blk t).view.read (Elt Ideal) (cols (vbAt (argsOf m c))) := by
  refine funext fun (y : S1x640x512.Idx) => ?_
  show (dats m 0 c).after 19 t _ = _
  rw [after0_19]
  have hy : (y 0).val < 1 := (y 0).isLt
  refine cols_block t (vbAt (argsOf m c)) _ (out19_at (holds m c t)) y _ ?_ ?_ ?_
  · refine (Pipeline.Window.rect_emb_val (cfg0.win 19) t y 0).trans ((congrArg (· * 1 + (y 0).val) (congrFun (at19 (grid0.coords t)) 0)).trans ?_)
    show (pt t).val / 8 * 1 + (y 0).val = _
    omega
  · refine (Pipeline.Window.rect_emb_val (cfg0.win 19) t y 1).trans ((congrArg (· * 640 + (y 1).val) (congrFun (at19 (grid0.coords t)) 1)).trans ?_)
    show 0 * 640 + (y 1).val = _
    omega
  · exact (Pipeline.Window.rect_emb_val (cfg0.win 19) t y 2).trans (congrArg (· * 512 + (y 2).val) (congrFun (at19 (grid0.coords t)) 2))

theorem cover19 (i : S8x640x4096.Idx) : ∃ t : Fin cfg0.N, (cfg0.win 19).flush t = true ∧ i ∈ ((cfg0.win 19).blk t).view.set := by
  have h0 : (i 0).val < 8 := (i 0).isLt
  have h1 : (i 1).val < 640 := (i 1).isLt
  have h2 : (i 2).val < 4096 := (i 2).isLt
  obtain ⟨t, ht⟩ := point_of ⟨(i 0).val * 8 + (i 2).val / 512, by omega⟩
  have e : (pt t).val = (i 0).val * 8 + (i 2).val / 512 := ht
  refine ⟨t, flush0_19 t, (congrArg (i ∈ ·) (View.set_slice_whole main_v57_5 ((cfg0.win 19).rect t))).mpr ((Pipeline.Window.mem_rect_iff (cfg0.win 19) t i).mpr fun a => ?_)⟩
  have ht := at19 (grid0.coords t)
  fin_cases a
  · have k : cc0_transform_19 (grid0.coords t) 0 = (pt t).val / 8 := congrFun ht 0
    show cc0_transform_19 (grid0.coords t) 0 * 1 ≤ (i 0).val ∧ (i 0).val < cc0_transform_19 (grid0.coords t) 0 * 1 + 1
    rw [k, e]
    omega
  · have k : cc0_transform_19 (grid0.coords t) 1 = 0 := congrFun ht 1
    show cc0_transform_19 (grid0.coords t) 1 * 640 ≤ (i 1).val ∧ (i 1).val < cc0_transform_19 (grid0.coords t) 1 * 640 + 640
    rw [k]
    omega
  · have k : cc0_transform_19 (grid0.coords t) 2 = (pt t).val % 8 := congrFun ht 2
    show cc0_transform_19 (grid0.coords t) 2 * 512 ≤ (i 2).val ∧ (i 2).val < cc0_transform_19 (grid0.coords t) 2 * 512 + 512
    rw [k, e]
    omega

theorem final19 : (dats m 0 c).arrAt 19 cfg0.N = cols (vbAt (argsOf m c)) :=
  (dats m 0 c).arrAt_eq_of_cover 19 (cols (vbAt (argsOf m c))) (fun t _ => flushed19 m c t) cover19

set_option maxHeartbeats 2000000 in
/-- Every run ends with the eight results as specified, the arguments unchanged. -/
theorem run : θ_run defs (onTc (τ := τ) (main (F := Ideal))) ⟨m, fun _ => 0, ρ⟩ (fun r => ∀ c : Dev nD,
      r.2.mem ((c.tc : Thread nD τ).loc main_v57_0) = rows (qaAt (argsOf m c))
      ∧ r.2.mem ((c.tc : Thread nD τ).loc main_v57_1) = rows (kaAt (argsOf m c))
      ∧ r.2.mem ((c.tc : Thread nD τ).loc main_v57_2) = cols (vaAt (argsOf m c))
      ∧ r.2.mem ((c.tc : Thread nD τ).loc main_v57_3) = rows (qbAt (argsOf m c))
      ∧ r.2.mem ((c.tc : Thread nD τ).loc main_v57_4) = rows (kbAt (argsOf m c))
      ∧ r.2.mem ((c.tc : Thread nD τ).loc main_v57_5) = cols (vbAt (argsOf m c))
      ∧ r.2.mem ((c.tc : Thread nD τ).loc main_v57_6) = rows (gaAt (argsOf m c))
      ∧ r.2.mem ((c.tc : Thread nD τ).loc main_v57_7) = rows (gbAt (argsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 14).trans (final14 m c),
    ((h c).1 15).trans (final15 m c),
    ((h c).1 16).trans (final16 m c),
    ((h c).1 17).trans (final17 m c),
    ((h c).1 18).trans (final18 m c),
    ((h c).1 19).trans (final19 m c),
    ((h c).1 20).trans (final20 m c),
    ((h c).1 21).trans (final21 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩)
    (run_main m ρ)

end Cert.Kernel2Ideal.Proj

end
-- ==== Proof.Proj.Reference.lean ====
/-
  The reference's input projection, element by element: its eight results are the specification's.
-/
module

public import proofs.«01_k».proof.Proof.Gen.Reference2Ideal
public import proofs.«01_k».proof.Proof.Gen.Reference2Ideal.Run
public import proofs.«01_k».proof.Proof.Proj.Spec
public import Idealize.ShloMosaic.Lib.Quiescent
public import Idealize.ShloMosaic.Lib.Pointwise.Tactic
public import Idealize.ShloMosaic.Lib.Pointwise.Sums
public import Idealize.ShloMosaic.Lib.Pointwise.Contract
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Reference2Ideal.Proj

open Idealize.ShloMosaic Idealize.ShloMosaic.TcCoe Cert.Proj
open Cert.Reference2Ideal Cert.Reference2Ideal.Gen Cert.Reference2Ideal.Value

variable (V0 : Valuation τ sig (Elt Ideal))

/-- The arguments, read off the buffers. -/
def args : Args where
  x := V0 (Proc.devRef .tc main_arg0)
  pos := V0 (Proc.devRef .tc main_arg1)
  md := V0 (Proc.devRef .tc main_arg2)
  gm := V0 (Proc.devRef .tc main_arg3)
  wi := V0 (Proc.devRef .tc main_arg4)
  gq := V0 (Proc.devRef .tc main_arg5)
  uq := V0 (Proc.devRef .tc main_arg6)
  gk := V0 (Proc.devRef .tc main_arg7)
  uk := V0 (Proc.devRef .tc main_arg8)
  uv := V0 (Proc.devRef .tc main_arg9)

/-- The row of each token through the large weight. -/
theorem prj_at (b : Fin 8) (s : Fin 4096) (j : Fin 4000) : res_main_v23 V0 (ix3 b s j) = prj (args V0) b s j := by
  unfold res_main_v23
  pointwise
  rfl

theorem query_at (b : Fin 8) (s : Fin 4096) (h : Fin 8) (d : Fin 96) : res_main_v46 V0 (ix4 b s h d) = query (args V0) b s h d := by
  unfold res_main_v46 res_main_v24
  pointwise
  simp only [prj_at]
  rfl

theorem klat_at (b : Fin 8) (s : Fin 4096) (k : Fin 128) : res_main_v83 V0 (ix3 b s k) = klat (args V0) b s k := by
  unfold res_main_v83 res_main_v25
  pointwise
  simp only [prj_at]
  rfl

theorem freq_eq (d : Fin 16) : lit0 d = freqWord d := by fin_cases d <;> rfl
theorem freq_eq' (d : Fin 16) : lit1 d = freqWord d := by fin_cases d <;> rfl

/-- The one coordinate of a flat array is its row-major position. -/
theorem flat_pos (d : Fin 16) : S16.rowMajor (ix1 d) = d := by
  fin_cases d <;> rfl

theorem angle_at (b : Fin 8) (s : Fin 4096) (d : Fin 16) : res_main_v93 V0 (ix3 b s d) = angle (args V0) b s d := by
  unfold res_main_v93
  pointwise
  exact congrArg (_ * Ideal.ofBits .f32 ·) ((congrArg lit1 (flat_pos d)).trans (freq_eq' d))

theorem angle_at' (b : Fin 8) (s : Fin 4096) (d : Fin 16) : res_main_v55 V0 (ix4 b s 0 d) = angle (args V0) b s d := by
  unfold res_main_v55
  pointwise
  exact congrArg (_ * Ideal.ofBits .f32 ·) ((congrArg lit0 (flat_pos d)).trans (freq_eq d))

/-- The rotary part of the queries, scaled. -/
theorem qrope_at (b : Fin 8) (s : Fin 4096) (h : Fin 8) (d : Fin 32) :
    (mulf (F := Ideal) (concatenate S8x4096x8x32 3 [⟨S8x4096x8x16, (subf (F := Ideal) (mulf (F := Ideal) (res_main_v58 V0) (broadcastInDim S8x4096x8x16 ![0, 1, 2, 3] bcast_S8x4096x1x16_S8x4096x8x16_0_1_2_3 (res_main_v56 V0))) (mulf (F := Ideal) (res_main_v59 V0) (broadcastInDim S8x4096x8x16 ![0, 1, 2, 3] bcast_S8x4096x1x16_S8x4096x8x16_0_1_2_3 (res_main_v57 V0))))⟩, ⟨S8x4096x8x16, (addf (F := Ideal) (mulf (F := Ideal) (res_main_v59 V0) (broadcastInDim S8x4096x8x16 ![0, 1, 2, 3] bcast_S8x4096x1x16_S8x4096x8x16_0_1_2_3 (res_main_v56 V0))) (mulf (F := Ideal) (res_main_v58 V0) (broadcastInDim S8x4096x8x16 ![0, 1, 2, 3] bcast_S8x4096x1x16_S8x4096x8x16_0_1_2_3 (res_main_v57 V0))))⟩] concatenates_S8x4096x8x16_S8x4096x8x16_S8x4096x8x32_d3) (broadcastInDim S8x4096x8x32 ![] bcast_S_S8x4096x8x32 (constant (F := Ideal) S_ .f32 0x3E16C740#32)) : FVec Ideal S8x4096x8x32 .f32) (ix4 b s h d)
      = rope (args V0) b s (fun e => query (args V0) b s h ⟨64 + e.val, by omega⟩) d * scaleA := by
  unfold res_main_v58 res_main_v59 res_main_v56 res_main_v57 res_main_v48
  pointwise
  simp only [query_at, angle_at']
  rfl

/-- The rotary key. -/
theorem krope_at (b : Fin 8) (s : Fin 4096) (d : Fin 32) :
    (concatenate S8x4096x32 2 [⟨S8x4096x16, (subf (F := Ideal) (mulf (F := Ideal) (res_main_v96 V0) (res_main_v94 V0)) (mulf (F := Ideal) (res_main_v97 V0) (res_main_v95 V0)))⟩, ⟨S8x4096x16, (addf (F := Ideal) (mulf (F := Ideal) (res_main_v97 V0) (res_main_v94 V0)) (mulf (F := Ideal) (res_main_v96 V0) (res_main_v95 V0)))⟩] concatenates_S8x4096x16_S8x4096x16_S8x4096x32_d2 : FVec Ideal S8x4096x32 .f32) (ix3 b s d)
      = rope (args V0) b s (fun e => prj (args V0) b s ⟨384 + e.val, by omega⟩) d := by
  unfold res_main_v96 res_main_v97 res_main_v94 res_main_v95 res_main_v26
  pointwise
  simp only [prj_at, angle_at]
  rfl

/-- Two heads beside each other, 256 columns a pair. -/
def pairs (n : FVec Ideal S8x4096x8x64 .f32) (r : FVec Ideal S8x4096x8x32 .f32) : FVec Ideal S32768x1024 .bf16 :=
  truncf .bf16 (shapeCast S32768x1024 (concatenate S32768x4x256 2 [⟨S32768x4x128, ((shapeCast _ n shapeCasts_S8x4096x8x64_S32768x4x128) : (⟨S32768x4x128, .f32⟩ : BufTy).Contents (Elt Ideal))⟩,
    ⟨S32768x4x64, ((shapeCast _ r shapeCasts_S8x4096x8x32_S32768x4x64) : (⟨S32768x4x64, .f32⟩ : BufTy).Contents (Elt Ideal))⟩,
    ⟨S32768x4x64, ((broadcastInDim S32768x4x64 ![] bcast_S_S32768x4x64 (constant (F := Ideal) S_ .f32 0x00000000#32)) : (⟨S32768x4x64, .f32⟩ : BufTy).Contents (Elt Ideal))⟩]
    concatenates_S32768x4x128_S32768x4x64_S32768x4x64_S32768x4x256_d2 : (⟨S32768x4x256, .f32⟩ : BufTy).Contents (Elt Ideal)) shapeCasts_S32768x4x256_S32768x1024) bitsLt_bf16_f32

theorem pairs_eq (n : FVec Ideal S8x4096x8x64 .f32) (r : FVec Ideal S8x4096x8x32 .f32) (f : Fin 8 → Fin 4096 → Fin 8 → Fin 64 → EReal)
    (g : Fin 8 → Fin 4096 → Fin 8 → Fin 32 → EReal) (hn : ∀ b s h d, n (ix4 b s h d) = f b s h d) (hr : ∀ b s h d, r (ix4 b s h d) = g b s h d) :
    pairs n r = rows (fun b s => pairAt (f b s) (g b s)) := by
  funext i
  idx_vars i
  unfold pairs
  pointwise
  simp only [hn, hr]
  unfold rows pairAt
  by_cases h1 : i1.val % 256 < 128
  · rw [dif_pos h1]
    refine Eq.trans ?_ (dif_pos h1).symm
    exact congrArg (f _ _ _) (Fin.ext (by show i1.val % 256 % 64 = i1.val % 64; omega))
  · rw [dif_neg h1]
    refine Eq.trans ?_ (dif_neg h1).symm
    by_cases h2 : i1.val % 256 < 192
    · rw [dif_pos (by omega)]
      refine Eq.trans ?_ (dif_pos h2).symm
      refine congr (congrArg (g _ _) (Fin.ext ?_)) (Fin.ext ?_)
      · show i1.val / 256 * 2 + (i1.val % 256 - 128) / 32 = i1.val / 256 * 2 + i1.val % 64 / 32
        omega
      · show (i1.val % 256 - 128) % 32 = i1.val % 32
        omega
    · rw [dif_neg (by omega)]
      refine Eq.trans ?_ (dif_neg h2).symm
      rfl

/-- Values with time as the last axis, with a row of ones and 15 of zeros under each head. -/
def columns (v : FVec Ideal S8x4096x8x64 .f32) : FVec Ideal S8x640x4096 .bf16 :=
  truncf .bf16 (shapeCast S8x640x4096 (concatenate S8x8x80x4096 2 [⟨S8x8x64x4096, ((transpose S8x8x64x4096 [0, 2, 3, 1] v transposes_S8x4096x8x64_S8x8x64x4096_0_2_3_1) : (⟨S8x8x64x4096, .f32⟩ : BufTy).Contents (Elt Ideal))⟩,
    ⟨S8x8x1x4096, ((broadcastInDim S8x8x1x4096 ![] bcast_S_S8x8x1x4096 (constant (F := Ideal) S_ .f32 0x3F800000#32)) : (⟨S8x8x1x4096, .f32⟩ : BufTy).Contents (Elt Ideal))⟩,
    ⟨S8x8x15x4096, ((broadcastInDim S8x8x15x4096 ![] bcast_S_S8x8x15x4096 (constant (F := Ideal) S_ .f32 0x00000000#32)) : (⟨S8x8x15x4096, .f32⟩ : BufTy).Contents (Elt Ideal))⟩]
    concatenates_S8x8x64x4096_S8x8x1x4096_S8x8x15x4096_S8x8x80x4096_d2 : (⟨S8x8x80x4096, .f32⟩ : BufTy).Contents (Elt Ideal)) shapeCasts_S8x8x80x4096_S8x640x4096) bitsLt_bf16_f32

theorem flat_apply (x : FVec Ideal S8x8x80x4096 .f32) (b : Fin 8) (n : Fin 640) (t : Fin 4096) :
    (shapeCast S8x640x4096 x shapeCasts_S8x8x80x4096_S8x640x4096 : FVec Ideal S8x640x4096 .f32) (ix3 b n t) = x (ix4 b ⟨n.val / 80, by omega⟩ ⟨n.val % 80, by omega⟩ t) := by
  pointwise

theorem stack_apply (v : FVec Ideal S8x4096x8x64 .f32) (b : Fin 8) (h : Fin 8) (q : Fin 80) (t : Fin 4096) :
    (concatenate S8x8x80x4096 2 [⟨S8x8x64x4096, ((transpose S8x8x64x4096 [0, 2, 3, 1] v transposes_S8x4096x8x64_S8x8x64x4096_0_2_3_1) : (⟨S8x8x64x4096, .f32⟩ : BufTy).Contents (Elt Ideal))⟩,
    ⟨S8x8x1x4096, ((broadcastInDim S8x8x1x4096 ![] bcast_S_S8x8x1x4096 (constant (F := Ideal) S_ .f32 0x3F800000#32)) : (⟨S8x8x1x4096, .f32⟩ : BufTy).Contents (Elt Ideal))⟩,
    ⟨S8x8x15x4096, ((broadcastInDim S8x8x15x4096 ![] bcast_S_S8x8x15x4096 (constant (F := Ideal) S_ .f32 0x00000000#32)) : (⟨S8x8x15x4096, .f32⟩ : BufTy).Contents (Elt Ideal))⟩]
    concatenates_S8x8x64x4096_S8x8x1x4096_S8x8x15x4096_S8x8x80x4096_d2 : FVec Ideal S8x8x80x4096 .f32) (ix4 b h q t)
    = if hq : q.val < 64 then v (ix4 b t h ⟨q.val, hq⟩) else if q.val = 64 then 1 else 0 := by
  pointwise
  by_cases h1 : q.val < 64
  · rw [dif_pos h1, dif_pos h1]
  · rw [dif_neg h1, dif_neg h1]
    by_cases h2 : q.val = 64
    · rw [dif_pos (by omega), if_pos h2]
    · rw [dif_neg (by omega), if_neg h2]

theorem trunc_at (x : FVec Ideal S8x640x4096 .f32) (i : S8x640x4096.Idx) : (truncf .bf16 x bitsLt_bf16_f32 : FVec Ideal S8x640x4096 .bf16) i = x i := rfl

theorem columns_at (v : FVec Ideal S8x4096x8x64 .f32) (b : Fin 8) (n : Fin 640) (t : Fin 4096) :
    columns v (ix3 b n t) = colAt (fun h d => v (ix4 b t h d)) n := by
  unfold columns
  refine (trunc_at _ _).trans ((flat_apply _ b n t).trans ?_)
  refine (stack_apply v _ _ _ _).trans ?_
  rfl

theorem columns_eq (v : FVec Ideal S8x4096x8x64 .f32) (f : Fin 8 → Fin 4096 → Fin 8 → Fin 64 → EReal) (hv : ∀ b s h d, v (ix4 b s h d) = f b s h d) :
    columns v = cols (fun b s => colAt (f b s)) := by
  funext i
  idx_vars i
  refine (columns_at v i0 i1 i2).trans ?_
  simp only [hv]
  rfl

theorem plain_at (b : Fin 8) (s : Fin 4096) (h : Fin 8) (d : Fin 64) :
    (mulf (F := Ideal) (extractStridedSlice S8x4096x8x64 ![0, 0, 0, 0] (res_main_v46 V0) slices_S8x4096x8x96_S8x4096x8x64_0_0_0_0) (broadcastInDim S8x4096x8x64 ![] bcast_S_S8x4096x8x64 (constant (F := Ideal) S_ .f32 0x3E16C740#32)) : FVec Ideal S8x4096x8x64 .f32) (ix4 b s h d)
      = query (args V0) b s h ⟨d.val, by omega⟩ * scaleA := by
  pointwise
  simp only [query_at]
  rfl

theorem krope_bcast (k : FVec Ideal S8x4096x32 .f32) (b : Fin 8) (s : Fin 4096) (h : Fin 8) (d : Fin 32) :
    (broadcastInDim S8x4096x8x32 ![0, 1, 2, 3] bcast_S8x4096x1x32_S8x4096x8x32_0_1_2_3 (broadcastInDim S8x4096x1x32 ![0, 1, 3] bcast_S8x4096x32_S8x4096x1x32_0_1_3 k) : FVec Ideal S8x4096x8x32 .f32) (ix4 b s h d)
      = k (ix3 b s d) := by
  pointwise

theorem latent_at (w : FVec Ideal S128x512 .f32) (b : Fin 8) (s : Fin 4096) (h : Fin 8) (d : Fin 64) :
    (shapeCast _ (Host.dotGeneral (F := Ideal) (φ₁ := .f32) (φ₂ := .f32) dot_S8x4096x128_S128x512_S8x4096x512_2_0_01_1_n_n none (res_main_v83 V0 : FVec Ideal S8x4096x128 .f32) w) shapeCasts_S8x4096x512_S8x4096x8x64 : FVec Ideal S8x4096x8x64 .f32) (ix4 b s h d)
      = latent (args V0) b s w h d := by
  pointwise
  simp only [klat_at]
  rfl

theorem vb_at (b : Fin 8) (s : Fin 4096) (h : Fin 8) (d : Fin 64) :
    (shapeCast _ (extractStridedSlice S8x4096x512 ![0, 0, 1440] (res_main_v23 V0) slices_S8x4096x4000_S8x4096x512_0_0_1440) shapeCasts_S8x4096x512_S8x4096x8x64 : FVec Ideal S8x4096x8x64 .f32) (ix4 b s h d)
      = prj (args V0) b s ⟨1440 + (h.val * 64 + d.val), by omega⟩ := by
  pointwise
  simp only [prj_at]

theorem qb_eq : (truncf .bf16 (mulf (F := Ideal) (shapeCast _ (extractStridedSlice S8x4096x512 ![0, 0, 416] (res_main_v23 V0) slices_S8x4096x4000_S8x4096x512_0_0_416) shapeCasts_S8x4096x512_S32768x512) (broadcastInDim S32768x512 ![] bcast_S_S32768x512 (constant (F := Ideal) S_ .f32 0x3E38AA3B#32))) bitsLt_bf16_f32 : FVec Ideal S32768x512 .bf16)
    = rows (fun b s j => qbAt (args V0) b s j) := by
  funext i
  idx_vars i
  pointwise
  simp only [prj_at]
  rfl

theorem kb_eq : (truncf .bf16 (shapeCast _ (extractStridedSlice S8x4096x512 ![0, 0, 928] (res_main_v23 V0) slices_S8x4096x4000_S8x4096x512_0_0_928) shapeCasts_S8x4096x512_S32768x512) bitsLt_bf16_f32 : FVec Ideal S32768x512 .bf16)
    = rows (fun b s j => kbAt (args V0) b s j) := by
  funext i
  idx_vars i
  pointwise
  simp only [prj_at]
  rfl

theorem ga_eq : (truncf .bf16 (shapeCast _ (Host.divf (F := Ideal) (broadcastInDim S8x4096x1024 ![] bcast_S_S8x4096x1024 (constant (F := Ideal) S_ .f32 0x3F800000#32)) (addf (F := Ideal) (broadcastInDim S8x4096x1024 ![] bcast_S_S8x4096x1024 (constant (F := Ideal) S_ .f32 0x3F800000#32)) (Host.exp (F := Ideal) (Host.negf (F := Ideal) (extractStridedSlice S8x4096x1024 ![0, 0, 1952] (res_main_v23 V0) slices_S8x4096x4000_S8x4096x1024_0_0_1952))))) shapeCasts_S8x4096x1024_S32768x1024) bitsLt_bf16_f32 : FVec Ideal S32768x1024 .bf16)
    = rows (fun b s j => gaAt (args V0) b s j) := by
  funext i
  idx_vars i
  pointwise
  simp only [prj_at]
  rfl

theorem gb_eq : (truncf .bf16 (shapeCast _ (Host.divf (F := Ideal) (broadcastInDim S8x4096x1024 ![] bcast_S_S8x4096x1024 (constant (F := Ideal) S_ .f32 0x3F800000#32)) (addf (F := Ideal) (broadcastInDim S8x4096x1024 ![] bcast_S_S8x4096x1024 (constant (F := Ideal) S_ .f32 0x3F800000#32)) (Host.exp (F := Ideal) (Host.negf (F := Ideal) (extractStridedSlice S8x4096x1024 ![0, 0, 2976] (res_main_v23 V0) slices_S8x4096x4000_S8x4096x1024_0_0_2976))))) shapeCasts_S8x4096x1024_S32768x1024) bitsLt_bf16_f32 : FVec Ideal S32768x1024 .bf16)
    = rows (fun b s j => gbAt (args V0) b s j) := by
  funext i
  idx_vars i
  pointwise
  simp only [prj_at]
  rfl

variable (m : (ℓ : Loc nD τ sig) → Buf (Elt Ideal) ℓ) (ρ : Dev nD → PrngReg)

/-- The arguments as launched. -/
def argsOf (c : Dev nD) : Args where
  x := m ((c.tc : Thread nD τ).loc main_arg0)
  pos := m ((c.tc : Thread nD τ).loc main_arg1)
  md := m ((c.tc : Thread nD τ).loc main_arg2)
  gm := m ((c.tc : Thread nD τ).loc main_arg3)
  wi := m ((c.tc : Thread nD τ).loc main_arg4)
  gq := m ((c.tc : Thread nD τ).loc main_arg5)
  uq := m ((c.tc : Thread nD τ).loc main_arg6)
  gk := m ((c.tc : Thread nD τ).loc main_arg7)
  uk := m ((c.tc : Thread nD τ).loc main_arg8)
  uv := m ((c.tc : Thread nD τ).loc main_arg9)

/-- Every run of the reference ends with the specification's results, its arguments unchanged. -/
theorem run : θ_run defs (onTc (τ := τ) (main (F := Ideal))) ⟨m, fun _ => 0, ρ⟩ fun r => ∀ c : Dev nD,
      r.2.mem ((c.tc : Thread nD τ).loc main_v150) = rows (qaAt (argsOf m c))
      ∧ r.2.mem ((c.tc : Thread nD τ).loc main_v151) = rows (kaAt (argsOf m c))
      ∧ r.2.mem ((c.tc : Thread nD τ).loc main_v152) = cols (vaAt (argsOf m c))
      ∧ r.2.mem ((c.tc : Thread nD τ).loc main_v153) = rows (qbAt (argsOf m c))
      ∧ r.2.mem ((c.tc : Thread nD τ).loc main_v154) = rows (kbAt (argsOf m c))
      ∧ r.2.mem ((c.tc : Thread nD τ).loc main_v155) = cols (vbAt (argsOf m c))
      ∧ r.2.mem ((c.tc : Thread nD τ).loc main_v156) = rows (gaAt (argsOf m c))
      ∧ r.2.mem ((c.tc : Thread nD τ).loc main_v157) = rows (gbAt (argsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1).trans (pairs_eq _ _ _ _ (plain_at _) (qrope_at _)),
    ((h c).2.1).trans (pairs_eq _ _ _ _ (latent_at _ _) (fun b s h d => (krope_bcast _ b s h d).trans (krope_at _ b s d))),
    ((h c).2.2.1).trans (columns_eq _ _ (latent_at _ _)),
    ((h c).2.2.2.1).trans (qb_eq _),
    ((h c).2.2.2.2.1).trans (kb_eq _),
    ((h c).2.2.2.2.2.1).trans (columns_eq _ _ (vb_at _)),
    ((h c).2.2.2.2.2.2.1).trans (ga_eq _),
    ((h c).2.2.2.2.2.2.2.1).trans (gb_eq _),
    (h c).2.2.2.2.2.2.2.2⟩) (Cert.Reference2Ideal.Value.run (F := Ideal) m ρ)

/-- The reference's frame: its arguments unchanged, its counters at zero. -/
theorem frame : θ_run defs (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0 :=
  (θ_run defs _ _).mono (fun r h => ⟨fun c => (h c).2.2.2.2.2.2.2.2, sem_eq_zero_of_no_sems rfl r.2⟩) (Cert.Reference2Ideal.Value.run (F := Ideal) m ρ)

end Cert.Reference2Ideal.Proj

end
-- ==== Proof.Proj.Algebraic.lean ====
/-
  The idealized input projection and its reference end with the same eight results: each with the projection's of its arguments.
-/
module

public import proofs.«01_k».proof.Defs
public import proofs.«01_k».proof.Proof.Gen.Kernel2Ideal
public import proofs.«01_k».proof.Proof.Gen.Reference2Ideal
public import proofs.«01_k».proof.Proof.Proj.Array
public import proofs.«01_k».proof.Proof.Proj.Reference

@[expose] public section

noncomputable section

namespace Cert.Proj

open Idealize.ShloMosaic Idealize.SL.Sem

/-- Arguments that agree one by one agree. -/
theorem args_congr {x x' : _} {pos pos' : _} {md md' : _} {gm gm' : _} {wi wi' : _} {gq gq' : _} {uq uq' : _} {gk gk' : _} {uk uk' : _} {uv uv' : _}
    (h0 : x' = x) (h1 : pos' = pos) (h2 : md' = md) (h3 : gm' = gm) (h4 : wi' = wi) (h5 : gq' = gq) (h6 : uq' = uq) (h7 : gk' = gk) (h8 : uk' = uk) (h9 : uv' = uv) :
    Args.mk x' pos' md' gm' wi' gq' uq' gk' uk' uv' = Args.mk x pos md gm wi gq uq gk uk uv := by
  subst h0 h1 h2 h3 h4 h5 h6 h7 h8 h9; rfl

set_option maxHeartbeats 2000000 in
theorem algebraic : Cert.algebraic_Kernel2Ideal_Reference2Ideal (hKernel2Ideal := Cert.Kernel2Ideal.Gen.facts) (hReference2Ideal := Cert.Reference2Ideal.Gen.facts) := by
  intro m g m' g' _ hm
  refine ⟨fun c => rows (qaAt (Cert.Kernel2Ideal.Proj.argsOf m c)), fun c => rows (kaAt (Cert.Kernel2Ideal.Proj.argsOf m c)), fun c => cols (vaAt (Cert.Kernel2Ideal.Proj.argsOf m c)),
    fun c => rows (qbAt (Cert.Kernel2Ideal.Proj.argsOf m c)), fun c => rows (kbAt (Cert.Kernel2Ideal.Proj.argsOf m c)), fun c => cols (vbAt (Cert.Kernel2Ideal.Proj.argsOf m c)),
    fun c => rows (gaAt (Cert.Kernel2Ideal.Proj.argsOf m c)), fun c => rows (gbAt (Cert.Kernel2Ideal.Proj.argsOf m c)), Cert.Kernel2Ideal.Proj.run m g, ?_⟩
  have e : ∀ c : Dev Cert.Kernel2Ideal.nD, Cert.Reference2Ideal.Proj.argsOf m' c = Cert.Kernel2Ideal.Proj.argsOf m c := fun c => by
    obtain ⟨h0, h1, h2, h3, h4, h5, h6, h7, h8, h9⟩ := hm c
    exact args_congr h0 h1 h2 h3 h4 h5 h6 h7 h8 h9
  refine (θ_run Cert.Reference2Ideal.defs _ _).mono (fun r h c => ?_) (Cert.Reference2Ideal.Proj.run m' g')
  obtain ⟨h0, h1, h2, h3, h4, h5, h6, h7, hr⟩ := h c
  rw [e c] at h0 h1 h2 h3 h4 h5 h6 h7
  exact ⟨h0, h1, h2, h3, h4, h5, h6, h7, hr⟩

end Cert.Proj

end
-- ==== Proof.Merge.Spec.lean ====
/-
  Two results of the call that merges the two attentions, element by element: the block's input plus its gated, projected merge,
  and that row normalized and modulated.
-/
module

public import proofs.«01_k».proof.Proof.Proj.Spec
public import Idealize.ShloMosaic.Lib.Pointwise.Tactic
public import Idealize.ShloMosaic.Lib.Pointwise.Index

@[expose] public section

noncomputable section

namespace Cert.Merge

open Idealize.ShloMosaic

/-- The arguments that the results are functions of: the two attentions' outputs, their gates, the block's input, the modulation, three weights,
    and the gain of the norm. -/
structure Args where
  oa : FVec Ideal ⟨2, ![32768, 512]⟩ .bf16
  ob : FVec Ideal ⟨2, ![32768, 512]⟩ .bf16
  ga : FVec Ideal ⟨2, ![32768, 1024]⟩ .bf16
  gb : FVec Ideal ⟨2, ![32768, 1024]⟩ .bf16
  x : FVec Ideal ⟨3, ![8, 4096, 1024]⟩ .f32
  md : FVec Ideal ⟨2, ![8, 6144]⟩ .f32
  woa : FVec Ideal ⟨2, ![512, 1024]⟩ .f32
  wob : FVec Ideal ⟨2, ![512, 1024]⟩ .f32
  wout : FVec Ideal ⟨2, ![1024, 1024]⟩ .f32
  gain : FVec Ideal ⟨1, ![1024]⟩ .f32

/-- The row of token `s` of batch `b` in an array with one row per token. -/
def rowOf (b : Fin 8) (s : Fin 4096) : Fin 32768 := ⟨b.val * 4096 + s.val, by omega⟩

/-- The attentions' outputs at row `i`, each through its weight and its gate, added. -/
def mergedAt (A : Args) (i : Fin 32768) (k : Fin 1024) : EReal :=
  A.ga (ix2 i k) * (∑ h : Fin 512, A.oa (ix2 i h) * A.woa (ix2 h k)) + A.gb (ix2 i k) * (∑ h : Fin 512, A.ob (ix2 i h) * A.wob (ix2 h k))

/-- The block's input at a token plus its modulated merge. -/
def sumAt (A : Args) (b : Fin 8) (s : Fin 4096) (d : Fin 1024) : EReal :=
  A.x (ix3 b s d) + A.md (ix2 b ⟨2048 + d.val, by omega⟩) * ∑ k : Fin 1024, mergedAt A (rowOf b s) k * A.wout (ix2 k d)

/-- That row normalized by its root mean square and modulated. -/
def normAt (A : Args) (b : Fin 8) (s : Fin 4096) (d : Fin 1024) : EReal :=
  Proj.nrm 1149239296#32 (sumAt A b s) (fun x => A.gain (ix1 x)) d * (1 + A.md (ix2 b ⟨4096 + d.val, by omega⟩)) + A.md (ix2 b ⟨3072 + d.val, by omega⟩)

/-- The first result: one row per token. -/
def result (A : Args) : FVec Ideal ⟨2, ![32768, 1024]⟩ .f32 := fun i =>
  sumAt A ⟨(i 0).val / 4096, by have h : (i 0).val < 32768 := (i 0).isLt; omega⟩ ⟨(i 0).val % 4096, by omega⟩ (i 1)

/-- The second. -/
def normed (A : Args) : FVec Ideal ⟨2, ![32768, 1024]⟩ .f32 := fun i =>
  normAt A ⟨(i 0).val / 4096, by have h : (i 0).val < 32768 := (i 0).isLt; omega⟩ ⟨(i 0).val % 4096, by omega⟩ (i 1)

end Cert.Merge

end
-- ==== Proof.Merge.Value.lean ====
/-
  What one point of the merge stores of its first two results, element by element, from blocks that hold the arguments' elements.
-/
module

public import proofs.«01_k».proof.Proof.Gen.Kernel3Ideal.Frame
public import proofs.«01_k».proof.Proof.Merge.Spec
public import Idealize.ShloMosaic.Lib.Pipeline.Value
public import Idealize.ShloMosaic.Lib.Pipeline.ValueKit.Basic
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

set_option maxRecDepth 16384

noncomputable section

namespace Cert.Kernel3Ideal.Merge

open Cert.Kernel3Ideal Cert.Kernel3Ideal.Gen Cert.Merge
open Idealize.ShloMosaic Idealize.ShloMosaic.TcCoe

/-! ## What is stored, as a function of the blocks -/

section

variable (c : Dev nD) (i : grid0.Coords) (arg1 : Memref sig .tc .vmem S512x512 .bf16) (h1 : arg1.IsWhole) (arg2 : Memref sig .tc .vmem S512x512 .bf16) (h2 : arg2.IsWhole)
  (arg3 : Memref sig .tc .vmem S512x1024 .bf16) (h3 : arg3.IsWhole) (arg4 : Memref sig .tc .vmem S512x1024 .bf16) (h4 : arg4.IsWhole) (arg5 : Memref sig .tc .vmem S512x1024 .f32) (h5 : arg5.IsWhole)
  (arg6 : Memref sig .tc .vmem S1x6x1024 .f32) (h6 : arg6.IsWhole) (arg7 : Memref sig .tc .vmem S512x1024 .bf16) (h7 : arg7.IsWhole) (arg8 : Memref sig .tc .vmem S512x1024 .bf16) (h8 : arg8.IsWhole)
  (arg9 : Memref sig .tc .vmem S1024x1024 .bf16) (h9 : arg9.IsWhole) (arg10 : Memref sig .tc .vmem S1x1024 .f32) (h10 : arg10.IsWhole) (arg11 : Memref sig .tc .vmem S256x1024 .bf16) (h11 : arg11.IsWhole)
  (arg12 : Memref sig .tc .vmem S128x1 .f32) (h12 : arg12.IsWhole) (arg13 : Memref sig .tc .vmem S512x1024 .f32) (h13 : arg13.IsWhole) (arg14 : Memref sig .tc .vmem S512x1152 .f32) (h14 : arg14.IsWhole)
  (arg15 : Memref sig .tc .vmem S8x512 .f32) (h15 : arg15.IsWhole) (arg16 : Memref sig .tc .vmem S128x1 .f32) (h16 : arg16.IsWhole)
  (x0 x1 : Vec Ideal S512x512 .bf16) (x2 x3 : Vec Ideal S512x1024 .bf16) (x4 : Vec Ideal S512x1024 .f32) (x5 : Vec Ideal S1x6x1024 .f32) (x6 x7 : Vec Ideal S512x1024 .bf16) (x8 : Vec Ideal S1024x1024 .bf16)
  (x9 : Vec Ideal S1x1024 .f32) (x10 : Vec Ideal S256x1024 .bf16) (x11 xo : Vec Ideal S128x1 .f32)

theorem zero2 : (![0, 0] : Fin 2 → Nat) = fun _ => 0 := by
  funext a
  fin_cases a <;> rfl

/-- The stored block, over the blocks read. -/
def stored (x0 x1 : Vec Ideal S512x512 .bf16) (x2 x3 : Vec Ideal S512x1024 .bf16) (x4 : Vec Ideal S512x1024 .f32) (x5 : Vec Ideal S1x6x1024 .f32) (x6 x7 : Vec Ideal S512x1024 .bf16) (x8 : Vec Ideal S1024x1024 .bf16) : FVec Ideal S512x1024 .f32 :=
  k0_pay2 x2 x0 x6 x3 x1 x7 x8 x4 (View.ld x5 (Rect.unit (s := S1x6x1024) ![0, 2, 0] S1x1x1024.size inb_S1x6x1024_S1x1x1024_0_2_0))

/-- The first 1024 columns of the second stored block, over the blocks read. -/
def storedN (x0 x1 : Vec Ideal S512x512 .bf16) (x2 x3 : Vec Ideal S512x1024 .bf16) (x4 : Vec Ideal S512x1024 .f32) (x5 : Vec Ideal S1x6x1024 .f32) (x6 x7 : Vec Ideal S512x1024 .bf16) (x8 : Vec Ideal S1024x1024 .bf16) (x9 : Vec Ideal S1x1024 .f32) :
    FVec Ideal S512x1024 .f32 :=
  k0_pay3 (stored x0 x1 x2 x3 x4 x5 x6 x7 x8) x9 (View.ld x5 (Rect.unit (s := S1x6x1024) ![0, 4, 0] S1x1x1024.size inb_S1x6x1024_S1x1x1024_0_4_0))
    (View.ld x5 (Rect.unit (s := S1x6x1024) ![0, 3, 0] S1x1x1024.size inb_S1x6x1024_S1x1x1024_0_3_0))

/-- Of two stores, what lies outside the later is the earlier's. -/
theorem earlier_piece {S : Shape} (R R' : Rect S) (w : R.shape.Idx → Elt Ideal .f32) (v : R'.shape.Idx → Elt Ideal .f32) (x : R'.shape.Idx) (y : S.Idx) (e : R'.emb x = y) (n : y ∉ R.set) :
    View.canon (Val := Elt Ideal) (e := .f32) [⟨R, w⟩, ⟨R', v⟩] y = v x := by
  subst e
  exact (View.canon_cons_of_not_mem _ _ n).trans (View.canon_cons_emb R' v [] x)

/-- The first 1024 columns of 1152, and the last 128. -/
theorem left_emb (i2 : ∀ a, (![0, 0] : Fin 2 → Nat) a + S512x1024.size a ≤ S512x1152.size a) (r : Fin 512) (d : Fin 1024) (h : d.val < 1152) :
    (Rect.unit (s := S512x1152) ![0, 0] S512x1024.size i2).emb (ix2 r d) = (ix2 r ⟨d.val, h⟩ : S512x1152.Idx) := funext fun a => Fin.ext ((Rect.emb_apply _ _ a).trans (by
    fin_cases a
    · show 0 + 1 * r.val = r.val
      omega
    · show 0 + 1 * d.val = d.val
      omega))
theorem left_out (i1 : ∀ a, (![0, 1024] : Fin 2 → Nat) a + S512x128.size a ≤ S512x1152.size a) (r : Fin 512) (d : Fin 1024) (h : d.val < 1152) :
    (ix2 r ⟨d.val, h⟩ : S512x1152.Idx) ∉ (Rect.unit (s := S512x1152) ![0, 1024] S512x128.size i1).set := fun m => by
  have h' : 1024 ≤ d.val := (Rect.mem_set_unit.mp m 1).1
  omega

theorem left_piece (i1 : ∀ a, (![0, 1024] : Fin 2 → Nat) a + S512x128.size a ≤ S512x1152.size a) (i2 : ∀ a, (![0, 0] : Fin 2 → Nat) a + S512x1024.size a ≤ S512x1152.size a)
    (w : (Rect.unit (s := S512x1152) ![0, 1024] S512x128.size i1).shape.Idx → Elt Ideal .f32) (v : (Rect.unit (s := S512x1152) ![0, 0] S512x1024.size i2).shape.Idx → Elt Ideal .f32) (r : Fin 512) (d : Fin 1024) (h : d.val < 1152) :
    View.canon (Val := Elt Ideal) (e := .f32) [⟨Rect.unit (s := S512x1152) ![0, 1024] S512x128.size i1, w⟩, ⟨Rect.unit (s := S512x1152) ![0, 0] S512x1024.size i2, v⟩] (ix2 r ⟨d.val, h⟩ : S512x1152.Idx) = v (ix2 r d) :=
  earlier_piece _ _ w v (ix2 r d) _ (left_emb i2 r d h) (left_out i1 r d h)

/-- A load of a whole block is the block. -/
theorem whole_load {S : Shape} {e : EltTy} (arg : Memref sig .tc .vmem S e) (h : arg.IsWhole) {off : Fin S.rank → Nat} (ho : off = fun _ => 0) (inb : ∀ a, off a + S.size a ≤ S.size a) (x : Vec Ideal S e) :
    View.readAt (Elt Ideal) arg.view (Rect.unit off S.size inb).toLoadRect (h.unread x) = x := by
  rw [View.readAt_eq_ld, h.read_unread]
  exact View.ld_unit_zero ho inb x

/-- The loads of a point that reads whole blocks are the blocks. -/
theorem loads_eq : k0_pay2
      (View.readAt (Elt Ideal) arg3.view (Rect.unit (s := S512x1024) ![0, 0] S512x1024.size inb_S512x1024_S512x1024_0_0).toLoadRect (h3.unread x2))
      (View.readAt (Elt Ideal) arg1.view (Rect.unit (s := S512x512) ![0, 0] S512x512.size inb_S512x512_S512x512_0_0).toLoadRect (h1.unread x0))
      (View.readAt (Elt Ideal) arg7.view (Rect.unit (s := S512x1024) ![0, 0] S512x1024.size inb_S512x1024_S512x1024_0_0).toLoadRect (h7.unread x6))
      (View.readAt (Elt Ideal) arg4.view (Rect.unit (s := S512x1024) ![0, 0] S512x1024.size inb_S512x1024_S512x1024_0_0).toLoadRect (h4.unread x3))
      (View.readAt (Elt Ideal) arg2.view (Rect.unit (s := S512x512) ![0, 0] S512x512.size inb_S512x512_S512x512_0_0).toLoadRect (h2.unread x1))
      (View.readAt (Elt Ideal) arg8.view (Rect.unit (s := S512x1024) ![0, 0] S512x1024.size inb_S512x1024_S512x1024_0_0).toLoadRect (h8.unread x7))
      (View.readAt (Elt Ideal) arg9.view (Rect.unit (s := S1024x1024) ![0, 0] S1024x1024.size inb_S1024x1024_S1024x1024_0_0).toLoadRect (h9.unread x8))
      (View.readAt (Elt Ideal) arg5.view (Rect.unit (s := S512x1024) ![0, 0] S512x1024.size inb_S512x1024_S512x1024_0_0).toLoadRect (h5.unread x4))
      (View.readAt (Elt Ideal) arg6.view (Rect.unit (s := S1x6x1024) ![0, 2, 0] S1x1x1024.size inb_S1x6x1024_S1x1x1024_0_2_0).toLoadRect (h6.unread x5))
    = stored x0 x1 x2 x3 x4 x5 x6 x7 x8 := by
  rw [whole_load arg3 h3 zero2, whole_load arg1 h1 zero2, whole_load arg7 h7 zero2, whole_load arg4 h4 zero2, whole_load arg2 h2 zero2, whole_load arg8 h8 zero2, whole_load arg9 h9 zero2, whole_load arg5 h5 zero2,
    View.readAt_eq_ld, h6.read_unread]
  rfl

theorem loadsN_eq : k0_pay3 (k0_pay2
      (View.readAt (Elt Ideal) arg3.view (Rect.unit (s := S512x1024) ![0, 0] S512x1024.size inb_S512x1024_S512x1024_0_0).toLoadRect (h3.unread x2))
      (View.readAt (Elt Ideal) arg1.view (Rect.unit (s := S512x512) ![0, 0] S512x512.size inb_S512x512_S512x512_0_0).toLoadRect (h1.unread x0))
      (View.readAt (Elt Ideal) arg7.view (Rect.unit (s := S512x1024) ![0, 0] S512x1024.size inb_S512x1024_S512x1024_0_0).toLoadRect (h7.unread x6))
      (View.readAt (Elt Ideal) arg4.view (Rect.unit (s := S512x1024) ![0, 0] S512x1024.size inb_S512x1024_S512x1024_0_0).toLoadRect (h4.unread x3))
      (View.readAt (Elt Ideal) arg2.view (Rect.unit (s := S512x512) ![0, 0] S512x512.size inb_S512x512_S512x512_0_0).toLoadRect (h2.unread x1))
      (View.readAt (Elt Ideal) arg8.view (Rect.unit (s := S512x1024) ![0, 0] S512x1024.size inb_S512x1024_S512x1024_0_0).toLoadRect (h8.unread x7))
      (View.readAt (Elt Ideal) arg9.view (Rect.unit (s := S1024x1024) ![0, 0] S1024x1024.size inb_S1024x1024_S1024x1024_0_0).toLoadRect (h9.unread x8))
      (View.readAt (Elt Ideal) arg5.view (Rect.unit (s := S512x1024) ![0, 0] S512x1024.size inb_S512x1024_S512x1024_0_0).toLoadRect (h5.unread x4))
      (View.readAt (Elt Ideal) arg6.view (Rect.unit (s := S1x6x1024) ![0, 2, 0] S1x1x1024.size inb_S1x6x1024_S1x1x1024_0_2_0).toLoadRect (h6.unread x5)))
      (View.readAt (Elt Ideal) arg10.view (Rect.unit (s := S1x1024) ![0, 0] S1x1024.size inb_S1x1024_S1x1024_0_0).toLoadRect (h10.unread x9))
      (View.readAt (Elt Ideal) arg6.view (Rect.unit (s := S1x6x1024) ![0, 4, 0] S1x1x1024.size inb_S1x6x1024_S1x1x1024_0_4_0).toLoadRect (h6.unread x5))
      (View.readAt (Elt Ideal) arg6.view (Rect.unit (s := S1x6x1024) ![0, 3, 0] S1x1x1024.size inb_S1x6x1024_S1x1x1024_0_3_0).toLoadRect (h6.unread x5))
    = storedN x0 x1 x2 x3 x4 x5 x6 x7 x8 x9 := by
  rw [loads_eq arg1 h1 arg2 h2 arg3 h3 arg4 h4 arg5 h5 arg6 h6 arg7 h7 arg8 h8 arg9 h9, whole_load arg10 h10 zero2, View.readAt_eq_ld, View.readAt_eq_ld, h6.read_unread]
  rfl

/-- The first point's stored block. -/
theorem outA_eq (h : cond0_0 i) : out0_A_12 c i arg1 h1 arg2 h2 arg3 h3 arg4 h4 arg5 h5 arg6 h6 arg7 h7 arg8 h8 arg9 h9 arg10 h10 arg11 h11 arg12 h12 arg13 h13 arg14 h14 arg15 h15 arg16 h16 h x0 x1 x2 x3 x4 x5 x6 x7 x8 x9 x10 x11
    = stored x0 x1 x2 x3 x4 x5 x6 x7 x8 := by
  unfold out0_A_12
  rw [View.read_writes_junk_eq_canon]
  exact (View.canon_unit_zero (S := S512x1024) zero2 _ _).trans (loads_eq arg1 h1 arg2 h2 arg3 h3 arg4 h4 arg5 h5 arg6 h6 arg7 h7 arg8 h8 arg9 h9 x0 x1 x2 x3 x4 x5 x6 x7 x8)

/-- Every other point's. -/
theorem outB_eq (h : ¬ cond0_0 i) : out0_B_12 c i arg1 h1 arg2 h2 arg3 h3 arg4 h4 arg5 h5 arg6 h6 arg7 h7 arg8 h8 arg9 h9 arg10 h10 arg11 h11 arg12 h12 arg13 h13 arg14 h14 arg15 h15 arg16 h16 h x0 x1 x2 x3 x4 x5 x6 x7 x8 x9 x10 x11 xo
    = stored x0 x1 x2 x3 x4 x5 x6 x7 x8 := by
  unfold out0_B_12
  rw [View.read_writes_junk_eq_canon]
  exact (View.canon_unit_zero (S := S512x1024) zero2 _ _).trans (loads_eq arg1 h1 arg2 h2 arg3 h3 arg4 h4 arg5 h5 arg6 h6 arg7 h7 arg8 h8 arg9 h9 x0 x1 x2 x3 x4 x5 x6 x7 x8)

/-- The first point's second stored block, in its first 1024 columns. -/
theorem normedA_eq (h : cond0_0 i) (r : Fin 512) (d : Fin 1024) : out0_A_13 c i arg1 h1 arg2 h2 arg3 h3 arg4 h4 arg5 h5 arg6 h6 arg7 h7 arg8 h8 arg9 h9 arg10 h10 arg11 h11 arg12 h12 arg13 h13 arg14 h14 arg15 h15 arg16 h16 h x0 x1 x2 x3 x4 x5 x6 x7 x8 x9 x10 x11 (ix2 r ⟨d.val, by omega⟩)
    = storedN x0 x1 x2 x3 x4 x5 x6 x7 x8 x9 (ix2 r d) := by
  unfold out0_A_13
  rw [View.read_writes_junk_eq_canon]
  exact (left_piece _ _ _ _ r d _).trans (congrFun (loadsN_eq arg1 h1 arg2 h2 arg3 h3 arg4 h4 arg5 h5 arg6 h6 arg7 h7 arg8 h8 arg9 h9 arg10 h10 x0 x1 x2 x3 x4 x5 x6 x7 x8 x9) (ix2 r d))

/-- Every other point's. -/
theorem normedB_eq (h : ¬ cond0_0 i) (r : Fin 512) (d : Fin 1024) : out0_B_13 c i arg1 h1 arg2 h2 arg3 h3 arg4 h4 arg5 h5 arg6 h6 arg7 h7 arg8 h8 arg9 h9 arg10 h10 arg11 h11 arg12 h12 arg13 h13 arg14 h14 arg15 h15 arg16 h16 h x0 x1 x2 x3 x4 x5 x6 x7 x8 x9 x10 x11 xo (ix2 r ⟨d.val, by omega⟩)
    = storedN x0 x1 x2 x3 x4 x5 x6 x7 x8 x9 (ix2 r d) := by
  unfold out0_B_13
  rw [View.read_writes_junk_eq_canon]
  exact (left_piece _ _ _ _ r d _).trans (congrFun (loadsN_eq arg1 h1 arg2 h2 arg3 h3 arg4 h4 arg5 h5 arg6 h6 arg7 h7 arg8 h8 arg9 h9 arg10 h10 x0 x1 x2 x3 x4 x5 x6 x7 x8 x9) (ix2 r d))

end

/-! ## It, at an element -/

theorem mod_ld (x : Vec Ideal S1x6x1024 .f32) (k : Fin 1024) :
    View.ld x (Rect.unit (s := S1x6x1024) ![0, 2, 0] S1x1x1024.size inb_S1x6x1024_S1x1x1024_0_2_0) (ix3 0 0 k) = x (ix3 0 2 k) := by
  rw [View.ld_unit]
  pointwise

theorem shift_ld (x : Vec Ideal S1x6x1024 .f32) (k : Fin 1024) :
    View.ld x (Rect.unit (s := S1x6x1024) ![0, 3, 0] S1x1x1024.size inb_S1x6x1024_S1x1x1024_0_3_0) (ix3 0 0 k) = x (ix3 0 3 k) := by
  rw [View.ld_unit]
  pointwise

theorem scale_ld (x : Vec Ideal S1x6x1024 .f32) (k : Fin 1024) :
    View.ld x (Rect.unit (s := S1x6x1024) ![0, 4, 0] S1x1x1024.size inb_S1x6x1024_S1x1x1024_0_4_0) (ix3 0 0 k) = x (ix3 0 4 k) := by
  rw [View.ld_unit]
  pointwise

theorem norm_at (v28 : FVec Ideal S512x1024 .f32) (v30 : Vec Ideal S1x1024 .f32) (v44 v50 : Vec Ideal S1x1x1024 .f32) (r : Fin 512) (d : Fin 1024) :
    k0_pay3 v28 v30 v44 v50 (ix2 r d) = Proj.nrm 1149239296#32 (fun x => v28 (ix2 r x)) (fun x => v30 (ix2 0 x)) d * (1 + v44 (ix3 0 0 d)) + v50 (ix3 0 0 d) := by
  unfold k0_pay3
  pointwise
  rfl

theorem pay_at (v3 : Vec Ideal S512x1024 .bf16) (v5 : Vec Ideal S512x512 .bf16) (v6 : Vec Ideal S512x1024 .bf16) (v10 : Vec Ideal S512x1024 .bf16) (v12 : Vec Ideal S512x512 .bf16) (v13 : Vec Ideal S512x1024 .bf16) (v19 : Vec Ideal S1024x1024 .bf16)
    (v22 : Vec Ideal S512x1024 .f32) (v24 : Vec Ideal S1x1x1024 .f32) (r : Fin 512) (d : Fin 1024) : k0_pay2 v3 v5 v6 v10 v12 v13 v19 v22 v24 (ix2 r d)
      = v22 (ix2 r d) + v24 (ix3 0 0 d) * ∑ k : Fin 1024, (v3 (ix2 r k) * (∑ h : Fin 512, v5 (ix2 r h) * v6 (ix2 h k)) + v10 (ix2 r k) * (∑ h : Fin 512, v12 (ix2 r h) * v13 (ix2 h k))) * v19 (ix2 k d) := by
  unfold k0_pay2
  pointwise

/-- The ten blocks that the two results read, at a point whose rows are the tokens `s r` of batch `b`. -/
structure Holds (A : Args) (b : Fin 8) (s : Fin 512 → Fin 4096) (x0 x1 : Vec Ideal S512x512 .bf16) (x2 x3 : Vec Ideal S512x1024 .bf16) (x4 : Vec Ideal S512x1024 .f32) (x5 : Vec Ideal S1x6x1024 .f32) (x6 x7 : Vec Ideal S512x1024 .bf16)
  (x8 : Vec Ideal S1024x1024 .bf16) (x9 : Vec Ideal S1x1024 .f32) : Prop where
  h0 : ∀ (r : Fin 512) (h : Fin 512), x0 (ix2 r h) = A.oa (ix2 (rowOf b (s r)) h)
  h1 : ∀ (r : Fin 512) (h : Fin 512), x1 (ix2 r h) = A.ob (ix2 (rowOf b (s r)) h)
  h2 : ∀ (r : Fin 512) (k : Fin 1024), x2 (ix2 r k) = A.ga (ix2 (rowOf b (s r)) k)
  h3 : ∀ (r : Fin 512) (k : Fin 1024), x3 (ix2 r k) = A.gb (ix2 (rowOf b (s r)) k)
  h4 : ∀ (r : Fin 512) (d : Fin 1024), x4 (ix2 r d) = A.x (ix3 b (s r) d)
  h5 : ∀ (a : Fin 6) (d : Fin 1024), x5 (ix3 0 a d) = A.md (ix2 b ⟨a.val * 1024 + d.val, by omega⟩)
  h6 : ∀ (h : Fin 512) (k : Fin 1024), x6 (ix2 h k) = A.woa (ix2 h k)
  h7 : ∀ (h : Fin 512) (k : Fin 1024), x7 (ix2 h k) = A.wob (ix2 h k)
  h8 : ∀ (k : Fin 1024) (d : Fin 1024), x8 (ix2 k d) = A.wout (ix2 k d)
  h9 : ∀ (d : Fin 1024), x9 (ix2 0 d) = A.gain (ix1 d)

theorem stored_at {A : Args} {b : Fin 8} {s : Fin 512 → Fin 4096} {x0 x1 : Vec Ideal S512x512 .bf16} {x2 x3 : Vec Ideal S512x1024 .bf16} {x4 : Vec Ideal S512x1024 .f32} {x5 : Vec Ideal S1x6x1024 .f32} {x6 x7 : Vec Ideal S512x1024 .bf16}
    {x8 : Vec Ideal S1024x1024 .bf16} {x9 : Vec Ideal S1x1024 .f32} (H : Holds A b s x0 x1 x2 x3 x4 x5 x6 x7 x8 x9) (r : Fin 512) (d : Fin 1024) : stored x0 x1 x2 x3 x4 x5 x6 x7 x8 (ix2 r d) = sumAt A b (s r) d := by
  unfold stored
  rw [pay_at, mod_ld]
  simp only [H.h0, H.h1, H.h2, H.h3, H.h4, H.h5, H.h6, H.h7, H.h8]
  rfl

theorem storedN_at {A : Args} {b : Fin 8} {s : Fin 512 → Fin 4096} {x0 x1 : Vec Ideal S512x512 .bf16} {x2 x3 : Vec Ideal S512x1024 .bf16} {x4 : Vec Ideal S512x1024 .f32} {x5 : Vec Ideal S1x6x1024 .f32} {x6 x7 : Vec Ideal S512x1024 .bf16}
    {x8 : Vec Ideal S1024x1024 .bf16} {x9 : Vec Ideal S1x1024 .f32} (H : Holds A b s x0 x1 x2 x3 x4 x5 x6 x7 x8 x9) (r : Fin 512) (d : Fin 1024) : storedN x0 x1 x2 x3 x4 x5 x6 x7 x8 x9 (ix2 r d) = normAt A b (s r) d := by
  unfold storedN
  rw [norm_at, scale_ld, shift_ld]
  simp only [stored_at H, H.h5, H.h9]
  rfl

end Cert.Kernel3Ideal.Merge

end
-- ==== Proof.Merge.Array.lean ====
/-
  The merge's two results as whole arrays: the points' blocks hold the arguments, the blocks stored tile the arrays, and the second result is
  cut out of the second array after the call.
-/
module

public import proofs.«01_k».proof.Proof.Merge.Value
public import Idealize.ShloMosaic.Lib.Pipeline.Covers
public import Idealize.ShloMosaic.Lib.Pipeline.ValueKit.Geometry

@[expose] public section

set_option maxRecDepth 16384

noncomputable section

namespace Cert.Kernel3Ideal.Merge

open Cert.Kernel3Ideal Cert.Kernel3Ideal.Gen Cert.Merge
open Idealize.ShloMosaic Idealize.ShloMosaic.TcCoe Idealize.ShloMosaic.StableHlo

variable (m : (ℓ : Loc nD τ sig) → Buf (Elt Ideal) ℓ) (ρ : Dev nD → PrngReg) (c : Dev nD) (t : Fin cfg0.N)

/-- The call's arguments. -/
def argsOf : Args where
  oa := m ((c.tc : Thread nD τ).loc main_arg0)
  ob := m ((c.tc : Thread nD τ).loc main_arg1)
  ga := m ((c.tc : Thread nD τ).loc main_arg2)
  gb := m ((c.tc : Thread nD τ).loc main_arg3)
  x := m ((c.tc : Thread nD τ).loc main_arg4)
  md := m ((c.tc : Thread nD τ).loc main_arg5)
  woa := m ((c.tc : Thread nD τ).loc main_arg6)
  wob := m ((c.tc : Thread nD τ).loc main_arg7)
  wout := m ((c.tc : Thread nD τ).loc main_arg8)
  gain := m ((c.tc : Thread nD τ).loc main_arg9)

/-! ## What the host prepares -/

theorem V_v0 : V m c main_v0 = (shapeCast S32768x1024 ((m ((c.tc : Thread nD τ).loc main_arg4)) : FVec Ideal S8x4096x1024 .f32) shapeCasts_S8x4096x1024_S32768x1024 : FVec Ideal S32768x1024 .f32) := by
  show after (List.flatten [hostOps0]) (fun b => m (c, b)) (Proc.devRef .tc main_v0) = _
  simp only [hostOps0, List.flatten_cons, List.flatten_nil, List.append_nil]
  after_results_simp
  rfl

theorem V_v1 : V m c main_v1 = (shapeCast S8x6x1024 ((m ((c.tc : Thread nD τ).loc main_arg5)) : FVec Ideal S8x6144 .f32) shapeCasts_S8x6144_S8x6x1024 : FVec Ideal S8x6x1024 .f32) := by
  show after (List.flatten [hostOps0]) (fun b => m (c, b)) (Proc.devRef .tc main_v1) = _
  simp only [hostOps0, List.flatten_cons, List.flatten_nil, List.append_nil]
  after_results_simp
  rfl

theorem V_v14 : V m c main_v14 = ((argsOf m c).woa : FVec Ideal S512x1024 .f32) := by
  show after (List.flatten [hostOps0]) (fun b => m (c, b)) (Proc.devRef .tc main_v14) = _
  simp only [hostOps0, List.flatten_cons, List.flatten_nil, List.append_nil]
  after_results_simp
  rfl

theorem V_v15 : V m c main_v15 = ((argsOf m c).wob : FVec Ideal S512x1024 .f32) := by
  show after (List.flatten [hostOps0]) (fun b => m (c, b)) (Proc.devRef .tc main_v15) = _
  simp only [hostOps0, List.flatten_cons, List.flatten_nil, List.append_nil]
  after_results_simp
  rfl

theorem V_v16 : V m c main_v16 = ((argsOf m c).wout : FVec Ideal S1024x1024 .f32) := by
  show after (List.flatten [hostOps0]) (fun b => m (c, b)) (Proc.devRef .tc main_v16) = _
  simp only [hostOps0, List.flatten_cons, List.flatten_nil, List.append_nil]
  after_results_simp
  rfl

theorem V_v17 : V m c main_v17 = (shapeCast S1x1024 ((argsOf m c).gain : FVec Ideal S1024 .f32) shapeCasts_S1024_S1x1024 : FVec Ideal S1x1024 .f32) := by
  show after (List.flatten [hostOps0]) (fun b => m (c, b)) (Proc.devRef .tc main_v17) = _
  simp only [hostOps0, List.flatten_cons, List.flatten_nil, List.append_nil]
  after_results_simp
  rfl

/-! ## The points' blocks -/

/-- The point's place in the grid, its batch, the token of its row `r`, and that row's place in the arrays with one row per token. -/
abbrev pt : Fin 64 := grid0.coords t 0
def bat : Fin 8 := ⟨(pt t).val / 8, by have := (pt t).isLt; omega⟩
def tok (r : Fin 512) : Fin 4096 := ⟨(pt t).val % 8 * 512 + r.val, by omega⟩
def row (r : Fin 512) : Fin 32768 := ⟨(pt t).val * 512 + r.val, by have := (pt t).isLt; omega⟩

theorem row_eq (r : Fin 512) : row t r = rowOf (bat t) (tok t r) :=
  Fin.ext (by show (pt t).val * 512 + r.val = (pt t).val / 8 * 4096 + ((pt t).val % 8 * 512 + r.val); omega)
theorem bat_eq (r : Fin 512) : (⟨(row t r).val / 4096, by omega⟩ : Fin 8) = bat t := Fin.ext (by show ((pt t).val * 512 + r.val) / 4096 = (pt t).val / 8; omega)
theorem tok_eq (r : Fin 512) : (⟨(row t r).val % 4096, by omega⟩ : Fin 4096) = tok t r := Fin.ext (by show ((pt t).val * 512 + r.val) % 4096 = (pt t).val % 8 * 512 + r.val; omega)

/-- A point's place as a word. -/
theorem place_word : (BitVec.ofNat 32 (pt t).val).toNat = (pt t).val := by
  rw [BitVec.toNat_ofNat, Nat.mod_eq_of_lt (by have := (pt t).isLt; omega)]

/-- The modulation's block is the batch's: a batch is a row of 8 points. -/
theorem at5 (i : grid0.Coords) : cc0_transform_5 i = ![(i 0).val / 8, 0, 0] := by
  have h : ∀ p : Fin 64, cc0_transform_5 (fun a => Fin.cast (by fin_cases a; rfl) p) = ![p.val / 8, 0, 0] := by decide +kernel
  refine Eq.trans (congrArg cc0_transform_5 (funext fun a => ?_)) (h (i 0))
  fin_cases a
  rfl

theorem iblk0_at (r : Fin 512) (k : Fin 512) : (iblk m c 0 t : Vec Ideal S512x512 .bf16) (ix2 r k) = (V m c main_arg0 : FVec Ideal S32768x512 .bf16) (ix2 (row t r) k) := by
  refine congrArg (V m c main_arg0 : FVec Ideal S32768x512 .bf16) (funext fun a => Fin.ext ?_)
  refine (Pipeline.Window.rect_emb_val (cfg0.win 0) t (ix2 r k) a).trans ?_
  fin_cases a
  · show (BitVec.ofNat 32 (pt t).val).toNat * 512 + r.val = (pt t).val * 512 + r.val
    rw [place_word]
  · show 0 * 512 + k.val = k.val
    omega
theorem iblk1_at (r : Fin 512) (k : Fin 512) : (iblk m c 1 t : Vec Ideal S512x512 .bf16) (ix2 r k) = (V m c main_arg1 : FVec Ideal S32768x512 .bf16) (ix2 (row t r) k) := by
  refine congrArg (V m c main_arg1 : FVec Ideal S32768x512 .bf16) (funext fun a => Fin.ext ?_)
  refine (Pipeline.Window.rect_emb_val (cfg0.win 1) t (ix2 r k) a).trans ?_
  fin_cases a
  · show (BitVec.ofNat 32 (pt t).val).toNat * 512 + r.val = (pt t).val * 512 + r.val
    rw [place_word]
  · show 0 * 512 + k.val = k.val
    omega
theorem iblk2_at (r : Fin 512) (k : Fin 1024) : (iblk m c 2 t : Vec Ideal S512x1024 .bf16) (ix2 r k) = (V m c main_arg2 : FVec Ideal S32768x1024 .bf16) (ix2 (row t r) k) := by
  refine congrArg (V m c main_arg2 : FVec Ideal S32768x1024 .bf16) (funext fun a => Fin.ext ?_)
  refine (Pipeline.Window.rect_emb_val (cfg0.win 2) t (ix2 r k) a).trans ?_
  fin_cases a
  · show (BitVec.ofNat 32 (pt t).val).toNat * 512 + r.val = (pt t).val * 512 + r.val
    rw [place_word]
  · show 0 * 1024 + k.val = k.val
    omega
theorem iblk3_at (r : Fin 512) (k : Fin 1024) : (iblk m c 3 t : Vec Ideal S512x1024 .bf16) (ix2 r k) = (V m c main_arg3 : FVec Ideal S32768x1024 .bf16) (ix2 (row t r) k) := by
  refine congrArg (V m c main_arg3 : FVec Ideal S32768x1024 .bf16) (funext fun a => Fin.ext ?_)
  refine (Pipeline.Window.rect_emb_val (cfg0.win 3) t (ix2 r k) a).trans ?_
  fin_cases a
  · show (BitVec.ofNat 32 (pt t).val).toNat * 512 + r.val = (pt t).val * 512 + r.val
    rw [place_word]
  · show 0 * 1024 + k.val = k.val
    omega
theorem iblk4_at (r : Fin 512) (k : Fin 1024) : (iblk m c 4 t : Vec Ideal S512x1024 .f32) (ix2 r k) = (V m c main_v0 : FVec Ideal S32768x1024 .f32) (ix2 (row t r) k) := by
  refine congrArg (V m c main_v0 : FVec Ideal S32768x1024 .f32) (funext fun a => Fin.ext ?_)
  refine (Pipeline.Window.rect_emb_val (cfg0.win 4) t (ix2 r k) a).trans ?_
  fin_cases a
  · show (BitVec.ofNat 32 (pt t).val).toNat * 512 + r.val = (pt t).val * 512 + r.val
    rw [place_word]
  · show 0 * 1024 + k.val = k.val
    omega
theorem iblk5_at (k : Fin 6) (j : Fin 1024) : (iblk m c 5 t : Vec Ideal S1x6x1024 .f32) (ix3 0 k j) = (V m c main_v1 : FVec Ideal S8x6x1024 .f32) (ix3 (bat t) k j) := by
  refine congrArg (V m c main_v1 : FVec Ideal S8x6x1024 .f32) (funext fun a => Fin.ext ?_)
  refine (Pipeline.Window.rect_emb_val (cfg0.win 5) t (ix3 0 k j) a).trans ?_
  fin_cases a
  · exact (congrArg (· * 1 + 0) (congrFun (at5 (grid0.coords t)) 0)).trans (by show (pt t).val / 8 * 1 + 0 = (pt t).val / 8; omega)
  · exact (congrArg (· * 6 + k.val) (congrFun (at5 (grid0.coords t)) 1)).trans (by show 0 * 6 + k.val = k.val; omega)
  · exact (congrArg (· * 1024 + j.val) (congrFun (at5 (grid0.coords t)) 2)).trans (by show 0 * 1024 + j.val = j.val; omega)
theorem iblk6_at (y : S512x1024.Idx) : (iblk m c 6 t : Vec Ideal S512x1024 .bf16) y = (V m c main_v14 : FVec Ideal S512x1024 .bf16) y :=
  congrArg (V m c main_v14 : FVec Ideal S512x1024 .bf16) (funext fun a => Fin.ext ((Pipeline.Window.rect_emb_val (cfg0.win 6) t y a).trans (by
    fin_cases a
    · exact Nat.zero_add _
    · exact Nat.zero_add _)))
theorem iblk7_at (y : S512x1024.Idx) : (iblk m c 7 t : Vec Ideal S512x1024 .bf16) y = (V m c main_v15 : FVec Ideal S512x1024 .bf16) y :=
  congrArg (V m c main_v15 : FVec Ideal S512x1024 .bf16) (funext fun a => Fin.ext ((Pipeline.Window.rect_emb_val (cfg0.win 7) t y a).trans (by
    fin_cases a
    · exact Nat.zero_add _
    · exact Nat.zero_add _)))
theorem iblk8_at (y : S1024x1024.Idx) : (iblk m c 8 t : Vec Ideal S1024x1024 .bf16) y = (V m c main_v16 : FVec Ideal S1024x1024 .bf16) y :=
  congrArg (V m c main_v16 : FVec Ideal S1024x1024 .bf16) (funext fun a => Fin.ext ((Pipeline.Window.rect_emb_val (cfg0.win 8) t y a).trans (by
    fin_cases a
    · exact Nat.zero_add _
    · exact Nat.zero_add _)))
theorem iblk9_at (y : S1x1024.Idx) : (iblk m c 9 t : Vec Ideal S1x1024 .f32) y = (V m c main_v17 : FVec Ideal S1x1024 .f32) y :=
  congrArg (V m c main_v17 : FVec Ideal S1x1024 .f32) (funext fun a => Fin.ext ((Pipeline.Window.rect_emb_val (cfg0.win 9) t y a).trans (by
    fin_cases a
    · exact Nat.zero_add _
    · exact Nat.zero_add _)))

theorem tokens_at (x : FVec Ideal S8x4096x1024 .f32) (r : Fin 512) (k : Fin 1024) :
    shapeCast S32768x1024 x shapeCasts_S8x4096x1024_S32768x1024 (ix2 (row t r) k) = x (ix3 (bat t) (tok t r) k) := by
  pointwise
  exact congrArg x (congrArg₂ (fun p q => ix3 p q k) (bat_eq t r) (tok_eq t r))
theorem mods_at (x : FVec Ideal S8x6144 .f32) (b : Fin 8) (a : Fin 6) (k : Fin 1024) :
    shapeCast S8x6x1024 x shapeCasts_S8x6144_S8x6x1024 (ix3 b a k) = x (ix2 b ⟨a.val * 1024 + k.val, by omega⟩) := by
  pointwise
theorem gain_at (x : FVec Ideal S1024 .f32) (k : Fin 1024) : shapeCast S1x1024 x shapeCasts_S1024_S1x1024 (ix2 0 k) = x (ix1 k) := by
  pointwise

/-- A point's blocks hold the arguments. -/
theorem holds : Holds (argsOf m c) (bat t) (tok t) (iblk m c 0 t) (iblk m c 1 t) (iblk m c 2 t) (iblk m c 3 t) (iblk m c 4 t) (iblk m c 5 t) (iblk m c 6 t) (iblk m c 7 t) (iblk m c 8 t) (iblk m c 9 t) where
  h0 r k := (iblk0_at m c t r k).trans ((congrFun (V_main_arg0 m c) _).trans (congrArg (fun p => (argsOf m c).oa (ix2 p k)) (row_eq t r)))
  h1 r k := (iblk1_at m c t r k).trans ((congrFun (V_main_arg1 m c) _).trans (congrArg (fun p => (argsOf m c).ob (ix2 p k)) (row_eq t r)))
  h2 r k := (iblk2_at m c t r k).trans ((congrFun (V_main_arg2 m c) _).trans (congrArg (fun p => (argsOf m c).ga (ix2 p k)) (row_eq t r)))
  h3 r k := (iblk3_at m c t r k).trans ((congrFun (V_main_arg3 m c) _).trans (congrArg (fun p => (argsOf m c).gb (ix2 p k)) (row_eq t r)))
  h4 r k := (iblk4_at m c t r k).trans ((congrFun (V_v0 m c) _).trans (tokens_at t _ r k))
  h5 a k := (iblk5_at m c t a k).trans ((congrFun (V_v1 m c) _).trans (mods_at _ _ a k))
  h6 h k := (iblk6_at m c t _).trans (congrFun (V_v14 m c) _)
  h7 h k := (iblk7_at m c t _).trans (congrFun (V_v15 m c) _)
  h8 k d := (iblk8_at m c t _).trans (congrFun (V_v16 m c) _)
  h9 d := (iblk9_at m c t _).trans ((congrFun (V_v17 m c) _).trans (gain_at _ d))

/-! ## From the blocks to the whole array -/

/-- The first block that a point writes back is the same function of its input blocks at every point. -/
theorem flushed_stored : (dats m 0 c).flushed 12 t = (cfg0.win 12).cut (grid0.coords t) (stored (iblk m c 0 t) (iblk m c 1 t) (iblk m c 2 t) (iblk m c 3 t) (iblk m c 4 t) (iblk m c 5 t) (iblk m c 6 t) (iblk m c 7 t) (iblk m c 8 t)) := by
  show (cfg0.win 12).cut (grid0.coords t) ((dats m 0 c).after 12 t) = _
  rw [after0_12]
  by_cases h : t.val % 64 = 0
  · simp only [outsAt0_A m c t h]
    exact congrArg ((cfg0.win 12).cut (grid0.coords t)) (outA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h))
  · simp only [outsAt0_B m c t h]
    exact congrArg ((cfg0.win 12).cut (grid0.coords t)) (outB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ (fun k => h ((hcond0_0 t).mp k)))

/-- The second, at its first 1024 columns. -/
theorem after_stored (r : Fin 512) (d : Fin 1024) : ((dats m 0 c).after 13 t : Vec Ideal S512x1152 .f32) (ix2 r ⟨d.val, by omega⟩) = storedN (iblk m c 0 t) (iblk m c 1 t) (iblk m c 2 t) (iblk m c 3 t) (iblk m c 4 t) (iblk m c 5 t) (iblk m c 6 t) (iblk m c 7 t) (iblk m c 8 t) (iblk m c 9 t) (ix2 r d) := by
  rw [after0_13]
  by_cases h : t.val % 64 = 0
  · simp only [outsAt0_A m c t h]
    exact normedA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h) r d
  · simp only [outsAt0_B m c t h]
    exact normedB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ (fun k => h ((hcond0_0 t).mp k)) r d

theorem flushed_eq : (dats m 0 c).flushed 12 t = ((cfg0.win 12).blk t).view.read (Elt Ideal) (result (argsOf m c)) := by
  rw [flushed_stored]
  refine funext fun (y : S512x1024.Idx) => ?_
  obtain ⟨r, d, rfl⟩ : ∃ (r : Fin 512) (d : Fin 1024), y = ix2 r d := ⟨y 0, y 1, eq_ix2 _⟩
  refine (stored_at (holds m c t) r d).trans ?_
  have e : ((cfg0.win 12).rect t).emb (ix2 r d) = (ix2 (row t r) d : S32768x1024.Idx) := funext fun a => Fin.ext ((Pipeline.Window.rect_emb_val (cfg0.win 12) t (ix2 r d) a).trans (by
    fin_cases a
    · show (BitVec.ofNat 32 (pt t).val).toNat * 512 + r.val = (pt t).val * 512 + r.val
      rw [place_word]
    · show 0 * 1024 + d.val = d.val
      omega))
  refine Eq.trans ?_ (congrArg (result (argsOf m c)) e).symm
  exact (congrArg₂ (fun p q => sumAt (argsOf m c) p q d) (bat_eq t r) (tok_eq t r)).symm

/-- Every place of the grid is a point's. -/
theorem point_of (p : Fin 64) : ∃ t : Fin cfg0.N, (pt t).val = p.val := by
  obtain ⟨t, ht⟩ := grid0.coords_surjective (fun a => Fin.cast (by fin_cases a; rfl) p)
  exact ⟨t, congrArg (fun x : grid0.Coords => (x 0).val) ht⟩

theorem cover (i : S32768x1024.Idx) : ∃ t : Fin cfg0.N, (cfg0.win 12).flush t = true ∧ i ∈ ((cfg0.win 12).blk t).view.set := by
  have h0 : (i 0).val < 32768 := (i 0).isLt
  have h1 : (i 1).val < 1024 := (i 1).isLt
  obtain ⟨t, ht⟩ := point_of ⟨(i 0).val / 512, by omega⟩
  have e : (pt t).val = (i 0).val / 512 := ht
  refine ⟨t, flush0_12 t, (congrArg (i ∈ ·) (View.set_slice_whole main_v19_0 ((cfg0.win 12).rect t))).mpr ((Pipeline.Window.mem_rect_iff (cfg0.win 12) t i).mpr fun a => ?_)⟩
  fin_cases a
  · show (BitVec.ofNat 32 (pt t).val).toNat * 512 ≤ (i 0).val ∧ (i 0).val < (BitVec.ofNat 32 (pt t).val).toNat * 512 + 512
    rw [place_word, e]
    omega
  · show 0 * 1024 ≤ (i 1).val ∧ (i 1).val < 0 * 1024 + 1024
    omega

theorem final : (dats m 0 c).arrAt 12 cfg0.N = result (argsOf m c) :=
  (dats m 0 c).arrAt_eq_of_cover 12 (result (argsOf m c)) (fun t _ => flushed_eq m c t) cover

/-- Distinct points' second blocks share no element. -/
theorem apart (t t' : Fin cfg0.N) (_ : (cfg0.win 13).flush t = true) (_ : (cfg0.win 13).flush t' = true) (h : t ≠ t') :
    Disjoint ((cfg0.win 13).blk t).view.set ((cfg0.win 13).blk t').view.set :=
  (cfg0.win 13).disjoint_blk fun e => h ((by decide +kernel : ∀ u u' : Fin grid0.N, win0_13.index u = win0_13.index u' → u = u') t t' e)

/-- The second array at its first 1024 columns. -/
theorem final_at (i : Fin 32768) (d : Fin 1024) : ((dats m 0 c).arrAt 13 cfg0.N : FVec Ideal S32768x1152 .f32) (ix2 i ⟨d.val, by omega⟩) = normed (argsOf m c) (ix2 i d) := by
  obtain ⟨t, ht⟩ := point_of ⟨i.val / 512, by omega⟩
  have e : (pt t).val = i.val / 512 := ht
  obtain ⟨r, rfl⟩ : ∃ r : Fin 512, i = row t r := ⟨⟨i.val % 512, by omega⟩, Fin.ext (by show i.val = (pt t).val * 512 + i.val % 512; omega)⟩
  have k : ((cfg0.win 13).rect t).emb (ix2 r ⟨d.val, by omega⟩ : S512x1152.Idx) = (ix2 (row t r) ⟨d.val, by omega⟩ : S32768x1152.Idx) := funext fun a => Fin.ext ((Pipeline.Window.rect_emb_val (cfg0.win 13) t (ix2 r ⟨d.val, by omega⟩ : S512x1152.Idx) a).trans (by
    fin_cases a
    · show (BitVec.ofNat 32 (pt t).val).toNat * 512 + r.val = (pt t).val * 512 + r.val
      rw [place_word]
    · show 0 * 1152 + d.val = d.val
      omega))
  refine (congrArg ((dats m 0 c).arrAt 13 cfg0.N : FVec Ideal S32768x1152 .f32) k).symm.trans ?_
  refine (congrFun ((dats m 0 c).read_blk_arrAt_eq_flushed 13 apart cfg0.N t t.isLt (flush0_13 t)) (ix2 r ⟨d.val, by omega⟩ : S512x1152.Idx)).trans ?_
  refine ((after_stored m c t r d).trans (storedN_at (holds m c t) r d)).trans ?_
  exact (congrArg₂ (fun p q => normAt (argsOf m c) p q d) (bat_eq t r) (tok_eq t r)).symm

/-- What the line after the call cuts out of the second array. -/
theorem cut_eq : Pipeline.afterTail₀ cfgs (dats m) 0 (V0 m) [hostOps1] c main_v20 = normed (argsOf m c) := by
  have h : Pipeline.afterTail₀ cfgs (dats m) 0 (V0 m) [hostOps1] c main_v20
      = extractStridedSlice S32768x1024 ![0, 0] ((dats m 0 c).arrAt 13 cfg0.N : FVec Ideal S32768x1152 .f32) slices_S32768x1152_S32768x1024_0_0 := by
    unfold Pipeline.afterTail₀
    simp only [hostOps1, List.flatten_cons, List.flatten_nil, List.append_nil]
    after_results_simp
    exact congrArg (fun v : FVec Ideal S32768x1152 .f32 => extractStridedSlice S32768x1024 ![0, 0] v slices_S32768x1152_S32768x1024_0_0)
      (Pipeline.withArrays_arr spec0 launch0.win.arr_inj c (V0 m c) (fun w => (dats m 0 c).arrAt w cfg0.N) 13)
  rw [h]
  funext (i : S32768x1024.Idx)
  obtain ⟨i, d, rfl⟩ : ∃ (p : Fin 32768) (d : Fin 1024), i = ix2 p d := ⟨i 0, i 1, eq_ix2 _⟩
  refine Eq.trans ?_ (final_at m c i d)
  pointwise

set_option maxHeartbeats 2000000 in
/-- Every run ends with the two results as specified, the arguments unchanged. -/
theorem run : θ_run defs (onTc (τ := τ) (main (F := Ideal))) ⟨m, fun _ => 0, ρ⟩ (fun r => ∀ c : Dev nD,
      r.2.mem ((c.tc : Thread nD τ).loc main_v19_0) = result (argsOf m c)
      ∧ r.2.mem ((c.tc : Thread nD τ).loc main_v20) = normed (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 12).trans (final m c),
    ((h c).2 main_v20 (Pipeline.mem_restRefs_of main_v20 (by decide) (by decide))).trans (cut_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c)⟩) (run_main m ρ)

end Cert.Kernel3Ideal.Merge

end
-- ==== Proof.Merge.Reference.lean ====
/-
  The reference's merge, element by element: its two results are the specification's.
-/
module

public import proofs.«01_k».proof.Proof.Gen.Reference3Ideal
public import proofs.«01_k».proof.Proof.Gen.Reference3Ideal.Run
public import proofs.«01_k».proof.Proof.Merge.Spec
public import Idealize.ShloMosaic.Lib.Quiescent
public import Idealize.ShloMosaic.Lib.Pointwise.Tactic
public import Idealize.ShloMosaic.Lib.Pointwise.Sums
public import Idealize.ShloMosaic.Lib.Pointwise.Contract
public import Idealize.ShloMosaic.Lib.Pointwise.Reduce
public import Idealize.ShloMosaic.Lib.Pointwise.Reshape

@[expose] public section

set_option maxRecDepth 16384

noncomputable section

namespace Cert.Reference3Ideal.Merge

open Idealize.ShloMosaic Idealize.ShloMosaic.TcCoe Cert.Merge
open Cert.Reference3Ideal Cert.Reference3Ideal.Gen Cert.Reference3Ideal.Value

/-- One attention's output through its weight, at a token. -/
theorem half_at (o : FVec Ideal S32768x512 .bf16) (w : FVec Ideal S512x1024 .f32) (b : Fin 8) (s : Fin 4096) (k : Fin 1024) :
    Host.dotGeneral dot_S8x4096x512_S512x1024_S8x4096x1024_2_0_01_1_n_n none (shapeCast S8x4096x512 (extf .f32 o bitsLt_bf16_f32) shapeCasts_S32768x512_S8x4096x512) w (ix3 b s k)
      = ∑ h : Fin 512, o (ix2 (rowOf b s) h) * w (ix2 h k) := by
  pointwise
  rfl

/-- A gate at a token. -/
theorem gate_at (g : FVec Ideal S32768x1024 .bf16) (b : Fin 8) (s : Fin 4096) (k : Fin 1024) :
    shapeCast S8x4096x1024 (extf .f32 g bitsLt_bf16_f32) shapeCasts_S32768x1024_S8x4096x1024 (ix3 b s k) = g (ix2 (rowOf b s) k) := by
  pointwise
  rfl

/-- The modulation's third part at a token. -/
theorem mod_at (md : FVec Ideal S8x6144 .f32) (b : Fin 8) (s : Fin 4096) (d : Fin 1024) :
    broadcastInDim S8x4096x1024 ![0, 1, 2] bcast_S8x1x1024_S8x4096x1024_0_1_2 (broadcastInDim S8x1x1024 ![0, 2] bcast_S8x1024_S8x1x1024_0_2 (extractStridedSlice S8x1024 ![0, 2048] md slices_S8x6144_S8x1024_0_2048)) (ix3 b s d)
      = md (ix2 b ⟨2048 + d.val, by omega⟩) := by
  pointwise

/-- A product with the output weight, at a token. -/
theorem out_at (v : FVec Ideal S8x4096x1024 .f32) (w : FVec Ideal S1024x1024 .f32) (b : Fin 8) (s : Fin 4096) (d : Fin 1024) :
    Host.dotGeneral dot_S8x4096x1024_S1024x1024_S8x4096x1024_2_0_01_1_n_n none v w (ix3 b s d) = ∑ k : Fin 1024, v (ix3 b s k) * w (ix2 k d) := by
  pointwise

/-- One row per token. -/
theorem flat_at (v : FVec Ideal S8x4096x1024 .f32) (i : Fin 32768) (d : Fin 1024) :
    shapeCast S32768x1024 v shapeCasts_S8x4096x1024_S32768x1024 (ix2 i d) = v (ix3 ⟨i.val / 4096, by omega⟩ ⟨i.val % 4096, by omega⟩ d) := by
  pointwise

/-- The block's input plus the modulated merge, as the reference computes it. -/
def sumOf (A : Args) : FVec Ideal S8x4096x1024 .f32 :=
  addf A.x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] A.md slices_S8x6144_S8x1024_0_2048)))
      (Host.dotGeneral (φ₁ := .f32) (φ₂ := .f32) dot_S8x4096x1024_S1024x1024_S8x4096x1024_2_0_01_1_n_n none
        (addf (mulf (shapeCast S8x4096x1024 (extf .f32 A.ga bitsLt_bf16_f32) shapeCasts_S32768x1024_S8x4096x1024)
            (Host.dotGeneral dot_S8x4096x512_S512x1024_S8x4096x1024_2_0_01_1_n_n none (shapeCast S8x4096x512 (extf .f32 A.oa bitsLt_bf16_f32) shapeCasts_S32768x512_S8x4096x512) A.woa))
          (mulf (shapeCast S8x4096x1024 (extf .f32 A.gb bitsLt_bf16_f32) shapeCasts_S32768x1024_S8x4096x1024)
            (Host.dotGeneral dot_S8x4096x512_S512x1024_S8x4096x1024_2_0_01_1_n_n none (shapeCast S8x4096x512 (extf .f32 A.ob bitsLt_bf16_f32) shapeCasts_S32768x512_S8x4096x512) A.wob)))
        A.wout))

theorem sumOf_at (A : Args) (b : Fin 8) (s : Fin 4096) (d : Fin 1024) : sumOf A (ix3 b s d) = sumAt A b s d := by
  refine congrArg₂ (· + ·) rfl (congrArg₂ (· * ·) (mod_at _ _ _ _) ((out_at _ _ _ _ _).trans (Finset.sum_congr rfl fun k _ => congrArg (· * A.wout (ix2 k d)) ?_)))
  exact congrArg₂ (· + ·) (congrArg₂ (· * ·) (gate_at _ _ _ _) (half_at _ _ _ _ _)) (congrArg₂ (· * ·) (gate_at _ _ _ _) (half_at _ _ _ _ _))

/-- Its norm, modulated, as the reference computes it. -/
def normOf (X : FVec Ideal S8x4096x1024 .f32) (md : FVec Ideal S8x6144 .f32) (g : FVec Ideal S1024 .f32) : FVec Ideal S8x4096x1024 .f32 :=
  addf (mulf (mulf (mulf X (broadcastInDim S8x4096x1024 ![0, 1, 2] bcast_S8x4096x1_S8x4096x1024_0_1_2
      (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_))
        (broadcastInDim S8x4096x1 ![] bcast_S_S8x4096x1 (constant S_ .f32 0x44800000#32))) (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32))
      (broadcastInDim S8x1x1024 ![0, 2] bcast_S8x1024_S8x1x1024_0_2 (extractStridedSlice S8x1024 ![0, 4096] md slices_S8x6144_S8x1024_0_4096)))))
    (broadcastInDim S8x4096x1024 ![0, 1, 2] bcast_S8x1x1024_S8x4096x1024_0_1_2 (broadcastInDim S8x1x1024 ![0, 2] bcast_S8x1024_S8x1x1024_0_2 (extractStridedSlice S8x1024 ![0, 3072] md slices_S8x6144_S8x1024_0_3072)))

theorem normOf_at (X : FVec Ideal S8x4096x1024 .f32) (md : FVec Ideal S8x6144 .f32) (g : FVec Ideal S1024 .f32) (b : Fin 8) (s : Fin 4096) (d : Fin 1024) :
    normOf X md g (ix3 b s d) = Proj.nrm 1149239296#32 (fun x => X (ix3 b s x)) (fun x => g (ix1 x)) d * (1 + md (ix2 b ⟨4096 + d.val, by omega⟩)) + md (ix2 b ⟨3072 + d.val, by omega⟩) := by
  unfold normOf
  pointwise
  rfl

/-- The reference's first term is the specification's first result. -/
theorem result_eq (A : Args) : shapeCast S32768x1024 (sumOf A) shapeCasts_S8x4096x1024_S32768x1024 = result A := by
  funext (i : S32768x1024.Idx)
  obtain ⟨i, d, rfl⟩ : ∃ (p : Fin 32768) (d : Fin 1024), i = ix2 p d := ⟨i 0, i 1, eq_ix2 _⟩
  exact (flat_at _ i d).trans (sumOf_at A _ _ d)

/-- Its second is the second. -/
theorem normed_eq (A : Args) : shapeCast S32768x1024 (normOf (sumOf A) A.md A.gain) shapeCasts_S8x4096x1024_S32768x1024 = normed A := by
  funext (i : S32768x1024.Idx)
  obtain ⟨i, d, rfl⟩ : ∃ (p : Fin 32768) (d : Fin 1024), i = ix2 p d := ⟨i 0, i 1, eq_ix2 _⟩
  refine (flat_at _ i d).trans ((normOf_at _ _ _ _ _ d).trans ?_)
  simp only [sumOf_at]
  rfl

variable (m : (ℓ : Loc nD τ sig) → Buf (Elt Ideal) ℓ) (ρ : Dev nD → PrngReg)

/-- The arguments, read off the memory. -/
def argsOf (c : Dev nD) : Args where
  oa := m ((c.tc : Thread nD τ).loc main_arg0)
  ob := m ((c.tc : Thread nD τ).loc main_arg1)
  ga := m ((c.tc : Thread nD τ).loc main_arg2)
  gb := m ((c.tc : Thread nD τ).loc main_arg3)
  x := m ((c.tc : Thread nD τ).loc main_arg4)
  md := m ((c.tc : Thread nD τ).loc main_arg5)
  woa := m ((c.tc : Thread nD τ).loc main_arg6)
  wob := m ((c.tc : Thread nD τ).loc main_arg7)
  wout := m ((c.tc : Thread nD τ).loc main_arg8)
  gain := m ((c.tc : Thread nD τ).loc main_arg9)

/-- What a run leaves of the arguments: all fourteen as they were. -/
def Kept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)

set_option maxHeartbeats 2000000 in
/-- Every run of the reference ends with the specification's two results, its arguments unchanged. -/
theorem run : θ_run defs (onTc (τ := τ) (main (F := Ideal))) ⟨m, fun _ => 0, ρ⟩ fun r => ∀ c : Dev nD,
      r.2.mem ((c.tc : Thread nD τ).loc main_v42) = result (argsOf m c) ∧ r.2.mem ((c.tc : Thread nD τ).loc main_v43) = normed (argsOf m c) ∧ Kept m r c :=
  (θ_run defs _ _).mono (fun r h c => ⟨(h c).1.trans (result_eq (argsOf m c)), (h c).2.1.trans (normed_eq (argsOf m c)), (h c).2.2⟩) (Cert.Reference3Ideal.Value.run (F := Ideal) m ρ)

/-- The reference's frame: its arguments unchanged, its counters at zero. -/
theorem frame : θ_run defs (onTc (τ := τ) (main (F := Ideal))) ⟨m, fun _ => 0, ρ⟩ fun r => (∀ c : Dev nD, Kept m r c) ∧ r.2.sem = fun _ => 0 :=
  (θ_run defs _ _).mono (fun r h => ⟨fun c => (h c).2.2, sem_eq_zero_of_no_sems rfl r.2⟩) (run m ρ)

end Cert.Reference3Ideal.Merge

end
-- ==== Proof.Merge.Algebraic.lean ====
/-
  The idealized merge and its reference end with the same two results: each with the merge's of its arguments.
-/
module

public import proofs.«01_k».proof.Defs
public import proofs.«01_k».proof.Proof.Gen.Kernel3Ideal
public import proofs.«01_k».proof.Proof.Gen.Reference3Ideal
public import proofs.«01_k».proof.Proof.Merge.Array
public import proofs.«01_k».proof.Proof.Merge.Reference

@[expose] public section

noncomputable section

namespace Cert.Merge

open Idealize.ShloMosaic Idealize.SL.Sem

/-- Arguments that agree one by one agree. -/
theorem args_congr {oa oa' : _} {ob ob' : _} {ga ga' : _} {gb gb' : _} {x x' : _} {md md' : _} {woa woa' : _} {wob wob' : _} {wout wout' : _} {gain gain' : _}
    (h0 : oa' = oa) (h1 : ob' = ob) (h2 : ga' = ga) (h3 : gb' = gb) (h4 : x' = x) (h5 : md' = md) (h6 : woa' = woa) (h7 : wob' = wob) (h8 : wout' = wout) (h9 : gain' = gain) :
    Args.mk oa' ob' ga' gb' x' md' woa' wob' wout' gain' = Args.mk oa ob ga gb x md woa wob wout gain := by
  subst h0 h1 h2 h3 h4 h5 h6 h7 h8 h9; rfl

set_option maxHeartbeats 2000000 in
theorem algebraic : Cert.algebraic_Kernel3Ideal_Reference3Ideal (hKernel3Ideal := Cert.Kernel3Ideal.Gen.facts) (hReference3Ideal := Cert.Reference3Ideal.Gen.facts) := by
  intro m g m' g' _ hm
  refine ⟨fun c => result (Cert.Kernel3Ideal.Merge.argsOf m c), fun c => normed (Cert.Kernel3Ideal.Merge.argsOf m c), Cert.Kernel3Ideal.Merge.run m g, ?_⟩
  have e : ∀ c : Dev Cert.Kernel3Ideal.nD, Cert.Reference3Ideal.Merge.argsOf m' c = Cert.Kernel3Ideal.Merge.argsOf m c := fun c => by
    obtain ⟨h0, h1, h2, h3, h4, h5, h6, h7, h8, h9, _⟩ := hm c
    exact args_congr h0 h1 h2 h3 h4 h5 h6 h7 h8 h9
  refine (θ_run Cert.Reference3Ideal.defs _ _).mono (fun r h c => ?_) (Cert.Reference3Ideal.Merge.run m' g')
  exact ⟨(h c).1.trans (congrArg result (e c)), (h c).2.1.trans (congrArg normed (e c)), (h c).2.2⟩

end Cert.Merge

end
-- ==== Proof.Mod.Spec.lean ====
/-
  The modulation: the conditioning through `silu`, one product, and a bias, element by element.
-/
module

public import Idealize.ShloMosaic.Lib.Pointwise.Tactic
public import Idealize.ShloMosaic.Lib.Pointwise.Index

@[expose] public section

noncomputable section

namespace Cert.Mod

open Idealize.ShloMosaic

/-- The conditioning, the weight and the bias. -/
structure Args where
  cond : FVec Ideal ⟨2, ![8, 1024]⟩ .f32
  w : FVec Ideal ⟨2, ![1024, 6144]⟩ .f32
  bias : FVec Ideal ⟨1, ![6144]⟩ .f32

/-- `silu` of the conditioning of batch `b`, through column `j` of the weight, with its bias. -/
def modAt (A : Args) (b : Fin 8) (j : Fin 6144) : EReal :=
  (∑ k : Fin 1024, A.cond (ix2 b k) * Ideal.logistic (A.cond (ix2 b k)) * A.w (ix2 k j)) + A.bias (ix1 j)

/-- The whole array. -/
def result (A : Args) : FVec Ideal ⟨2, ![8, 6144]⟩ .f32 := fun i => modAt A (i 0) (i 1)

end Cert.Mod

end
-- ==== Proof.Mod.Array.lean ====
/-
  The modulation as a whole array: what a point stores, at an element, and the six blocks at their places.
-/
module

public import proofs.«01_k».proof.Proof.Gen.Kernel4Ideal.Value
public import proofs.«01_k».proof.Proof.Mod.Spec
public import Idealize.ShloMosaic.Lib.Pipeline.Value
public import Idealize.ShloMosaic.Lib.Pipeline.Covers
public import Idealize.ShloMosaic.Lib.Pipeline.ValueKit.Basic
public import Idealize.ShloMosaic.Lib.Pipeline.ValueKit.Geometry
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.Kernel4Ideal.Mod

open Cert.Kernel4Ideal Cert.Kernel4Ideal.Gen Cert.Mod
open Idealize.ShloMosaic Idealize.ShloMosaic.TcCoe Idealize.ShloMosaic.StableHlo

/-! ## What a point stores -/

theorem zero2 : (![0, 0] : Fin 2 → Nat) = fun _ => 0 := by
  funext a
  fin_cases a <;> rfl

/-- The stored block is the body's value of the three blocks. -/
theorem out_eq (x0 : Vec Ideal S8x1024 .f32) (x1 : Vec Ideal S1024x1024 .f32) (x2 : Vec Ideal S1x1024 .f32) : out0_3 x0 x1 x2 = k0_pay1 x0 x1 x2 := by
  have h0 : View.ld x0 r0_0 = x0 := View.ld_unit_zero zero2 _ x0
  have h1 : View.ld x1 r0_1 = x1 := View.ld_unit_zero zero2 _ x1
  have h2 : View.ld x2 r0_2 = x2 := View.ld_unit_zero zero2 _ x2
  unfold out0_3
  rw [h0, h1, h2]
  exact View.canon_unit_zero (S := S8x1024) zero2 _ _

/-- It, at an element. -/
theorem pay_at (x0 : Vec Ideal S8x1024 .f32) (x1 : Vec Ideal S1024x1024 .f32) (x2 : Vec Ideal S1x1024 .f32) (b : Fin 8) (d : Fin 1024) :
    k0_pay1 x0 x1 x2 (ix2 b d) = (∑ k : Fin 1024, x0 (ix2 b k) * Ideal.logistic (x0 (ix2 b k)) * x1 (ix2 k d)) + x2 (ix2 0 d) := by
  unfold k0_pay1
  pointwise

/-! ## The points' blocks -/

variable (m : (ℓ : Loc nD τ sig) → Buf (Elt Ideal) ℓ) (ρ : Dev nD → PrngReg) (c : Dev nD) (t : Fin cfg0.N)

/-- The call's arguments. -/
def argsOf : Args where
  cond := m ((c.tc : Thread nD τ).loc main_arg0)
  w := m ((c.tc : Thread nD τ).loc main_arg1)
  bias := m ((c.tc : Thread nD τ).loc main_arg2)

theorem V_v0 : V m c main_v0 = (shapeCast S1x6144 ((m ((c.tc : Thread nD τ).loc main_arg2)) : FVec Ideal S6144 .f32) shapeCasts_S6144_S1x6144 : FVec Ideal S1x6144 .f32) := by
  show after hostOps0 (fun b => m (c, b)) (Proc.devRef .tc main_v0) = _
  simp only [hostOps0]
  after_results_simp
  rfl

/-- The point's place in the grid, and the place in the whole row of its column `d`. -/
abbrev pt : Fin 6 := grid0.coords t 0
def col (d : Fin 1024) : Fin 6144 := ⟨(pt t).val * 1024 + d.val, by have := (pt t).isLt; omega⟩

/-- A point's place as a word. -/
theorem place_word : (BitVec.ofNat 32 (pt t).val).toNat = (pt t).val := by
  rw [BitVec.toNat_ofNat, Nat.mod_eq_of_lt (by have := (pt t).isLt; omega)]

theorem iblk0_at (y : S8x1024.Idx) : (iblk m c 0 t : Vec Ideal S8x1024 .f32) y = (V m c main_arg0 : FVec Ideal S8x1024 .f32) y :=
  congrArg (V m c main_arg0 : FVec Ideal S8x1024 .f32) (funext fun a => Fin.ext ((Pipeline.Window.rect_emb_val (cfg0.win 0) t y a).trans (by
    fin_cases a
    · exact Nat.zero_add _
    · exact Nat.zero_add _)))
theorem iblk1_at (k d : Fin 1024) : (iblk m c 1 t : Vec Ideal S1024x1024 .f32) (ix2 k d) = (V m c main_arg1 : FVec Ideal S1024x6144 .f32) (ix2 k (col t d)) := by
  refine congrArg (V m c main_arg1 : FVec Ideal S1024x6144 .f32) (funext fun a => Fin.ext ?_)
  refine (Pipeline.Window.rect_emb_val (cfg0.win 1) t (ix2 k d) a).trans ?_
  fin_cases a
  · show 0 * 1024 + k.val = k.val
    omega
  · show (BitVec.ofNat 32 (pt t).val).toNat * 1024 + d.val = (pt t).val * 1024 + d.val
    rw [place_word]
theorem iblk2_at (d : Fin 1024) : (iblk m c 2 t : Vec Ideal S1x1024 .f32) (ix2 0 d) = (V m c main_v0 : FVec Ideal S1x6144 .f32) (ix2 0 (col t d)) := by
  refine congrArg (V m c main_v0 : FVec Ideal S1x6144 .f32) (funext fun a => Fin.ext ?_)
  refine (Pipeline.Window.rect_emb_val (cfg0.win 2) t (ix2 0 d) a).trans ?_
  fin_cases a
  · rfl
  · show (BitVec.ofNat 32 (pt t).val).toNat * 1024 + d.val = (pt t).val * 1024 + d.val
    rw [place_word]

theorem bias_at (v : FVec Ideal S6144 .f32) (j : Fin 6144) : shapeCast S1x6144 v shapeCasts_S6144_S1x6144 (ix2 0 j) = v (ix1 j) := by
  pointwise

/-- The stored block, at an element, is the modulation's at its place. -/
theorem stored_at (b : Fin 8) (d : Fin 1024) : out0_3 (iblk m c 0 t) (iblk m c 1 t) (iblk m c 2 t) (ix2 b d) = modAt (argsOf m c) b (col t d) := by
  have e0 (k : Fin 1024) : (iblk m c 0 t : Vec Ideal S8x1024 .f32) (ix2 b k) = (argsOf m c).cond (ix2 b k) := (iblk0_at m c t _).trans (congrFun (V_main_arg0 m c) _)
  refine (congrFun (out_eq _ _ _) _).trans ((pay_at _ _ _ b d).trans (congrArg₂ (· + ·) (Finset.sum_congr rfl fun k _ => congrArg₂ (· * ·) ?_ ?_) ?_))
  · exact congrArg (fun x => x * Ideal.logistic x) (e0 k)
  · exact (iblk1_at m c t k d).trans (congrFun (V_main_arg1 m c) _)
  · exact (iblk2_at m c t d).trans ((congrFun (V_v0 m c) _).trans (bias_at _ _))

/-! ## From the blocks to the whole array -/

theorem flushed_eq : (dats m 0 c).flushed 3 t = ((cfg0.win 3).blk t).view.read (Elt Ideal) (result (argsOf m c)) := by
  refine (Value.flushed3 m c t).trans (funext fun (y : S8x1024.Idx) => ?_)
  obtain ⟨b, d, rfl⟩ : ∃ (b : Fin 8) (d : Fin 1024), y = ix2 b d := ⟨y 0, y 1, eq_ix2 _⟩
  refine (stored_at m c t b d).trans ?_
  have e : ((cfg0.win 3).rect t).emb (ix2 b d) = (ix2 b (col t d) : S8x6144.Idx) := funext fun a => Fin.ext ((Pipeline.Window.rect_emb_val (cfg0.win 3) t (ix2 b d) a).trans (by
    fin_cases a
    · show 0 * 8 + b.val = b.val
      omega
    · show (BitVec.ofNat 32 (pt t).val).toNat * 1024 + d.val = (pt t).val * 1024 + d.val
      rw [place_word]))
  exact (congrArg (result (argsOf m c)) e).symm

/-- Every place of the grid is a point's. -/
theorem point_of (p : Fin 6) : ∃ t : Fin cfg0.N, (pt t).val = p.val := by
  obtain ⟨t, ht⟩ := grid0.coords_surjective (fun a => Fin.cast (by fin_cases a; rfl) p)
  exact ⟨t, congrArg (fun x : grid0.Coords => (x 0).val) ht⟩

theorem cover (i : S8x6144.Idx) : ∃ t : Fin cfg0.N, (cfg0.win 3).flush t = true ∧ i ∈ ((cfg0.win 3).blk t).view.set := by
  have h0 : (i 0).val < 8 := (i 0).isLt
  have h1 : (i 1).val < 6144 := (i 1).isLt
  obtain ⟨t, ht⟩ := point_of ⟨(i 1).val / 1024, by omega⟩
  have e : (pt t).val = (i 1).val / 1024 := ht
  refine ⟨t, flush0_3 t, (congrArg (i ∈ ·) (View.set_slice_whole main_v1 ((cfg0.win 3).rect t))).mpr ((Pipeline.Window.mem_rect_iff (cfg0.win 3) t i).mpr fun a => ?_)⟩
  fin_cases a
  · show 0 * 8 ≤ (i 0).val ∧ (i 0).val < 0 * 8 + 8
    omega
  · show (BitVec.ofNat 32 (pt t).val).toNat * 1024 ≤ (i 1).val ∧ (i 1).val < (BitVec.ofNat 32 (pt t).val).toNat * 1024 + 1024
    rw [place_word, e]
    omega

theorem final : (dats m 0 c).arrAt 3 cfg0.N = result (argsOf m c) :=
  (dats m 0 c).arrAt_eq_of_cover 3 (result (argsOf m c)) (fun t _ => flushed_eq m c t) cover

/-- Every run ends with the result as specified, the arguments unchanged. -/
theorem run : θ_run defs (onTc (τ := τ) (main (F := Ideal))) ⟨m, fun _ => 0, ρ⟩ (fun r => ∀ c : Dev nD,
      r.2.mem ((c.tc : Thread nD τ).loc main_v1) = result (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Cert.Kernel4Ideal.Value.run_blocks m ρ)

end Cert.Kernel4Ideal.Mod

end
-- ==== Proof.Mod.Reference.lean ====
/-
  The reference's modulation, element by element: its result is the specification's.
-/
module

public import proofs.«01_k».proof.Proof.Gen.Reference4Ideal
public import proofs.«01_k».proof.Proof.Gen.Reference4Ideal.Run
public import proofs.«01_k».proof.Proof.Mod.Spec
public import Idealize.ShloMosaic.Lib.Quiescent
public import Idealize.ShloMosaic.Lib.Pointwise.Tactic
public import Idealize.ShloMosaic.Lib.Pointwise.Sums
public import Idealize.ShloMosaic.Lib.Pointwise.Contract

@[expose] public section

set_option maxRecDepth 16384

noncomputable section

namespace Cert.Reference4Ideal.Mod

open Idealize.ShloMosaic Idealize.ShloMosaic.TcCoe Cert.Mod
open Cert.Reference4Ideal Cert.Reference4Ideal.Gen Cert.Reference4Ideal.Value

/-- The reference's term is the specification's result. -/
theorem result_eq (A : Args) :
    addf (Host.dotGeneral (φ₁ := .f32) (φ₂ := .f32) dot_S8x1024_S1024x6144_S8x6144_1_0_0_1_n_n none
        (mulf A.cond (Host.divf (broadcastInDim S8x1024 ![] bcast_S_S8x1024 (constant S_ .f32 0x3F800000#32)) (addf (broadcastInDim S8x1024 ![] bcast_S_S8x1024 (constant S_ .f32 0x3F800000#32)) (Host.exp (Host.negf A.cond))))) A.w)
      (broadcastInDim S8x6144 ![0, 1] bcast_S1x6144_S8x6144_0_1 (broadcastInDim S1x6144 ![1] bcast_S6144_S1x6144_1 A.bias)) = result A := by
  funext i
  idx_vars i
  pointwise
  rfl

variable (m : (ℓ : Loc nD τ sig) → Buf (Elt Ideal) ℓ) (ρ : Dev nD → PrngReg)

/-- The arguments, read off the memory. -/
def argsOf (c : Dev nD) : Args where
  cond := m ((c.tc : Thread nD τ).loc main_arg0)
  w := m ((c.tc : Thread nD τ).loc main_arg1)
  bias := m ((c.tc : Thread nD τ).loc main_arg2)

/-- What a run leaves of the arguments: all three as they were. -/
def Kept (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

/-- Every run of the reference ends with the specification's result, its arguments unchanged. -/
theorem run : θ_run defs (onTc (τ := τ) (main (F := Ideal))) ⟨m, fun _ => 0, ρ⟩ fun r => ∀ c : Dev nD,
      r.2.mem ((c.tc : Thread nD τ).loc main_v4) = result (argsOf m c) ∧ Kept m r c :=
  (θ_run defs _ _).mono (fun r h c => ⟨(h c).1.trans (result_eq (argsOf m c)), (h c).2⟩) (Cert.Reference4Ideal.Value.run (F := Ideal) m ρ)

/-- The reference's frame: its arguments unchanged, its counters at zero. -/
theorem frame : θ_run defs (onTc (τ := τ) (main (F := Ideal))) ⟨m, fun _ => 0, ρ⟩ fun r => (∀ c : Dev nD, Kept m r c) ∧ r.2.sem = fun _ => 0 :=
  (θ_run defs _ _).mono (fun r h => ⟨fun c => (h c).2, sem_eq_zero_of_no_sems rfl r.2⟩) (run m ρ)

end Cert.Reference4Ideal.Mod

end
-- ==== Proof.Mod.Algebraic.lean ====
/-
  The idealized modulation and its reference end with the same array.
-/
module

public import proofs.«01_k».proof.Defs
public import proofs.«01_k».proof.Proof.Gen.Kernel4Ideal
public import proofs.«01_k».proof.Proof.Gen.Reference4Ideal
public import proofs.«01_k».proof.Proof.Mod.Array
public import proofs.«01_k».proof.Proof.Mod.Reference

@[expose] public section

noncomputable section

namespace Cert.Mod

open Idealize.ShloMosaic Idealize.SL.Sem

/-- Arguments that agree one by one agree. -/
theorem args_congr {p p' : _} {w w' : _} {b b' : _} (h0 : p' = p) (h1 : w' = w) (h2 : b' = b) : Args.mk p' w' b' = Args.mk p w b := by
  subst h0 h1 h2; rfl

theorem algebraic : Cert.algebraic_Kernel4Ideal_Reference4Ideal (hKernel4Ideal := Cert.Kernel4Ideal.Gen.facts) (hReference4Ideal := Cert.Reference4Ideal.Gen.facts) := by
  intro m g m' g' _ hm
  refine ⟨fun c => result (Cert.Kernel4Ideal.Mod.argsOf m c), Cert.Kernel4Ideal.Mod.run m g, ?_⟩
  have e : ∀ c : Dev Cert.Kernel4Ideal.nD, Cert.Reference4Ideal.Mod.argsOf m' c = Cert.Kernel4Ideal.Mod.argsOf m c := fun c => by
    obtain ⟨h0, h1, h2⟩ := hm c
    exact args_congr h0 h1 h2
  refine (θ_run Cert.Reference4Ideal.defs _ _).mono (fun r h c => ?_) (Cert.Reference4Ideal.Mod.run m' g')
  exact ⟨(h c).1.trans (congrArg result (e c)), (h c).2⟩

end Cert.Mod

end
-- ==== Proof.lean ====
/-
  The proof of `Cert.Claim`: the expert-mixture call, the input-projection call, the merge call and the modulation call of the
  layer, each with its frames, its idealization, and its results against the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_tables_in_range
public import proofs.«01_k».proof.Proof.Moe.KernelOk
public import proofs.«01_k».proof.Proof.Moe.Algebraic
public import proofs.«01_k».proof.Proof.Proj.Kernel
public import proofs.«01_k».proof.Proof.Proj.Algebraic
public import proofs.«01_k».proof.Proof.Merge.Algebraic
public import proofs.«01_k».proof.Proof.Mod.Algebraic
public import Idealize.ShloMosaic.Adequacy
public import Idealize.ShloMosaic.Init

@[expose] public section

noncomputable section

namespace Cert.Proof

open Idealize.ShloMosaic Idealize.SL.Sem Cert.Kernel

/-- Every claim, for the mixture call, the input projection call, the merge call and the modulation call: the two programs' frames and the reference's, the two
    programs' texts agreeing, and the idealized program's results against the reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_tables_in_range.Gen.facts,
  fun m g hp => Cert.Kernel.Moe.frame m g (Cert.Kernel.Moe.ok_of_inRange m (Cert.Moe.inRange_of_pre _ _ _ _ _ _ _ (hp 0))),
  fun m g hp => Cert.KernelIdeal.Moe.frame m g (Cert.KernelIdeal.Moe.ok_of_inRange m (Cert.Moe.inRange_of_pre _ _ _ _ _ _ _ (hp 0))),
  fun m g _ => Cert.ReferenceIdeal.Moe.frame m g,
  fun m g _ => Cert.ReferenceIdeal.Moe.frame m g,
  fun m g _ => Cert.Kernel2.Proj.frame m g,
  fun m g _ => Cert.Kernel2Ideal.Proj.frame m g,
  fun m g _ => Cert.Reference2Ideal.Proj.frame m g,
  fun m g _ => Cert.Kernel3.Gen.frame m g,
  fun m g _ => Cert.Kernel3Ideal.Gen.frame m g,
  fun m g _ => Cert.Reference3Ideal.Merge.frame m g,
  fun m g _ => Cert.Kernel4.Gen.frame m g,
  fun m g _ => Cert.Kernel4Ideal.Gen.frame m g,
  fun m g _ => Cert.Reference4Ideal.Mod.frame m g,
  trivial,
  fun m g m' g' hp hm => Cert.Moe.algebraic m g m' g' (Cert.Moe.inRange_of_pre _ _ _ _ _ _ _ (hp 0)) hm,
  trivial,
  Cert.Proj.algebraic,
  trivial,
  Cert.Merge.algebraic,
  trivial,
  Cert.Mod.algebraic⟩

end Cert.Proof

end
